-- ==== Defs.lean ====
def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6)) (m ((c.tc : Thread Cert.AttnIdeal.nD Cert.AttnIdeal.τ).loc Cert.AttnIdeal.main_arg7))).2.2.2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6)) (m ((c.tc : Thread Cert.AttnRefIdeal.nD Cert.AttnRefIdeal.τ).loc Cert.AttnRefIdeal.main_arg7))).2.2.2.2.2 = (fun _ => 1#1)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6)
      ∧ r.2.mem ((c.tc : Thread Cert.Attn.nD Cert.Attn.τ).loc Cert.Attn.main_arg7) = m ((c.tc : Thread Cert.Attn.nD Cert.Attn.τ).loc Cert.Attn.main_arg7))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
      ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6)
      ∧ r.2.mem ((c.tc : Thread Cert.AttnRefIdeal.nD Cert.AttnRefIdeal.τ).loc Cert.AttnRefIdeal.main_arg7) = m ((c.tc : Thread Cert.AttnRefIdeal.nD Cert.AttnRefIdeal.τ).loc Cert.AttnRefIdeal.main_arg7))
      ∧ r.2.sem = fun _ => 0)

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v9)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v9) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v35) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v18)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v18) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v61) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)
      ∧ m' ((c.tc : Thread Cert.AttnRefIdeal.nD Cert.AttnRefIdeal.τ).loc Cert.AttnRefIdeal.main_arg7) = m ((c.tc : Thread Cert.AttnIdeal.nD Cert.AttnIdeal.τ).loc Cert.AttnIdeal.main_arg7)) →
    ∃ (v0 : (c : Dev Cert.AttnIdeal.nD) → Buf (Elt Ideal) ((c.tc : Thread Cert.AttnIdeal.nD Cert.AttnIdeal.τ).loc Cert.AttnIdeal.main_v62_0)) (v1 : (c : Dev Cert.AttnIdeal.nD) → Buf (Elt Ideal) ((c.tc : Thread Cert.AttnIdeal.nD Cert.AttnIdeal.τ).loc Cert.AttnIdeal.main_v62_1)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v62_0) = v0 c
          ∧ r.2.mem ((c.tc : Thread Cert.AttnIdeal.nD Cert.AttnIdeal.τ).loc Cert.AttnIdeal.main_v62_1) = v1 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6)
          ∧ r.2.mem ((c.tc : Thread Cert.AttnIdeal.nD Cert.AttnIdeal.τ).loc Cert.AttnIdeal.main_arg7) = m ((c.tc : Thread Cert.AttnIdeal.nD Cert.AttnIdeal.τ).loc Cert.AttnIdeal.main_arg7))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v95) = v0 c
          ∧ r.2.mem ((c.tc : Thread Cert.AttnRefIdeal.nD Cert.AttnRefIdeal.τ).loc Cert.AttnRefIdeal.main_v96) = v1 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6)
          ∧ r.2.mem ((c.tc : Thread Cert.AttnRefIdeal.nD Cert.AttnRefIdeal.τ).loc Cert.AttnRefIdeal.main_arg7) = m' ((c.tc : Thread Cert.AttnRefIdeal.nD Cert.AttnRefIdeal.τ).loc Cert.AttnRefIdeal.main_arg7))

def Claim : Prop :=
  ∃ (hMlp : Cert.Mlp.Facts) (hMlpIdeal : Cert.MlpIdeal.Facts) (hMlpRefIdeal : Cert.MlpRefIdeal.Facts) (hMix : Cert.Mix.Facts) (hMixIdeal : Cert.MixIdeal.Facts) (hMixRefIdeal : Cert.MixRefIdeal.Facts) (hAttn : Cert.Attn.Facts) (hAttnIdeal : Cert.AttnIdeal.Facts) (hAttnRefIdeal : Cert.AttnRefIdeal.Facts) (hPre_finite : Cert.Pre_finite.Facts),
    quiescent_Mlp (hMlp := hMlp)
    ∧ quiescent_MlpIdeal (hMlpIdeal := hMlpIdeal)
    ∧ quiescent_MlpRefIdeal (hMlpRefIdeal := hMlpRefIdeal)
    ∧ quiescent_Mix (hMix := hMix)
    ∧ quiescent_MixIdeal (hMixIdeal := hMixIdeal)
    ∧ quiescent_MixRefIdeal (hMixRefIdeal := hMixRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ preserves_Mlp_MlpIdeal
    ∧ algebraic_MlpIdeal_MlpRefIdeal (hMlpIdeal := hMlpIdeal) (hMlpRefIdeal := hMlpRefIdeal)
    ∧ preserves_Mix_MixIdeal
    ∧ algebraic_MixIdeal_MixRefIdeal (hMixIdeal := hMixIdeal) (hMixRefIdeal := hMixRefIdeal)
    ∧ preserves_Attn_AttnIdeal
    ∧ algebraic_AttnIdeal_AttnRefIdeal_pre_finite (hAttnIdeal := hAttnIdeal) (hAttnRefIdeal := hAttnRefIdeal) (hPre_finite := hPre_finite)
-- ==== Pre_finite.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S_ : Shape := ⟨0, ![]⟩

class Facts : Prop where
  bcast_S_S32x2048x8x64 : S_.BroadcastsInDim S32x2048x8x64 (![] : Fin 0 → Fin S32x2048x8x64.rank)
  bcast_S_S32x2048x8x32 : S_.BroadcastsInDim S32x2048x8x32 (![] : Fin 0 → Fin S32x2048x8x32.rank)
  bcast_S_S32x2048x32 : S_.BroadcastsInDim S32x2048x32 (![] : Fin 0 → Fin S32x2048x32.rank)

variable [Facts]

def fn {F : FTy → Type} [FloatOps F] (main_arg0 : FVec F S32x2048x8x64 .f32) (main_arg1 : FVec F S32x2048x8x64 .f32) (main_arg2 : FVec F S32x2048x8x64 .f32) (main_arg3 : FVec F S32x2048x8x64 .f32) (main_arg4 : FVec F S32x2048x8x32 .f32) (main_arg5 : FVec F S32x2048x8x64 .f32) (main_arg6 : FVec F S32x2048x32 .f32) (main_arg7 : FVec F S32x2048x8x64 .f32) : IVec S32x2048x8x64 1 × IVec S32x2048x8x64 1 × IVec S32x2048x8x64 1 × IVec S32x2048x8x32 1 × IVec S32x2048x8x64 1 × IVec S32x2048x32 1 :=
  let main_v0 : FVec F S32x2048x8x64 .f32 := Host.absf main_arg0
  let main_cst : FVec F S_ .f32 := constant S_ .f32 0x7F800000#32
  let main_v1 : FVec F S32x2048x8x64 .f32 := broadcastInDim S32x2048x8x64 ![] bcast_S_S32x2048x8x64 main_cst
  let main_v2 : IVec S32x2048x8x64 1 := cmpf .olt main_v0 main_v1
  let main_v3 : FVec F S32x2048x8x64 .f32 := Host.absf main_arg1
  let main_cst_0 : FVec F S_ .f32 := constant S_ .f32 0x7F800000#32
  let main_v4 : FVec F S32x2048x8x64 .f32 := broadcastInDim S32x2048x8x64 ![] bcast_S_S32x2048x8x64 main_cst_0
  let main_v5 : IVec S32x2048x8x64 1 := cmpf .olt main_v3 main_v4
  let main_v6 : FVec F S32x2048x8x64 .f32 := Host.absf main_arg3
  let main_cst_1 : FVec F S_ .f32 := constant S_ .f32 0x7F800000#32
  let main_v7 : FVec F S32x2048x8x64 .f32 := broadcastInDim S32x2048x8x64 ![] bcast_S_S32x2048x8x64 main_cst_1
  let main_v8 : IVec S32x2048x8x64 1 := cmpf .olt main_v6 main_v7
  let main_v9 : FVec F S32x2048x8x32 .f32 := Host.absf main_arg4
  let main_cst_2 : FVec F S_ .f32 := constant S_ .f32 0x7F800000#32
  let main_v10 : FVec F S32x2048x8x32 .f32 := broadcastInDim S32x2048x8x32 ![] bcast_S_S32x2048x8x32 main_cst_2
  let main_v11 : IVec S32x2048x8x32 1 := cmpf .olt main_v9 main_v10
  let main_v12 : FVec F S32x2048x8x64 .f32 := Host.absf main_arg5
  let main_cst_3 : FVec F S_ .f32 := constant S_ .f32 0x7F800000#32
  let main_v13 : FVec F S32x2048x8x64 .f32 := broadcastInDim S32x2048x8x64 ![] bcast_S_S32x2048x8x64 main_cst_3
  let main_v14 : IVec S32x2048x8x64 1 := cmpf .olt main_v12 main_v13
  let main_v15 : FVec F S32x2048x32 .f32 := Host.absf main_arg6
  let main_cst_4 : FVec F S_ .f32 := constant S_ .f32 0x7F800000#32
  let main_v16 : FVec F S32x2048x32 .f32 := broadcastInDim S32x2048x32 ![] bcast_S_S32x2048x32 main_cst_4
  let main_v17 : IVec S32x2048x32 1 := cmpf .olt main_v15 main_v16
  (main_v2, main_v5, main_v8, main_v11, main_v14, main_v17)
-- ==== Mlp.lean ====
abbrev S32x2048x1024 : Shape := ⟨3, ![32, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S65536x1024 : Shape := ⟨2, ![65536, 1024]⟩
abbrev S1024 : Shape := ⟨1, ![1024]⟩
abbrev S1024x4096 : Shape := ⟨2, ![1024, 4096]⟩
abbrev S4096x1024 : Shape := ⟨2, ![4096, 1024]⟩
abbrev S1024x1024 : Shape := ⟨2, ![1024, 1024]⟩
abbrev S256x1024 : Shape := ⟨2, ![256, 1024]⟩
abbrev S256 : Shape := ⟨1, ![256]⟩
abbrev S256x1 : Shape := ⟨2, ![256, 1]⟩
abbrev S256x4096 : Shape := ⟨2, ![256, 4096]⟩

abbrev nBuf : Space → Nat
  | .hbm => 15
  | .vmem => 8
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S65536x1024, .f32⟩
  | .hbm, ⟨6, _⟩ => ⟨S1024, .f32⟩
  | .hbm, ⟨7, _⟩ => ⟨S1x1024, .f32⟩
  | .hbm, ⟨8, _⟩ => ⟨S1024x4096, .f32⟩
  | .hbm, ⟨9, _⟩ => ⟨S1024x4096, .bf16⟩
  | .hbm, ⟨10, _⟩ => ⟨S4096x1024, .f32⟩
  | .hbm, ⟨11, _⟩ => ⟨S4096x1024, .bf16⟩
  | .hbm, ⟨12, _⟩ => ⟨S1024, .f32⟩
  | .hbm, ⟨13, _⟩ => ⟨S1x1024, .f32⟩
  | .hbm, ⟨14, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S32x2048x1024 : Shape := ⟨3, ![32, 2048, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4096 : Shape := ⟨2, ![1024, 4096]⟩
abbrev S32x2048x4096 : Shape := ⟨3, ![32, 2048, 4096]⟩
abbrev S4096x1024 : Shape := ⟨2, ![4096, 1024]⟩
abbrev S65536x1024 : Shape := ⟨2, ![65536, 1024]⟩

abbrev nBuf : Space → Nat
  | .hbm => 49
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S1x1024, .f32⟩
  | .hbm, ⟨2, _⟩ => ⟨S1x1024x4096, .f32⟩
  | .hbm, ⟨3, _⟩ => ⟨S1x4096x1024, .f32⟩
  | .hbm, ⟨4, _⟩ => ⟨S1x1024, .f32⟩
  | .hbm, ⟨5, _⟩ => ⟨S1024, .f32⟩
  | .hbm, ⟨6, _⟩ => ⟨S32x2048x1024, .f32⟩
  | .hbm, ⟨7, _⟩ => ⟨S_, .f32⟩
  | .hbm, ⟨8, _⟩ => ⟨S32x2048, .f32⟩
  | .hbm, ⟨9, _⟩ => ⟨S32x2048x1, .f32⟩
  | .hbm, ⟨10, _⟩ => ⟨S_, .f32⟩
  | .hbm, ⟨11, _⟩ => ⟨S32x2048x1, .f32⟩
  | .hbm, ⟨12, _⟩ => ⟨S32x2048x1, .f32⟩
  | .hbm, ⟨13, _⟩ => ⟨S_, .f32⟩
  | .hbm, ⟨14, _⟩ => ⟨S32x2048x1, .f32⟩
  | .hbm, ⟨15, _⟩ => ⟨S32x2048x1, .f32⟩
  | .hbm, ⟨16, _⟩ => ⟨S32x2048x1, .f32⟩
  | .hbm, ⟨17, _⟩ => ⟨S32x2048x1024, .f32⟩
  | .hbm, ⟨18, _⟩ => ⟨S32x2048x1024, .f32⟩
  | .hbm, ⟨19, _⟩ => ⟨S1x1x1024, .f32⟩
  | .hbm, ⟨20, _⟩ => ⟨S32x2048x1024, .f32⟩
  | .hbm, ⟨21, _⟩ => ⟨S32x2048x1024, .f32⟩
  | .hbm, ⟨22, _⟩ => ⟨S1024x4096, .f32⟩
  | .hbm, ⟨23, _⟩ => ⟨S32x2048x4096, .f32⟩
  | .hbm, ⟨24, _⟩ => ⟨S_, .f32⟩
  | .hbm, ⟨25, _⟩ => ⟨S32x2048x4096, .f32⟩
  | .hbm, ⟨26, _⟩ => ⟨S32x2048x4096, .f32⟩
  | .hbm, ⟨27, _⟩ => ⟨S32x2048x4096, .f32⟩
  | .hbm, ⟨28, _⟩ => ⟨S4096x1024, .f32⟩
  | .hbm, ⟨29, _⟩ => ⟨S32x2048x1024, .f32⟩
  | .hbm, ⟨30, _⟩ => ⟨S1024, .f32⟩
  | .hbm, ⟨31, _⟩ => ⟨S32x2048x1024, .f32⟩
  | .hbm, ⟨32, _⟩ => ⟨S_, .f32⟩
  | .hbm, ⟨33, _⟩ => ⟨S32x2048, .f32⟩
  | .hbm, ⟨34, _⟩ => ⟨S32x2048x1, .f32⟩
  | .hbm, ⟨35, _⟩ => ⟨S_, .f32⟩
  | .hbm, ⟨36, _⟩ => ⟨S32x2048x1, .f32⟩
  | .hbm, ⟨37, _⟩ => ⟨S32x2048x1, .f32⟩
  | .hbm, ⟨38, _⟩ => ⟨S_, .f32⟩
  | .hbm, ⟨39, _⟩ => ⟨S32x2048x1, .f32⟩
  | .hbm, ⟨40, _⟩ => ⟨S32x2048x1, .f32⟩
  | .hbm, ⟨41, _⟩ => ⟨S32x2048x1, .f32⟩
  | .hbm, ⟨42, _⟩ => ⟨S32x2048x1024, .f32⟩
  | .hbm, ⟨43, _⟩ => ⟨S32x2048x1024, .f32⟩
  | .hbm, ⟨44, _⟩ => ⟨S1x1x1024, .f32⟩
  | .hbm, ⟨45, _⟩ => ⟨S32x2048x1024, .f32⟩
  | .hbm, ⟨46, _⟩ => ⟨S32x2048x1024, .f32⟩
  | .hbm, ⟨47, _⟩ => ⟨S32x2048x1024, .f32⟩
  | .hbm, ⟨48, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_cst : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩

abbrev nD : Nat := 1
abbrev τ : Topo := Topo.v7x

variable {F : FTy → Type} [FloatOps F]
-- ==== Mix.lean ====
abbrev S32x2048x1024 : Shape := ⟨3, ![32, 2048, 1024]⟩
abbrev S32x2048x512 : Shape := ⟨3, ![32, 2048, 512]⟩
abbrev S1x1024 : Shape := ⟨2, ![1, 1024]⟩
abbrev S1x1024x4256 : Shape := ⟨3, ![1, 1024, 4256]⟩
abbrev S1x2048 : Shape := ⟨2, ![1, 2048]⟩
abbrev S1x512x1024 : Shape := ⟨3, ![1, 512, 1024]⟩
abbrev S1x1024x1024 : Shape := ⟨3, ![1, 1024, 1024]⟩
abbrev S65536x1024 : Shape := ⟨2, ![65536, 1024]⟩
abbrev S1024x4256 : Shape := ⟨2, ![1024, 4256]⟩
abbrev S1024x2048 : Shape := ⟨2, ![1024, 2048]⟩
abbrev S65536x512 : Shape := ⟨2, ![65536, 512]⟩
abbrev S1024 : Shape := ⟨1, ![1024]⟩
abbrev S2048 : Shape := ⟨1, ![2048]⟩
abbrev S512x1024 : Shape := ⟨2, ![512, 1024]⟩
abbrev S1024x1024 : Shape := ⟨2, ![1024, 1024]⟩
abbrev S1024x512 : Shape := ⟨2, ![1024, 512]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩
abbrev S256x512 : Shape := ⟨2, ![256, 512]⟩

abbrev nBuf : Space → Nat
  | .hbm => 29
  | .vmem => 15
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024, .f32⟩
  | .hbm, ⟨4, _⟩ => ⟨S1x1024x4256, .f32⟩
  | .hbm, ⟨5, _⟩ => ⟨S1x2048, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S65536x1024, .f32⟩
  | .hbm, ⟨11, _⟩ => ⟨S1024x4256, .f32⟩
  | .hbm, ⟨12, _⟩ => ⟨S1024x2048, .f32⟩
  | .hbm, ⟨13, _⟩ => ⟨S1024x2048, .bf16⟩
  | .hbm, ⟨14, _⟩ => ⟨S65536x512, .bf16⟩
  | .hbm, ⟨15, _⟩ => ⟨S65536x512, .bf16⟩
  | .hbm, ⟨16, _⟩ => ⟨S1024, .f32⟩
  | .hbm, ⟨17, _⟩ => ⟨S1x1024, .f32⟩
  | .hbm, ⟨18, _⟩ => ⟨S2048, .f32⟩
  | .hbm, ⟨19, _⟩ => ⟨S1x2048, .f32⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1024x1024, .f32⟩
  | .hbm, ⟨25, _⟩ => ⟨S1024x1024, .bf16⟩
  | .hbm, ⟨26, _⟩ => ⟨S1024, .f32⟩
  | .hbm, ⟨27, _⟩ => ⟨S1x1024, .f32⟩
  | .hbm, ⟨28, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1024, .f32⟩
  | .local _ .vmem, ⟨7, _⟩ => ⟨S1024x2048, .bf16⟩
  | .local _ .vmem, ⟨8, _⟩ => ⟨S1x2048, .f32⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S32x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S32x2048x1024 : Shape := ⟨3, ![32, 2048, 1024]⟩
abbrev S32x2048x512 : Shape := ⟨3, ![32, 2048, 512]⟩
abbrev S1x1024 : Shape := ⟨2, ![1, 1024]⟩
abbrev S1x1024x4256 : Shape := ⟨3, ![1, 1024, 4256]⟩
abbrev S1x2048 : Shape := ⟨2, ![1, 2048]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S32x2048 : Shape := ⟨2, ![32, 2048]⟩
abbrev S32x2048x1 : Shape := ⟨3, ![32, 2048, 1]⟩
abbrev S1x1x1024 : Shape := ⟨3, ![1, 1, 1024]⟩
abbrev S1024x4256 : Shape := ⟨2, ![1024, 4256]⟩
abbrev S32x2048x4256 : Shape := ⟨3, ![32, 2048, 4256]⟩
abbrev S32x2048x384 : Shape := ⟨3, ![32, 2048, 384]⟩
abbrev S32x2048x256 : Shape := ⟨3, ![32, 2048, 256]⟩
abbrev S32x2048x32 : Shape := ⟨3, ![32, 2048, 32]⟩
abbrev S32x2048x2048 : Shape := ⟨3, ![32, 2048, 2048]⟩
abbrev S512x1024 : Shape := ⟨2, ![512, 1024]⟩
abbrev S2048 : Shape := ⟨1, ![2048]⟩
abbrev S1x1x2048 : Shape := ⟨3, ![1, 1, 2048]⟩
abbrev S1024x1024 : Shape := ⟨2, ![1024, 1024]⟩
abbrev S65536x1024 : Shape := ⟨2, ![65536, 1024]⟩

abbrev nBuf : Space → Nat
  | .hbm => 80
  | .vmem => 0
  | .smem => 0
  | _ => 0

abbrev bufTy : (tb : Table) → Fin (tcTables nBuf tb) → BufTy
  | .hbm, ⟨0, _⟩ => ⟨S32x2048x1024, .f32⟩
  | .hbm, ⟨1, _⟩ => ⟨S32x2048x512, .bf16⟩
  | .hbm, ⟨2, _⟩ => ⟨S32x2048x512, .bf16⟩
  | .hbm, ⟨3, _⟩ => ⟨S1x1024, .f32⟩
  | .hbm, ⟨4, _⟩ => ⟨S1x1024x4256, .f32⟩
  | .hbm, ⟨5, _⟩ => ⟨S1x2048, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1024, .f32⟩
  | .hbm, ⟨11, _⟩ => ⟨S32x2048x1024, .f32⟩
  | .hbm, ⟨12, _⟩ => ⟨S_, .f32⟩
  | .hbm, ⟨13, _⟩ => ⟨S32x2048, .f32⟩
  | .hbm, ⟨14, _⟩ => ⟨S32x2048x1, .f32⟩
  | .hbm, ⟨15, _⟩ => ⟨S_, .f32⟩
  | .hbm, ⟨16, _⟩ => ⟨S32x2048x1, .f32⟩
  | .hbm, ⟨17, _⟩ => ⟨S32x2048x1, .f32⟩
  | .hbm, ⟨18, _⟩ => ⟨S_, .f32⟩
  | .hbm, ⟨19, _⟩ => ⟨S32x2048x1, .f32⟩
  | .hbm, ⟨20, _⟩ => ⟨S32x2048x1, .f32⟩
  | .hbm, ⟨21, _⟩ => ⟨S32x2048x1, .f32⟩
  | .hbm, ⟨22, _⟩ => ⟨S32x2048x1024, .f32⟩
  | .hbm, ⟨23, _⟩ => ⟨S32x2048x1024, .f32⟩
  | .hbm, ⟨24, _⟩ => ⟨S1x1x1024, .f32⟩
  | .hbm, ⟨25, _⟩ => ⟨S32x2048x1024, .f32⟩
  | .hbm, ⟨26, _⟩ => ⟨S32x2048x1024, .f32⟩
  | .hbm, ⟨27, _⟩ => ⟨S1024x4256, .f32⟩
  | .hbm, ⟨28, _⟩ => ⟨S32x2048x4256, .f32⟩
  | .hbm, ⟨29, _⟩ => ⟨S32x2048x512, .f32⟩
  | .hbm, ⟨30, _⟩ => ⟨S32x2048x512, .f32⟩
  | .hbm, ⟨31, _⟩ => ⟨S32x2048x512, .f32⟩
  | .hbm, ⟨32, _⟩ => ⟨S32x2048x384, .f32⟩
  | .hbm, ⟨33, _⟩ => ⟨S32x2048x256, .f32⟩
  | .hbm, ⟨34, _⟩ => ⟨S32x2048x32, .f32⟩
  | .hbm, ⟨35, _⟩ => ⟨S32x2048x2048, .f32⟩
  | .hbm, ⟨36, _⟩ => ⟨S32x2048x512, .f32⟩
  | .hbm, ⟨37, _⟩ => ⟨S512x1024, .f32⟩
  | .hbm, ⟨38, _⟩ => ⟨S32x2048x1024, .f32⟩
  | .hbm, ⟨39, _⟩ => ⟨S32x2048x512, .f32⟩
  | .hbm, ⟨40, _⟩ => ⟨S512x1024, .f32⟩
  | .hbm, ⟨41, _⟩ => ⟨S32x2048x1024, .f32⟩
  | .hbm, ⟨42, _⟩ => ⟨S2048, .f32⟩
  | .hbm, ⟨43, _⟩ => ⟨S1x1x2048, .f32⟩
  | .hbm, ⟨44, _⟩ => ⟨S32x2048x2048, .f32⟩
  | .hbm, ⟨45, _⟩ => ⟨S32x2048x2048, .f32⟩
  | .hbm, ⟨46, _⟩ => ⟨S32x2048x2048, .f32⟩
  | .hbm, ⟨47, _⟩ => ⟨S32x2048x2048, .f32⟩
  | .hbm, ⟨48, _⟩ => ⟨S_, .f32⟩
  | .hbm, ⟨49, _⟩ => ⟨S32x2048x2048, .f32⟩
  | .hbm, ⟨50, _⟩ => ⟨S32x2048x2048, .f32⟩
  | .hbm, ⟨51, _⟩ => ⟨S_, .f32⟩
  | .hbm, ⟨52, _⟩ => ⟨S32x2048x2048, .f32⟩
  | .hbm, ⟨53, _⟩ => ⟨S32x2048x2048, .f32⟩
  | .hbm, ⟨54, _⟩ => ⟨S32x2048x1024, .f32⟩
  | .hbm, ⟨55, _⟩ => ⟨S32x2048x1024, .f32⟩
  | .hbm, ⟨56, _⟩ => ⟨S32x2048x1024, .f32⟩
  | .hbm, ⟨57, _⟩ => ⟨S32x2048x1024, .f32⟩
  | .hbm, ⟨58, _⟩ => ⟨S32x2048x1024, .f32⟩
  | .hbm, ⟨59, _⟩ => ⟨S1024x1024, .f32⟩
  | .hbm, ⟨60, _⟩ => ⟨S32x2048x1024, .f32⟩
  | .hbm, ⟨61, _⟩ => ⟨S1024, .f32⟩
  | .hbm, ⟨62, _⟩ => ⟨S32x2048x1024, .f32⟩
  | .hbm, ⟨63, _⟩ => ⟨S_, .f32⟩
  | .hbm, ⟨64, _⟩ => ⟨S32x2048, .f32⟩
  | .hbm, ⟨65, _⟩ => ⟨S32x2048x1, .f32⟩
  | .hbm, ⟨66, _⟩ => ⟨S_, .f32⟩
  | .hbm, ⟨67, _⟩ => ⟨S32x2048x1, .f32⟩
  | .hbm, ⟨68, _⟩ => ⟨S32x2048x1, .f32⟩
  | .hbm, ⟨69, _⟩ => ⟨S_, .f32⟩
  | .hbm, ⟨70, _⟩ => ⟨S32x2048x1, .f32⟩
  | .hbm, ⟨71, _⟩ => ⟨S32x2048x1, .f32⟩
  | .hbm, ⟨72, _⟩ => ⟨S32x2048x1, .f32⟩
  | .hbm, ⟨73, _⟩ => ⟨S32x2048x1024, .f32⟩
  | .hbm, ⟨74, _⟩ => ⟨S32x2048x1024, .f32⟩
  | .hbm, ⟨75, _⟩ => ⟨S1x1x1024, .f32⟩
  | .hbm, ⟨76, _⟩ => ⟨S32x2048x1024, .f32⟩
  | .hbm, ⟨77, _⟩ => ⟨S32x2048x1024, .f32⟩
  | .hbm, ⟨78, _⟩ => ⟨S32x2048x1024, .f32⟩
  | .hbm, ⟨79, _⟩ => ⟨S65536x1024, .f32⟩
  | _, _ => ⟨S32x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_2 : Ref sig .tc := ⟨.hbm, 48, rfl⟩
abbrev main_v35 : Ref sig .tc := ⟨.hbm, 49, rfl⟩
abbrev main_v36 : Ref sig .tc := ⟨.hbm, 50, rfl⟩
abbrev main_cst_3 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_4 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_cst_6 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Attn.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S512 : Shape := ⟨1, ![512]⟩
abbrev S128 : Shape := ⟨1, ![128]⟩
abbrev S_ : Shape := ⟨0, ![]⟩
abbrev S32x2048x1x32 : Shape := ⟨4, ![32, 2048, 1, 32]⟩
abbrev S32x2048x512 : Shape := ⟨3, ![32, 2048, 512]⟩
abbrev S512x1 : Shape := ⟨2, ![512, 1]⟩
abbrev S32x2048x8x96 : Shape := ⟨4, ![32, 2048, 8, 96]⟩
abbrev S128x1 : Shape := ⟨2, ![128, 1]⟩
abbrev S32x2048x8x128 : Shape := ⟨4, ![32, 2048, 8, 128]⟩
abbrev S32x2048x1024 : Shape := ⟨3, ![32, 2048, 1024]⟩
abbrev S1x2048x128 : Shape := ⟨3, ![1, 2048, 128]⟩
abbrev S1x2048x256 : Shape := ⟨3, ![1, 2048, 256]⟩
abbrev S2064x128 : Shape := ⟨2, ![2064, 128]⟩
abbrev S2x80x2048 : Shape := ⟨3, ![2, 80, 2048]⟩
abbrev S3x2048x512 : Shape := ⟨3, ![3, 2048, 512]⟩
abbrev S16x2048 : Shape := ⟨2, ![16, 2048]⟩
abbrev S1x16x2048 : Shape := ⟨3, ![1, 16, 2048]⟩
abbrev S1x256x128 : Shape := ⟨3, ![1, 256, 128]⟩
abbrev S256x128 : Shape := ⟨2, ![256, 128]⟩
abbrev S128x256 : Shape := ⟨2, ![128, 256]⟩
abbrev S64x256 : Shape := ⟨2, ![64, 256]⟩
abbrev S1x64x256 : Shape := ⟨3, ![1, 64, 256]⟩
abbrev S8x128 : Shape := ⟨2, ![8, 128]⟩
abbrev S1x128 : Shape := ⟨2, ![1, 128]⟩
abbrev S16x128 : Shape := ⟨2, ![16, 128]⟩
abbrev S8x512 : Shape := ⟨2, ![8, 512]⟩
abbrev S256x512 : Shape := ⟨2, ![256, 512]⟩
abbrev S256x256 : Shape := ⟨2, ![256, 256]⟩
abbrev S512x128 : Shape := ⟨2, ![512, 128]⟩
abbrev S272x128 : Shape := ⟨2, ![272, 128]⟩
abbrev S272x512 : Shape := ⟨2, ![272, 512]⟩
abbrev S1x256x256 : Shape := ⟨3, ![1, 256, 256]⟩
abbrev S512x256 : Shape := ⟨2, ![512, 256]⟩
abbrev S2048x256 : Shape := ⟨2, ![2048, 256]⟩
abbrev S528x128 : Shape := ⟨2, ![528, 128]⟩
abbrev S528x512 : Shape := ⟨2, ![528, 512]⟩
abbrev S1x512 : Shape := ⟨2, ![1, 512]⟩
abbrev S512x512 : Shape := ⟨2, ![512, 512]⟩
abbrev S784x128 : Shape := ⟨2, ![784, 128]⟩
abbrev S784x512 : Shape := ⟨2, ![784, 512]⟩
abbrev S768x256 : Shape := ⟨2, ![768, 256]⟩
abbrev S768x512 : Shape := ⟨2, ![768, 512]⟩
abbrev S1040x128 : Shape := ⟨2, ![1040, 128]⟩
abbrev S1040x512 : Shape := ⟨2, ![1040, 512]⟩
abbrev S1024x256 : Shape := ⟨2, ![1024, 256]⟩
abbrev S1024x512 : Shape := ⟨2, ![1024, 512]⟩
abbrev S1296x128 : Shape := ⟨2, ![1296, 128]⟩
abbrev S1296x512 : Shape := ⟨2, ![1296, 512]⟩
abbrev S1280x256 : Shape := ⟨2, ![1280, 256]⟩
abbrev S1280x512 : Shape := ⟨2, ![1280, 512]⟩
abbrev S1552x128 : Shape := ⟨2, ![1552, 128]⟩
abbrev S1552x512 : Shape := ⟨2, ![1552, 512]⟩
abbrev S1536x256 : Shape := ⟨2, ![1536, 256]⟩
abbrev S1536x512 : Shape := ⟨2, ![1536, 512]⟩
abbrev S1808x128 : Shape := ⟨2, ![1808, 128]⟩
abbrev S1808x512 : Shape := ⟨2, ![1808, 512]⟩
abbrev S1792x256 : Shape := ⟨2, ![1792, 256]⟩
abbrev S1792x512 : Shape := ⟨2, ![1792, 512]⟩
abbrev S2064x512 : Shape := ⟨2, ![2064, 512]⟩
abbrev S2048x512 : Shape := ⟨2, ![2048, 512]⟩
abbrev S32x512 : Shape := ⟨2, ![32, 512]⟩
abbrev S1x32x512 : Shape := ⟨3, ![1, 32, 512]⟩
abbrev S1x80x256 : Shape := ⟨3, ![1, 80, 256]⟩
abbrev S80x256 : Shape := ⟨2, ![80, 256]⟩
abbrev S1x256 : Shape := ⟨2, ![1, 256]⟩
abbrev S1x80x512 : Shape := ⟨3, ![1, 80, 512]⟩
abbrev S80x512 : Shape := ⟨2, ![80, 512]⟩
abbrev S1x512x256 : Shape := ⟨3, ![1, 512, 256]⟩
abbrev S1x80x768 : Shape := ⟨3, ![1, 80, 768]⟩
abbrev S80x768 : Shape := ⟨2, ![80, 768]⟩
abbrev S1x768x256 : Shape := ⟨3, ![1, 768, 256]⟩
abbrev S1x80x1024 : Shape := ⟨3, ![1, 80, 1024]⟩
abbrev S80x1024 : Shape := ⟨2, ![80, 1024]⟩
abbrev S1x1024x256 : Shape := ⟨3, ![1, 1024, 256]⟩
abbrev S1x80x1280 : Shape := ⟨3, ![1, 80, 1280]⟩
abbrev S80x1280 : Shape := ⟨2, ![80, 1280]⟩
abbrev S1x1280x256 : Shape := ⟨3, ![1, 1280, 256]⟩
abbrev S1x80x1536 : Shape := ⟨3, ![1, 80, 1536]⟩
abbrev S80x1536 : Shape := ⟨2, ![80, 1536]⟩
abbrev S1x1536x256 : Shape := ⟨3, ![1, 1536, 256]⟩
abbrev S1x80x1792 : Shape := ⟨3, ![1, 80, 1792]⟩
abbrev S80x1792 : Shape := ⟨2, ![80, 1792]⟩
abbrev S1x1792x256 : Shape := ⟨3, ![1, 1792, 256]⟩
abbrev S1x80x2048 : Shape := ⟨3, ![1, 80, 2048]⟩
abbrev S80x2048 : Shape := ⟨2, ![80, 2048]⟩

abbrev nBuf : Space → Nat
  | .hbm => 98
  | .vmem => 21
  | .smem => 0
  | _ => 0

abbrev bufTy : (tb : Table) → Fin (tcTables nBuf tb) → BufTy
  | .hbm, ⟨0, _⟩ => ⟨S32x2048x8x64, .f32⟩
  | .hbm, ⟨1, _⟩ => ⟨S32x2048x8x64, .f32⟩
  | .hbm, ⟨2, _⟩ => ⟨S32x2048x8x64, .f32⟩
  | .hbm, ⟨3, _⟩ => ⟨S32x2048x8x64, .f32⟩
  | .hbm, ⟨4, _⟩ => ⟨S32x2048x8x32, .f32⟩
  | .hbm, ⟨5, _⟩ => ⟨S32x2048x8x64, .f32⟩
  | .hbm, ⟨6, _⟩ => ⟨S32x2048x32, .f32⟩
  | .hbm, ⟨7, _⟩ => ⟨S32x2048x8x64, .f32⟩
  | .hbm, ⟨8, _⟩ => ⟨S512, .i32⟩
  | .hbm, ⟨9, _⟩ => ⟨S128, .i32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S32x2048x1x32, .f32⟩
  | .hbm, ⟨19, _⟩ => ⟨S32x2048x8x32, .f32⟩
  | .hbm, ⟨20, _⟩ => ⟨S32x2048x512, .f32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S_, .i32⟩
  | .hbm, ⟨25, _⟩ => ⟨S512, .i32⟩
  | .hbm, ⟨26, _⟩ => ⟨S512, .i32⟩
  | .hbm, ⟨27, _⟩ => ⟨S512, .i32⟩
  | .hbm, ⟨28, _⟩ => ⟨S512x1, .i32⟩
  | .hbm, ⟨29, _⟩ => ⟨S32x2048x512, .f32⟩
  | .hbm, ⟨30, _⟩ => ⟨S32x2048x512, .f32⟩
  | .hbm, ⟨31, _⟩ => ⟨S32x2048x512, .f32⟩
  | .hbm, ⟨32, _⟩ => ⟨S32x2048x512, .bf16⟩
  | .hbm, ⟨33, _⟩ => ⟨S32x2048x512, .f32⟩
  | .hbm, ⟨34, _⟩ => ⟨S_, .i32⟩
  | .hbm, ⟨35, _⟩ => ⟨S512, .i32⟩
  | .hbm, ⟨36, _⟩ => ⟨S512, .i1⟩
  | .hbm, ⟨37, _⟩ => ⟨S_, .i32⟩
  | .hbm, ⟨38, _⟩ => ⟨S512, .i32⟩
  | .hbm, ⟨39, _⟩ => ⟨S512, .i32⟩
  | .hbm, ⟨40, _⟩ => ⟨S512, .i32⟩
  | .hbm, ⟨41, _⟩ => ⟨S512x1, .i32⟩
  | .hbm, ⟨42, _⟩ => ⟨S32x2048x512, .f32⟩
  | .hbm, ⟨43, _⟩ => ⟨S32x2048x512, .bf16⟩
  | .hbm, ⟨44, _⟩ => ⟨S32x2048x8x96, .f32⟩
  | .hbm, ⟨45, _⟩ => ⟨S32x2048x8x96, .f32⟩
  | .hbm, ⟨46, _⟩ => ⟨S32x2048x8x96, .f32⟩
  | .hbm, ⟨47, _⟩ => ⟨S_, .i32⟩
  | .hbm, ⟨48, _⟩ => ⟨S128, .i32⟩
  | .hbm, ⟨49, _⟩ => ⟨S128, .i1⟩
  | .hbm, ⟨50, _⟩ => ⟨S_, .i32⟩
  | .hbm, ⟨51, _⟩ => ⟨S128, .i32⟩
  | .hbm, ⟨52, _⟩ => ⟨S128, .i32⟩
  | .hbm, ⟨53, _⟩ => ⟨S_, .i32⟩
  | .hbm, ⟨54, _⟩ => ⟨S128, .i32⟩
  | .hbm, ⟨55, _⟩ => ⟨S128, .i1⟩
  | .hbm, ⟨56, _⟩ => ⟨S_, .i32⟩
  | .hbm, ⟨57, _⟩ => ⟨S128, .i32⟩
  | .hbm, ⟨58, _⟩ => ⟨S128, .i32⟩
  | .hbm, ⟨59, _⟩ => ⟨S128, .i32⟩
  | .hbm, ⟨60, _⟩ => ⟨S128x1, .i32⟩
  | .hbm, ⟨61, _⟩ => ⟨S32x2048x8x128, .f32⟩
  | .hbm, ⟨62, _⟩ => ⟨S_, .f32⟩
  | .hbm, ⟨63, _⟩ => ⟨S_, .f32⟩
  | .hbm, ⟨64, _⟩ => ⟨S32x2048x8x128, .i1⟩
  | .hbm, ⟨65, _⟩ => ⟨S32x2048x8x128, .f32⟩
  | .hbm, ⟨66, _⟩ => ⟨S32x2048x8x128, .f32⟩
  | .hbm, ⟨67, _⟩ => ⟨S32x2048x1024, .f32⟩
  | .hbm, ⟨68, _⟩ => ⟨S32x2048x1024, .bf16⟩
  | .hbm, ⟨69, _⟩ => ⟨S32x2048x8x96, .f32⟩
  | .hbm, ⟨70, _⟩ => ⟨S_, .i32⟩
  | .hbm, ⟨71, _⟩ => ⟨S128, .i32⟩
  | .hbm, ⟨72, _⟩ => ⟨S128, .i1⟩
  | .hbm, ⟨73, _⟩ => ⟨S_, .i32⟩
  | .hbm, ⟨74, _⟩ => ⟨S128, .i32⟩
  | .hbm, ⟨75, _⟩ => ⟨S128, .i32⟩
  | .hbm, ⟨76, _⟩ => ⟨S_, .i32⟩
  | .hbm, ⟨77, _⟩ => ⟨S128, .i32⟩
  | .hbm, ⟨78, _⟩ => ⟨S128, .i1⟩
  | .hbm, ⟨79, _⟩ => ⟨S_, .i32⟩
  | .hbm, ⟨80, _⟩ => ⟨S128, .i32⟩
  | .hbm, ⟨81, _⟩ => ⟨S128, .i32⟩
  | .hbm, ⟨82, _⟩ => ⟨S128, .i32⟩
  | .hbm, ⟨83, _⟩ => ⟨S128x1, .i32⟩
  | .hbm, ⟨84, _⟩ => ⟨S32x2048x8x128, .f32⟩
  | .hbm, ⟨85, _⟩ => ⟨S_, .f32⟩
  | .hbm, ⟨86, _⟩ => ⟨S_, .f32⟩
  | .hbm, ⟨87, _⟩ => ⟨S32x2048x8x128, .i1⟩
  | .hbm, ⟨88, _⟩ => ⟨S32x2048x8x128, .f32⟩
  | .hbm, ⟨89, _⟩ => ⟨S32x2048x8x128, .f32⟩
  | .hbm, ⟨90, _⟩ => ⟨S32x2048x1024, .f32⟩
  | .hbm, ⟨91, _⟩ => ⟨S32x2048x1024, .bf16⟩
  | .hbm, ⟨92, _⟩ => ⟨S32x2048x512, .f32⟩
  | .hbm, ⟨93, _⟩ => ⟨S32x2048x512, .bf16⟩
  | .hbm, ⟨94, _⟩ => ⟨S32x2048x512, .f32⟩
  | .hbm, ⟨95, _⟩ => ⟨S32x2048x512, .bf16⟩
  | .hbm, ⟨96, _⟩ => ⟨S32x2048x512, .bf16⟩
  | .hbm, ⟨97, _⟩ => ⟨S32x2048x512, .bf16⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S2064x128, .bf16⟩
  | .local _ .vmem, ⟨17, _⟩ => ⟨S2x80x2048, .bf16⟩
  | .local _ .vmem, ⟨18, _⟩ => ⟨S3x2048x512, .bf16⟩
  | .local _ .vmem, ⟨19, _⟩ => ⟨S2x80x2048, .bf16⟩
  | .local _ .vmem, ⟨20, _⟩ => ⟨S3x2048x512, .bf16⟩
  | _, _ => ⟨S32x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_cst : Ref sig .tc := ⟨.hbm, 10, rfl⟩
abbrev main_v0 : Ref sig .tc := ⟨.hbm, 11, rfl⟩
abbrev main_cst_1 : Ref sig .tc := ⟨.hbm, 12, rfl⟩
abbrev main_v1 : Ref sig .tc := ⟨.hbm, 13, rfl⟩
abbrev main_cst_2 : Ref sig .tc := ⟨.hbm, 14, rfl⟩
abbrev main_v2 : Ref sig .tc := ⟨.hbm, 15, rfl⟩
abbrev main_cst_3 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_4 : Ref sig .tc := ⟨.hbm, 21, rfl⟩
abbrev main_v7 : Ref sig .tc := ⟨.hbm, 22, rfl⟩
abbrev main_v8 : Ref sig .tc := ⟨.hbm, 23, rfl⟩
abbrev main_c_5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c_6 : Ref sig .tc := ⟨.hbm, 34, rfl⟩
abbrev main_v18 : Ref sig .tc := ⟨.hbm, 35, rfl⟩
abbrev main_v19 : Ref sig .tc := ⟨.hbm, 36, rfl⟩
abbrev main_c_7 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_c_8 : Ref sig .tc := ⟨.hbm, 47, rfl⟩
abbrev main_v29 : Ref sig .tc := ⟨.hbm, 48, rfl⟩
abbrev main_v30 : Ref sig .tc := ⟨.hbm, 49, rfl⟩
abbrev main_c_9 : Ref sig .tc := ⟨.hbm, 50, rfl⟩
abbrev main_v31 : Ref sig .tc := ⟨.hbm, 51, rfl⟩
abbrev main_v32 : Ref sig .tc := ⟨.hbm, 52, rfl⟩
abbrev main_c_10 : Ref sig .tc := ⟨.hbm, 53, rfl⟩
abbrev main_v33 : Ref sig .tc := ⟨.hbm, 54, rfl⟩
abbrev main_v34 : Ref sig .tc := ⟨.hbm, 55, rfl⟩
abbrev main_c_11 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_12 : Ref sig .tc := ⟨.hbm, 62, rfl⟩
abbrev main_call0_v0 : Ref sig .tc := ⟨.hbm, 63, rfl⟩
abbrev main_call0_v1 : Ref sig .tc := ⟨.hbm, 64, rfl⟩
abbrev main_call0_v2 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_13 : Ref sig .tc := ⟨.hbm, 70, rfl⟩
abbrev main_v44 : Ref sig .tc := ⟨.hbm, 71, rfl⟩
abbrev main_v45 : Ref sig .tc := ⟨.hbm, 72, rfl⟩
abbrev main_c_14 : Ref sig .tc := ⟨.hbm, 73, rfl⟩
abbrev main_v46 : Ref sig .tc := ⟨.hbm, 74, rfl⟩
abbrev main_v47 : Ref sig .tc := ⟨.hbm, 75, rfl⟩
abbrev main_c_15 : Ref sig .tc := ⟨.hbm, 76, rfl⟩
abbrev main_v48 : Ref sig .tc := ⟨.hbm, 77, rfl⟩
abbrev main_v49 : Ref sig .tc := ⟨.hbm, 78, rfl⟩
abbrev main_c_16 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_17 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62_0 : Ref sig .tc := ⟨.hbm, 96, rfl⟩
abbrev main_v62_1 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S32x2048x8x64 : Shape := ⟨4, ![32, 2048, 8, 64]⟩
abbrev S32x2048x8x32 : Shape := ⟨4, ![32, 2048, 8, 32]⟩
abbrev S32x2048x32 : Shape := ⟨3, ![32, 2048, 32]⟩
abbrev S32x8x256x8x64 : Shape := ⟨5, ![32, 8, 256, 8, 64]⟩
abbrev S_ : Shape := ⟨0, ![]⟩
abbrev S32x8x8x64 : Shape := ⟨4, ![32, 8, 8, 64]⟩
abbrev S2048 : Shape := ⟨1, ![2048]⟩
abbrev S8 : Shape := ⟨1, ![8]⟩
abbrev S32x8x2048x8 : Shape := ⟨4, ![32, 8, 2048, 8]⟩
abbrev S1x8 : Shape := ⟨2, ![1, 8]⟩
abbrev S2048x1 : Shape := ⟨2, ![2048, 1]⟩
abbrev S2048x8 : Shape := ⟨2, ![2048, 8]⟩
abbrev S1x1x2048x8 : Shape := ⟨4, ![1, 1, 2048, 8]⟩
abbrev S32x8x2048x3 : Shape := ⟨4, ![32, 8, 2048, 3]⟩
abbrev S3 : Shape := ⟨1, ![3]⟩
abbrev S1x3 : Shape := ⟨2, ![1, 3]⟩
abbrev S2048x3 : Shape := ⟨2, ![2048, 3]⟩
abbrev S32x8x2048x3x1 : Shape := ⟨5, ![32, 8, 2048, 3, 1]⟩
abbrev S1x1x1x1x8 : Shape := ⟨5, ![1, 1, 1, 1, 8]⟩
abbrev S32x8x2048x3x8 : Shape := ⟨5, ![32, 8, 2048, 3, 8]⟩
abbrev S1x1x2048x3x1 : Shape := ⟨5, ![1, 1, 2048, 3, 1]⟩
abbrev S32x8x2048x8x1 : Shape := ⟨5, ![32, 8, 2048, 8, 1]⟩
abbrev S32x8x2048x8x256 : Shape := ⟨5, ![32, 8, 2048, 8, 256]⟩
abbrev S32x8x2048x2048 : Shape := ⟨4, ![32, 8, 2048, 2048]⟩
abbrev S1x2048 : Shape := ⟨2, ![1, 2048]⟩
abbrev S2048x2048 : Shape := ⟨2, ![2048, 2048]⟩
abbrev S1x1x2048x2048 : Shape := ⟨4, ![1, 1, 2048, 2048]⟩
abbrev S32x8x2048 : Shape := ⟨3, ![32, 8, 2048]⟩
abbrev S32x8x2048x1 : Shape := ⟨4, ![32, 8, 2048, 1]⟩
abbrev S32x8x64x2048 : Shape := ⟨4, ![32, 8, 64, 2048]⟩
abbrev S32x2048x512 : Shape := ⟨3, ![32, 2048, 512]⟩
abbrev S32x2048x2048x8 : Shape := ⟨4, ![32, 2048, 2048, 8]⟩

abbrev nBuf : Space → Nat
  | .hbm => 146
  | .vmem => 0
  | .smem => 0
  | _ => 0

abbrev hbmTy0_0 (i : Nat) : BufTy := match i % 128 with
  | 0 => ⟨S32x2048x8x64, .f32⟩
  | 1 => ⟨S32x2048x8x64, .f32⟩
  | 2 => ⟨S32x2048x8x64, .f32⟩
  | 3 => ⟨S32x2048x8x64, .f32⟩
  | 4 => ⟨S32x2048x8x32, .f32⟩
  | 5 => ⟨S32x2048x8x64, .f32⟩
  | 6 => ⟨S32x2048x32, .f32⟩
  | 7 => ⟨S32x2048x8x64, .f32⟩
  | 8 => ⟨S32x8x256x8x64, .f32⟩
  | 9 => ⟨S_, .f32⟩
  | 10 => ⟨S32x8x8x64, .f32⟩
  | 11 => ⟨S_, .f32⟩
  | 12 => ⟨S32x8x8x64, .f32⟩
  | 13 => ⟨S32x8x8x64, .f32⟩
  | 14 => ⟨S2048, .i32⟩
  | 15 => ⟨S_, .i32⟩
  | 16 => ⟨S_, .i32⟩
  | 17 => ⟨S2048, .i32⟩
  | 18 => ⟨S2048, .i32⟩
  | 19 => ⟨S2048, .i32⟩
  | 20 => ⟨S_, .i32⟩
  | 21 => ⟨S2048, .i32⟩
  | 22 => ⟨S2048, .i1⟩
  | 23 => ⟨S2048, .i32⟩
  | 24 => ⟨S2048, .i32⟩
  | 25 => ⟨S_, .i32⟩
  | 26 => ⟨S2048, .i32⟩
  | 27 => ⟨S2048, .i1⟩
  | 28 => ⟨S2048, .i1⟩
  | 29 => ⟨S_, .i32⟩
  | 30 => ⟨S2048, .i32⟩
  | 31 => ⟨S2048, .i32⟩
  | 32 => ⟨S2048, .i32⟩
  | 33 => ⟨S8, .i32⟩
  | 34 => ⟨S32x8x2048x8, .f32⟩
  | 35 => ⟨S1x8, .i32⟩
  | 36 => ⟨S2048x1, .i32⟩
  | 37 => ⟨S2048x8, .i32⟩
  | 38 => ⟨S2048x8, .i32⟩
  | 39 => ⟨S2048x8, .i1⟩
  | 40 => ⟨S1x1x2048x8, .i1⟩
  | 41 => ⟨S_, .f32⟩
  | 42 => ⟨S_, .f32⟩
  | 43 => ⟨S32x8x2048x8, .i1⟩
  | 44 => ⟨S32x8x2048x8, .f32⟩
  | 45 => ⟨S32x8x2048x8, .f32⟩
  | 46 => ⟨S32x8x2048x3, .f32⟩
  | 47 => ⟨S32x8x2048x3, .i32⟩
  | 48 => ⟨S3, .i32⟩
  | 49 => ⟨S1x3, .i32⟩
  | 50 => ⟨S2048x1, .i32⟩
  | 51 => ⟨S2048x3, .i32⟩
  | 52 => ⟨S2048x3, .i32⟩
  | 53 => ⟨S2048x3, .i1⟩
  | 54 => ⟨S32x8x2048x3x1, .i32⟩
  | 55 => ⟨S1x1x1x1x8, .i32⟩
  | 56 => ⟨S32x8x2048x3x8, .i32⟩
  | 57 => ⟨S32x8x2048x3x8, .i32⟩
  | 58 => ⟨S32x8x2048x3x8, .i1⟩
  | 59 => ⟨S1x1x2048x3x1, .i1⟩
  | 60 => ⟨S32x8x2048x3x8, .i1⟩
  | 61 => ⟨S32x8x2048x3x8, .i1⟩
  | 62 => ⟨S_, .i1⟩
  | 63 => ⟨S32x8x2048x8, .i1⟩
  | 64 => ⟨S32x8x2048x8x1, .i1⟩
  | 65 => ⟨S32x8x2048x8x256, .i1⟩
  | 66 => ⟨S32x8x2048x2048, .i1⟩
  | 67 => ⟨S2048, .i32⟩
  | 68 => ⟨S2048x1, .i32⟩
  | 69 => ⟨S1x2048, .i32⟩
  | 70 => ⟨S2048x2048, .i32⟩
  | 71 => ⟨S2048x2048, .i32⟩
  | 72 => ⟨S2048x2048, .i1⟩
  | 73 => ⟨S1x2048, .i32⟩
  | 74 => ⟨S2048x1, .i32⟩
  | 75 => ⟨S2048x2048, .i32⟩
  | 76 => ⟨S2048x2048, .i32⟩
  | 77 => ⟨S2048x2048, .i1⟩
  | 78 => ⟨S2048x2048, .i1⟩
  | 79 => ⟨S32x8x2048x2048, .f32⟩
  | 80 => ⟨S_, .f32⟩
  | 81 => ⟨S32x8x2048x2048, .f32⟩
  | 82 => ⟨S32x8x2048x2048, .f32⟩
  | 83 => ⟨S1x1x2048x2048, .i1⟩
  | 84 => ⟨S32x8x2048x2048, .i1⟩
  | 85 => ⟨S32x8x2048x2048, .i1⟩
  | 86 => ⟨S_, .f32⟩
  | 87 => ⟨S_, .f32⟩
  | 88 => ⟨S32x8x2048x2048, .f32⟩
  | 89 => ⟨S32x8x2048x2048, .f32⟩
  | 90 => ⟨S_, .f32⟩
  | 91 => ⟨S32x8x2048, .f32⟩
  | 92 => ⟨S_, .f32⟩
  | 93 => ⟨S32x8x2048, .f32⟩
  | 94 => ⟨S32x8x2048, .f32⟩
  | 95 => ⟨S32x8x2048x1, .f32⟩
  | 96 => ⟨S32x8x2048x2048, .f32⟩
  | 97 => ⟨S32x8x2048x2048, .f32⟩
  | 98 => ⟨S32x8x2048x2048, .f32⟩
  | 99 => ⟨S_, .f32⟩
  | 100 => ⟨S32x8x2048, .f32⟩
  | 101 => ⟨S32x8x2048x1, .f32⟩
  | 102 => ⟨S32x8x2048x2048, .f32⟩
  | 103 => ⟨S32x8x2048x2048, .f32⟩
  | 104 => ⟨S32x8x64x2048, .f32⟩
  | 105 => ⟨S32x2048x8x64, .f32⟩
  | 106 => ⟨S32x2048x512, .f32⟩
  | 107 => ⟨S32x8x2048x2048, .f32⟩
  | 108 => ⟨S32x2048x2048x8, .f32⟩
  | 109 => ⟨S32x8x2048x2048, .f32⟩
  | 110 => ⟨S32x8x2048x2048, .f32⟩
  | 111 => ⟨S_, .f32⟩
  | 112 => ⟨S32x8x2048x2048, .f32⟩
  | 113 => ⟨S32x8x2048x2048, .f32⟩
  | 114 => ⟨S2048, .i32⟩
  | 115 => ⟨S1x2048, .i32⟩
  | 116 => ⟨S2048, .i32⟩
  | 117 => ⟨S2048x1, .i32⟩
  | 118 => ⟨S2048x2048, .i32⟩
  | 119 => ⟨S2048x2048, .i32⟩
  | 120 => ⟨S2048x2048, .i1⟩
  | 121 => ⟨S1x1x2048x2048, .i1⟩
  | 122 => ⟨S_, .f32⟩
  | 123 => ⟨S_, .f32⟩
  | 124 => ⟨S32x8x2048x2048, .i1⟩
  | 125 => ⟨S32x8x2048x2048, .f32⟩
  | 126 => ⟨S32x8x2048x2048, .f32⟩
  | 127 => ⟨S_, .f32⟩
  | _ => ⟨S32x2048x8x64, .f32⟩

abbrev hbmTy0_1 (i : Nat) : BufTy := match i % 128 with
  | 0 => ⟨S32x8x2048, .f32⟩
  | 1 => ⟨S_, .f32⟩
  | 2 => ⟨S32x8x2048, .f32⟩
  | 3 => ⟨S32x8x2048, .f32⟩
  | 4 => ⟨S32x8x2048x1, .f32⟩
  | 5 => ⟨S32x8x2048x2048, .f32⟩
  | 6 => ⟨S32x8x2048x2048, .f32⟩
  | 7 => ⟨S32x8x2048x2048, .f32⟩
  | 8 => ⟨S_, .f32⟩
  | 9 => ⟨S32x8x2048, .f32⟩
  | 10 => ⟨S32x8x2048x1, .f32⟩
  | 11 => ⟨S32x8x2048x2048, .f32⟩
  | 12 => ⟨S32x8x2048x2048, .f32⟩
  | 13 => ⟨S32x8x64x2048, .f32⟩
  | 14 => ⟨S32x2048x8x64, .f32⟩
  | 15 => ⟨S32x2048x512, .f32⟩
  | 16 => ⟨S32x2048x512, .bf16⟩
  | 17 => ⟨S32x2048x512, .bf16⟩
  | _ => ⟨S32x2048x8x64, .f32⟩

abbrev hbmTy (i : Nat) : BufTy := match i / 128 with
  | 0 => hbmTy0_0 i
  | 1 => hbmTy0_1 i
  | _ => ⟨S32x2048x8x64, .f32⟩

abbrev bufTy : (tb : Table) → Fin (tcTables nBuf tb) → BufTy
  | .hbm, ⟨i, _⟩ => hbmTy i
  | _, _ => ⟨S32x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v14 : Ref sig .tc := ⟨.hbm, 45, rfl⟩
abbrev main_values : Ref sig .tc := ⟨.hbm, 46, rfl⟩
abbrev main_indices : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_2 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_3 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_cst_4 : Ref sig .tc := ⟨.hbm, 86, rfl⟩
abbrev main_call2_v0 : Ref sig .tc := ⟨.hbm, 87, rfl⟩
abbrev main_call2_v1 : Ref sig .tc := ⟨.hbm, 88, rfl⟩
abbrev main_v51 : Ref sig .tc := ⟨.hbm, 89, rfl⟩
abbrev main_cst_5 : Ref sig .tc := ⟨.hbm, 90, rfl⟩
abbrev main_v52 : Ref sig .tc := ⟨.hbm, 91, rfl⟩
abbrev main_cst_6 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_7 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_cst_8 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_cst_9 : Ref sig .tc := ⟨.hbm, 122, rfl⟩
abbrev main_call3_v0 : Ref sig .tc := ⟨.hbm, 123, rfl⟩
abbrev main_call3_v1 : Ref sig .tc := ⟨.hbm, 124, rfl⟩
abbrev main_call3_v2 : Ref sig .tc := ⟨.hbm, 125, rfl⟩
abbrev main_v80 : Ref sig .tc := ⟨.hbm, 126, rfl⟩
abbrev main_cst_10 : Ref sig .tc := ⟨.hbm, 127, rfl⟩
abbrev main_v81 : Ref sig .tc := ⟨.hbm, 128, rfl⟩
abbrev main_cst_11 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_v87 : Ref sig .tc := ⟨.hbm, 135, rfl⟩
abbrev main_cst_12 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩

abbrev nD : Nat := 1
abbrev τ : Topo := Topo.v7x

variable {F : FTy → Type} [FloatOps F]
-- ==== Proof.Rows.lean ====
module

public import Idealize.ShloMosaic.PureOps.Ideal.Laws

@[expose] public section

noncomputable section

/-! Functions of one row of `1024` numbers that several calls of the layer share. -/

namespace Cert.Proof

open Idealize.ShloMosaic
open scoped BigOperators

/-- The root-mean-square scaling of a row `v` of `1024` numbers by the gains `g`, as both programs spell it. -/
def rmsRow (v g : Fin 1024 → EReal) (k : Fin 1024) : EReal :=
  v k * Ideal.rsqrt (Ideal.div (∑ j, v j * v j) (Ideal.ofBits .f32 1149239296#32) + Ideal.ofBits .f32 897988541#32) * g k

/-- A row through the squared rectifier's two products. -/
def hidden (x g1 : Fin 1024 → EReal) (wu : Fin 1024 → Fin 4096 → EReal) (wd : Fin 4096 → Fin 1024 → EReal)
    (c : Fin 1024) : EReal :=
  ∑ j, max (∑ k, rmsRow x g1 k * wu k j) 0 * max (∑ k, rmsRow x g1 k * wu k j) 0 * wd j c

/-- The feed-forward sub-layer on one row: the row plus its normalised image. -/
def mlpRow (x g1 : Fin 1024 → EReal) (wu : Fin 1024 → Fin 4096 → EReal) (wd : Fin 4096 → Fin 1024 → EReal)
    (g2 : Fin 1024 → EReal) (c : Fin 1024) : EReal :=
  x c + rmsRow (hidden x g1 wu wd) g2 c

/-- The gate of column `n`: the logistic function of the normalised row's product with that gate's weights. -/
def gate (x g1 : Fin 1024 → EReal) (wg : Fin 1024 → Fin 2048 → EReal) (bg : Fin 2048 → EReal) (n : Fin 2048) : EReal :=
  Ideal.div 1 (1 + Ideal.exp (-(∑ k, rmsRow x g1 k * wg k n + bg n)))

/-- The two branches of one row, each projected up and gated, and added. -/
def merged (x : Fin 1024 → EReal) (oa ob : Fin 512 → EReal) (g1 : Fin 1024 → EReal) (wg : Fin 1024 → Fin 2048 → EReal)
    (bg : Fin 2048 → EReal) (wa wb : Fin 512 → Fin 1024 → EReal) (n : Fin 1024) : EReal :=
  gate x g1 wg bg ⟨n.val, by omega⟩ * (∑ k, oa k * wa k n) + gate x g1 wg bg ⟨1024 + n.val, by omega⟩ * (∑ k, ob k * wb k n)

/-- The gated merge of the two branches on one row: the row plus the normalised projection of the merge. -/
def mixRow (x : Fin 1024 → EReal) (oa ob : Fin 512 → EReal) (g1 : Fin 1024 → EReal) (wg : Fin 1024 → Fin 2048 → EReal)
    (bg : Fin 2048 → EReal) (wa wb : Fin 512 → Fin 1024 → EReal) (wo : Fin 1024 → Fin 1024 → EReal) (g2 : Fin 1024 → EReal)
    (c : Fin 1024) : EReal :=
  x c + rmsRow (fun d => ∑ n, merged x oa ob g1 wg bg wa wb n * wo n d) g2 c

end Cert.Proof

end
-- ==== Proof.Mlp.Result.lean ====
module

public import proofs.«01_k».proof.Proof.Gen.MlpIdeal.Value
public import proofs.«01_k».proof.Proof.Rows
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

/-! What the feed-forward sub-layer's run leaves in its result: every row of the activations through `mlpRow`. The body
    handles a block of `1024` rows as four stores of `256` rows. -/

namespace Cert.Proof.Mlp

open Idealize.ShloMosaic Idealize.ShloMosaic.TcCoe Idealize.SL.Sem Cert.MlpIdeal Cert.MlpIdeal.Gen
open Idealize.ShloMosaic.Pipeline (Dat)
open scoped BigOperators

variable (x : Vec Ideal S256x1024 .f32) (g1 : Vec Ideal S1x1024 .f32) (wu : Vec Ideal S1024x4096 .bf16)
  (wd : Vec Ideal S4096x1024 .bf16) (g2 : Vec Ideal S1x1024 .f32) (r : Fin 256) (c : Fin 1024)

/-- The first store's payload, at one place. -/
theorem pay_a : k0_pay5 (k0_pay2 x) (k0_pay3 x g1 wu wd) (k0_pay4 g2) (ix2 r c)
    = mlpRow (fun k => x (ix2 r k)) (fun k => g1 (ix2 0 k)) (fun k j => wu (ix2 k j)) (fun j k => wd (ix2 j k))
        (fun k => g2 (ix2 0 k)) c := by
  unfold_payloads
  pointwise [dot_S256x1024_S1024x4096_S256x4096_1_0_0_1_n_n, dot_S256x4096_S4096x1024_S256x1024_1_0_0_1_n_n]
  rfl

/-- The second store's payload, at one place. -/
theorem pay_b : k0_pay11 (k0_pay6 x) (k0_pay7 x g1 wu wd) (k0_pay8 g2) (k0_pay9 x g1 wu wd) (k0_pay10 (F := Ideal)) (ix2 r c)
    = mlpRow (fun k => x (ix2 r k)) (fun k => g1 (ix2 0 k)) (fun k j => wu (ix2 k j)) (fun j k => wd (ix2 j k))
        (fun k => g2 (ix2 0 k)) c := by
  unfold_payloads
  pointwise [dot_S256x1024_S1024x4096_S256x4096_1_0_0_1_n_n, dot_S256x4096_S4096x1024_S256x1024_1_0_0_1_n_n]
  rfl

/-- The third store's payload, at one place. -/
theorem pay_c : k0_pay16 (k0_pay12 x) (k0_pay13 x g1 wu wd) (k0_pay14 g2) (k0_pay15 x g1 wu wd) (ix2 r c)
    = mlpRow (fun k => x (ix2 r k)) (fun k => g1 (ix2 0 k)) (fun k j => wu (ix2 k j)) (fun j k => wd (ix2 j k))
        (fun k => g2 (ix2 0 k)) c := by
  unfold_payloads
  pointwise [dot_S256x1024_S1024x4096_S256x4096_1_0_0_1_n_n, dot_S256x4096_S4096x1024_S256x1024_1_0_0_1_n_n]
  rfl

/-- The last store's payload, at one place. -/
theorem pay_d : k0_pay1 (k0_pay17 x) (k0_pay18 x g1 wu wd) g2 (ix2 r c)
    = mlpRow (fun k => x (ix2 r k)) (fun k => g1 (ix2 0 k)) (fun k j => wu (ix2 k j)) (fun j k => wd (ix2 j k))
        (fun k => g2 (ix2 0 k)) c := by
  unfold_payloads
  pointwise [dot_S256x1024_S1024x4096_S256x4096_1_0_0_1_n_n, dot_S256x4096_S4096x1024_S256x1024_1_0_0_1_n_n]
  rfl

/-- What the body leaves in its result block: every row of the block through the sub-layer. -/
def blockOf (x0 : Vec Ideal S1024x1024 .f32) (x1 : Vec Ideal S1x1024 .f32) (x2 : Vec Ideal S1024x4096 .bf16)
    (x3 : Vec Ideal S4096x1024 .bf16) (x4 : Vec Ideal S1x1024 .f32) (i : S1024x1024.Idx) : Elt Ideal .f32 :=
  mlpRow (fun k => x0 (ix2 (i 0) k)) (fun k => x1 (ix2 0 k)) (fun k j => x2 (ix2 k j)) (fun j k => x3 (ix2 j k))
    (fun k => x4 (ix2 0 k)) (i 1)

/-- The four stores tile the block, and each is `blockOf` at its rows. -/
theorem out_eq (x0 : Vec Ideal S1024x1024 .f32) (x1 : Vec Ideal S1x1024 .f32) (x2 : Vec Ideal S1024x4096 .bf16)
    (x3 : Vec Ideal S4096x1024 .bf16) (x4 : Vec Ideal S1x1024 .f32) :
    out0_5 x0 x1 x2 x3 x4 = blockOf x0 x1 x2 x3 x4 := by
  funext y
  unfold out0_5
  refine View.canon_append_of_piecesOf (blockOf x0 x1 x2 x3 x4) [] [_, _, _, _] ⟨?_, ?_, ?_, ?_, trivial⟩ y (cover0_5 _ _ _ _ y)
  · intro z; idx_vars z
    refine (pay_d _ _ _ _ _ _ _).trans ?_
    change _ = blockOf x0 x1 x2 x3 x4 (r0_6.toLoadRect.idx (ix2 z0 z1))
    unfold blockOf; pointwise; try rfl
  · intro z; idx_vars z
    refine (pay_c _ _ _ _ _ _ _).trans ?_
    change _ = blockOf x0 x1 x2 x3 x4 (r0_5.toLoadRect.idx (ix2 z0 z1))
    unfold blockOf; pointwise; try rfl
  · intro z; idx_vars z
    refine (pay_b _ _ _ _ _ _ _).trans ?_
    change _ = blockOf x0 x1 x2 x3 x4 (r0_4.toLoadRect.idx (ix2 z0 z1))
    unfold blockOf; pointwise; try rfl
  · intro z; idx_vars z
    refine (pay_a _ _ _ _ _ _ _).trans ?_
    change _ = blockOf x0 x1 x2 x3 x4 (r0_0.toLoadRect.idx (ix2 z0 z1))
    unfold blockOf; pointwise; try rfl

variable (m : (ℓ : Loc nD τ sig) → Buf (Elt Ideal) ℓ)

/-- Which block of rows the point `t` stages: rows from `1024 t`. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] :=
  (by decide +kernel : ∀ t : Fin grid0.N, _)

/-- The result array of the run: every row of the first argument through the sub-layer. -/
def arr (x0 : Vec Ideal S32x2048x1024 .f32) (x1 : Vec Ideal S1x1024 .f32) (x2 : Vec Ideal S1x1024x4096 .f32)
    (x3 : Vec Ideal S1x4096x1024 .f32) (x4 : Vec Ideal S1x1024 .f32) (i : S65536x1024.Idx) : Elt Ideal .f32 :=
  mlpRow (fun k => x0 (ix3 ⟨(i 0).val / 2048, by have : (i 0).val < 65536 := (i 0).isLt; omega⟩ ⟨(i 0).val % 2048, by omega⟩ k))
    (fun k => x1 (ix2 0 k)) (fun k j => x2 (ix3 0 k j)) (fun j k => x3 (ix3 0 j k)) (fun k => x4 (ix2 0 k)) (i 1)

theorem v0_at (c : Dev nD) (r : Fin 65536) (k : Fin 1024) : V m c main_v0 (ix2 r k)
    = m ((c : Thread nD τ).loc main_arg0) (ix3 ⟨r.val / 2048, by omega⟩ ⟨r.val % 2048, by omega⟩ k) := by
  unfold V; after_reads_at
theorem v2_at (c : Dev nD) (k : Fin 1024) : V m c main_v2 (ix2 0 k) = m ((c : Thread nD τ).loc main_arg1) (ix2 0 k) := by
  unfold V; after_reads_at
theorem v4_at (c : Dev nD) (k : Fin 1024) (j : Fin 4096) : V m c main_v4 (ix2 k j)
    = m ((c : Thread nD τ).loc main_arg2) (ix3 0 k j) := by
  unfold V; after_reads_at
theorem v6_at (c : Dev nD) (j : Fin 4096) (k : Fin 1024) : V m c main_v6 (ix2 j k)
    = m ((c : Thread nD τ).loc main_arg3) (ix3 0 j k) := by
  unfold V; after_reads_at
theorem v8_at (c : Dev nD) (k : Fin 1024) : V m c main_v8 (ix2 0 k) = m ((c : Thread nD τ).loc main_arg4) (ix2 0 k) := by
  unfold V; after_reads_at

theorem row_lt (t : Fin cfg0.N) (y : Fin 1024) : t.val * 1024 + y.val < 65536 := by
  have h : t.val < 64 := N_0 ▸ t.isLt
  omega

theorem blk0 (c : Dev nD) (t : Fin cfg0.N) (y k : Fin 1024) :
    iblk m c 0 t (ix2 y k) = V m c main_v0 (ix2 ⟨t.val * 1024 + y.val, row_lt t y⟩ k) := by
  blk_ext [iblk, idx t]
theorem blk1 (c : Dev nD) (t : Fin cfg0.N) (k : Fin 1024) : iblk m c 1 t (ix2 0 k) = V m c main_v2 (ix2 0 k) := by
  blk_ext [iblk, idx t]
theorem blk2 (c : Dev nD) (t : Fin cfg0.N) (k : Fin 1024) (j : Fin 4096) :
    iblk m c 2 t (ix2 k j) = V m c main_v4 (ix2 k j) := by
  blk_ext [iblk, idx t]
theorem blk3 (c : Dev nD) (t : Fin cfg0.N) (j : Fin 4096) (k : Fin 1024) :
    iblk m c 3 t (ix2 j k) = V m c main_v6 (ix2 j k) := by
  blk_ext [iblk, idx t]
theorem blk4 (c : Dev nD) (t : Fin cfg0.N) (k : Fin 1024) : iblk m c 4 t (ix2 0 k) = V m c main_v8 (ix2 0 k) := by
  blk_ext [iblk, idx t]
theorem blk5 (t : Fin cfg0.N) (y k : Fin 1024) :
    ((cfg0.win 5).blk t).view.emb (ix2 y k) = ix2 ⟨t.val * 1024 + y.val, row_lt t y⟩ k := by
  blk_ext [idx t]

/-- The result window's array after the run. -/
theorem arrAt_eq (c : Dev nD) : (dats m 0 c).arrAt 5 cfg0.N
    = arr (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t hf y => ?_
  blk_simp
  rw [after0_5, out_eq]
  idx_vars y
  refine Eq.trans ?_ (congrArg (arr _ _ _ _ _) (blk5 t y0 y1)).symm
  unfold blockOf arr
  congr 1
  · funext k; exact (blk0 m c t y0 k).trans (v0_at m c _ k)
  · funext k; exact (blk1 m c t k).trans (v2_at m c k)
  · funext k j; exact (blk2 m c t k j).trans (v4_at m c k j)
  · funext j k; exact (blk3 m c t j k).trans (v6_at m c j k)
  · funext k; exact (blk4 m c t k).trans (v8_at m c k)

end Cert.Proof.Mlp

end
-- ==== Proof.Mlp.Reference.lean ====
module

public import proofs.«01_k».proof.Proof.Gen.MlpRefIdeal.Read
public import proofs.«01_k».proof.Proof.Mlp.Result

@[expose] public section

set_option maxRecDepth 16384

noncomputable section

/-! The reference's feed-forward sub-layer, read down to the same function of one row. -/

namespace Cert.Proof.Mlp

open Idealize.ShloMosaic Cert.MlpRefIdeal Cert.MlpRefIdeal.Read

/-- The two products around the squared rectifier, at one place. -/
theorem hid_at (x0 : Vec Ideal S32x2048x1024 .f32) (x1 : Vec Ideal S1x1024 .f32) (x2 : Vec Ideal S1x1024x4096 .f32)
    (x3 : Vec Ideal S1x4096x1024 .f32) (b : Fin 32) (r : Fin 2048) (c : Fin 1024) :
    val_main_v19 (F := Ideal) x0 x1 x2 x3 (ix3 b r c)
      = hidden (fun k => x0 (ix3 b r k)) (fun k => x1 (ix2 0 k)) (fun k j => x2 (ix3 0 k j)) (fun j k => x3 (ix3 0 j k)) c := by
  simp only [val_main_v0, val_main_v1, val_main_v2, val_main_v3, val_main_v4, val_main_v5, val_main_v6, val_main_v7,
    val_main_v8, val_main_v9, val_main_v10, val_main_v11, val_main_v12, val_main_v13, val_main_v14, val_main_v15,
    val_main_v16, val_main_v17, val_main_v18, val_main_v19, val_main_cst, val_main_cst_0, val_main_cst_1,
    val_main_call0_cst, val_main_call0_v0]
  pointwise [dot_S32x2048x1024_S1024x4096_S32x2048x4096_2_0_01_1_n_n, dot_S32x2048x4096_S4096x1024_S32x2048x1024_2_0_01_1_n_n]
  rfl

/-- The reference's result, row by row. -/
theorem ref_eq (x0 : Vec Ideal S32x2048x1024 .f32) (x1 : Vec Ideal S1x1024 .f32) (x2 : Vec Ideal S1x1024x4096 .f32)
    (x3 : Vec Ideal S1x4096x1024 .f32) (x4 : Vec Ideal S1x1024 .f32) :
    val_main_v35 (F := Ideal) x0 x1 x2 x3 x4 = arr x0 x1 x2 x3 x4 := by
  funext i
  idx_vars i
  simp only [val_main_v35, val_main_v34, val_main_v33, val_main_v32, val_main_v31, val_main_v30, val_main_v29,
    val_main_v28, val_main_v27, val_main_v26, val_main_v25, val_main_v24, val_main_v23, val_main_v22, val_main_v21,
    val_main_v20, val_main_cst_2, val_main_cst_3, val_main_cst_4]
  pointwise
  simp only [hid_at]
  rfl

end Cert.Proof.Mlp

end
-- ==== Proof.Mlp.Claims.lean ====
module

public import proofs.«01_k».proof.Defs
public import proofs.«01_k».proof.Proof.Gen.Mlp.Frame
public import proofs.«01_k».proof.Proof.Gen.MlpRefIdeal.Run
public import proofs.«01_k».proof.Proof.Mlp.Result
public import proofs.«01_k».proof.Proof.Mlp.Reference
public import Idealize.ShloMosaic.Adequacy
public import Idealize.ShloMosaic.Init

@[expose] public section

noncomputable section

/-! The claims about the feed-forward sub-layer. -/

namespace Cert.Proof.Mlp

open Idealize.ShloMosaic Idealize.SL.Sem

/-- The call's frame, as printed. -/
theorem frame_kernel [h : Cert.Mlp.Facts] : Cert.quiescent_Mlp := fun m ρ _ => Cert.Mlp.Gen.frame m ρ

/-- The call's frame, idealized. -/
theorem frame_ideal [h : Cert.MlpIdeal.Facts] : Cert.quiescent_MlpIdeal := fun m ρ _ => Cert.MlpIdeal.Gen.frame m ρ

/-- The reference's frame, from its run. -/
theorem frame_reference [h : Cert.MlpRefIdeal.Facts] : Cert.quiescent_MlpRefIdeal := fun m ρ _ =>
  (θ_run Cert.MlpRefIdeal.defs _ _).mono (fun r h => ⟨fun c => (h c).2, Idealize.ShloMosaic.sem_eq_zero_of_no_sems (by decide) r.2⟩)
    (Cert.MlpRefIdeal.Value.run (F := Ideal) m ρ)

/-- No operation was rewritten. -/
theorem preserves : Cert.preserves_Mlp_MlpIdeal := trivial

/-- On equal arguments the call and its reference leave equal results. -/
theorem algebraic [h : Cert.MlpIdeal.Facts] [h' : Cert.MlpRefIdeal.Facts] : Cert.algebraic_MlpIdeal_MlpRefIdeal := by
  intro m ρ m' ρ' _ hagree
  refine ⟨fun c => arr (m ((c.tc : Thread Cert.MlpIdeal.nD Cert.MlpIdeal.τ).loc Cert.MlpIdeal.main_arg0)) (m ((c.tc : Thread Cert.MlpIdeal.nD Cert.MlpIdeal.τ).loc Cert.MlpIdeal.main_arg1))
           (m ((c.tc : Thread Cert.MlpIdeal.nD Cert.MlpIdeal.τ).loc Cert.MlpIdeal.main_arg2)) (m ((c.tc : Thread Cert.MlpIdeal.nD Cert.MlpIdeal.τ).loc Cert.MlpIdeal.main_arg3))
           (m ((c.tc : Thread Cert.MlpIdeal.nD Cert.MlpIdeal.τ).loc Cert.MlpIdeal.main_arg4)), ?_, ?_⟩
  · exact (θ_run Cert.MlpIdeal.defs _ _).mono (fun r h c => ⟨(h c).1.trans (arrAt_eq m c), (h c).2⟩)
      (Cert.MlpIdeal.Value.run_blocks (F := Ideal) m ρ)
  · refine (θ_run Cert.MlpRefIdeal.defs _ _).mono (fun r h c => ⟨(h c).1.trans ?_, (h c).2⟩)
      (Cert.MlpRefIdeal.Value.run (F := Ideal) m' ρ')
    obtain ⟨h0, h1, h2, h3, h4⟩ := hagree c
    rw [Cert.MlpRefIdeal.Read.val_main_v35_eq, ref_eq, h0, h1, h2, h3, h4]

end Cert.Proof.Mlp

end
-- ==== Proof.Mix.Result.lean ====
module

public import proofs.«01_k».proof.Proof.Gen.MixIdeal.Value
public import proofs.«01_k».proof.Proof.Rows
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

/-! What the gated merge's run leaves in its result: every row of the activations, with the two branches' rows, through
    `mixRow`. The body handles a block of `1024` rows as four stores of `256` rows. -/

namespace Cert.Proof.Mix

open Idealize.ShloMosaic Idealize.ShloMosaic.TcCoe Idealize.SL.Sem Cert.MixIdeal Cert.MixIdeal.Gen
open Idealize.ShloMosaic.Pipeline (Dat)
open scoped BigOperators

section
variable (x : Vec Ideal S256x1024 .f32) (oa ob : Vec Ideal S256x512 .bf16) (g1 : Vec Ideal S1x1024 .f32)
  (wg : Vec Ideal S1024x2048 .bf16) (bg : Vec Ideal S1x2048 .f32) (wa wb : Vec Ideal S512x1024 .bf16)
  (wo : Vec Ideal S1024x1024 .bf16) (g2 : Vec Ideal S1x1024 .f32) (r : Fin 256) (c : Fin 1024)

/-- The first store's payload, at one place. -/
theorem pay_a : k0_pay6 (k0_pay2 x) (k0_pay3 x g1 wg bg) (k0_pay4 ob wb) (k0_pay5 x g1 wg bg oa wa) wo g2 (ix2 r c)
    = mixRow (fun k => x (ix2 r k)) (fun k => oa (ix2 r k)) (fun k => ob (ix2 r k)) (fun k => g1 (ix2 0 k))
        (fun k j => wg (ix2 k j)) (fun j => bg (ix2 0 j)) (fun k j => wa (ix2 k j)) (fun k j => wb (ix2 k j))
        (fun k j => wo (ix2 k j)) (fun k => g2 (ix2 0 k)) c := by
  unfold_payloads
  pointwise [dot_S256x1024_S1024x2048_S256x2048_1_0_0_1_n_n, dot_S256x512_S512x1024_S256x1024_1_0_0_1_n_n,
    dot_S256x1024_S1024x1024_S256x1024_1_0_0_1_n_n]
  rfl

/-- The second store's payload, at one place. -/
theorem pay_b : k0_pay11 (k0_pay7 x) (k0_pay9 g2) (k0_pay10 (k0_pay8 x g1) wg bg oa wa ob wb wo) (ix2 r c)
    = mixRow (fun k => x (ix2 r k)) (fun k => oa (ix2 r k)) (fun k => ob (ix2 r k)) (fun k => g1 (ix2 0 k))
        (fun k j => wg (ix2 k j)) (fun j => bg (ix2 0 j)) (fun k j => wa (ix2 k j)) (fun k j => wb (ix2 k j))
        (fun k j => wo (ix2 k j)) (fun k => g2 (ix2 0 k)) c := by
  unfold_payloads
  pointwise [dot_S256x1024_S1024x2048_S256x2048_1_0_0_1_n_n, dot_S256x512_S512x1024_S256x1024_1_0_0_1_n_n,
    dot_S256x1024_S1024x1024_S256x1024_1_0_0_1_n_n]
  rfl

/-- The third store's payload, at one place. -/
theorem pay_c : k0_pay16 (k0_pay12 x) (k0_pay13 x g1 wg bg) (k0_pay14 oa wa) (k0_pay15 ob) wb wo g2 (ix2 r c)
    = mixRow (fun k => x (ix2 r k)) (fun k => oa (ix2 r k)) (fun k => ob (ix2 r k)) (fun k => g1 (ix2 0 k))
        (fun k j => wg (ix2 k j)) (fun j => bg (ix2 0 j)) (fun k j => wa (ix2 k j)) (fun k j => wb (ix2 k j))
        (fun k j => wo (ix2 k j)) (fun k => g2 (ix2 0 k)) c := by
  unfold_payloads
  pointwise [dot_S256x1024_S1024x2048_S256x2048_1_0_0_1_n_n, dot_S256x512_S512x1024_S256x1024_1_0_0_1_n_n,
    dot_S256x1024_S1024x1024_S256x1024_1_0_0_1_n_n]
  rfl

/-- The last store's payload, at one place. -/
theorem pay_d : k0_pay1 (k0_pay17 x) (k0_pay20 (k0_pay17 x) (k0_pay18 g1) (k0_pay19 x) wg bg oa wa ob wb wo) (k0_pay21 g2)
      (k0_pay22 (k0_pay17 x) (k0_pay18 g1) (k0_pay19 x) wg bg oa wa ob wb wo) (ix2 r c)
    = mixRow (fun k => x (ix2 r k)) (fun k => oa (ix2 r k)) (fun k => ob (ix2 r k)) (fun k => g1 (ix2 0 k))
        (fun k j => wg (ix2 k j)) (fun j => bg (ix2 0 j)) (fun k j => wa (ix2 k j)) (fun k j => wb (ix2 k j))
        (fun k j => wo (ix2 k j)) (fun k => g2 (ix2 0 k)) c := by
  unfold_payloads
  pointwise [dot_S256x1024_S1024x2048_S256x2048_1_0_0_1_n_n, dot_S256x512_S512x1024_S256x1024_1_0_0_1_n_n,
    dot_S256x1024_S1024x1024_S256x1024_1_0_0_1_n_n]
  rfl

end

section
variable (x0 : Vec Ideal S1024x1024 .f32) (x1 x2 : Vec Ideal S1024x512 .bf16) (x3 : Vec Ideal S1x1024 .f32)
  (x4 : Vec Ideal S1024x2048 .bf16) (x5 : Vec Ideal S1x2048 .f32) (x6 x7 : Vec Ideal S512x1024 .bf16)
  (x8 : Vec Ideal S1024x1024 .bf16) (x9 : Vec Ideal S1x1024 .f32)

/-- What the body leaves in its result block: every row of the block through `mixRow`. -/
def blockOf (i : S1024x1024.Idx) : Elt Ideal .f32 :=
  mixRow (fun k => x0 (ix2 (i 0) k)) (fun k => x1 (ix2 (i 0) k)) (fun k => x2 (ix2 (i 0) k)) (fun k => x3 (ix2 0 k))
    (fun k j => x4 (ix2 k j)) (fun j => x5 (ix2 0 j)) (fun k j => x6 (ix2 k j)) (fun k j => x7 (ix2 k j))
    (fun k j => x8 (ix2 k j)) (fun k => x9 (ix2 0 k)) (i 1)

/-- The four stores tile the block, and each is `blockOf` at its rows. -/
theorem out_eq : out0_10 x0 x1 x2 x3 x4 x5 x6 x7 x8 x9 = blockOf x0 x1 x2 x3 x4 x5 x6 x7 x8 x9 := by
  funext y
  unfold out0_10
  unfold k0_pay23 k0_pay24 k0_pay25
  refine View.canon_append_of_piecesOf (blockOf x0 x1 x2 x3 x4 x5 x6 x7 x8 x9) [] [_, _, _, _] ⟨?_, ?_, ?_, ?_, trivial⟩ y
    (cover0_10 _ _ _ _ y)
  · intro z; idx_vars z
    refine (pay_d _ _ _ _ _ _ _ _ _ _ _ _).trans ?_
    change _ = blockOf x0 x1 x2 x3 x4 x5 x6 x7 x8 x9 (r0_11.toLoadRect.idx (ix2 z0 z1))
    unfold blockOf; pointwise; try rfl
  · intro z; idx_vars z
    refine (pay_c _ _ _ _ _ _ _ _ _ _ _ _).trans ?_
    change _ = blockOf x0 x1 x2 x3 x4 x5 x6 x7 x8 x9 (r0_9.toLoadRect.idx (ix2 z0 z1))
    unfold blockOf; pointwise; try rfl
  · intro z; idx_vars z
    refine (pay_b _ _ _ _ _ _ _ _ _ _ _ _).trans ?_
    change _ = blockOf x0 x1 x2 x3 x4 x5 x6 x7 x8 x9 (r0_7.toLoadRect.idx (ix2 z0 z1))
    unfold blockOf; pointwise; try rfl
  · intro z; idx_vars z
    refine (pay_a _ _ _ _ _ _ _ _ _ _ _ _).trans ?_
    change _ = blockOf x0 x1 x2 x3 x4 x5 x6 x7 x8 x9 (r0_0.toLoadRect.idx (ix2 z0 z1))
    unfold blockOf; pointwise; try rfl

end

variable (m : (ℓ : Loc nD τ sig) → Buf (Elt Ideal) ℓ)

/-- Which block each window stages at the point `t`: the row windows rows from `1024 t`, the others their whole array. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![t.val, 0] :=
  (by decide +kernel : ∀ t : Fin grid0.N, _)

/-- The result array of the run: every row of the activations, with its branches' rows, through `mixRow`. -/
def arr (x0 : Vec Ideal S32x2048x1024 .f32) (x1 x2 : Vec Ideal S32x2048x512 .bf16) (x3 : Vec Ideal S1x1024 .f32)
    (x4 : Vec Ideal S1x1024x4256 .f32) (x5 : Vec Ideal S1x2048 .f32) (x6 x7 : Vec Ideal S1x512x1024 .f32)
    (x8 : Vec Ideal S1x1024x1024 .f32) (x9 : Vec Ideal S1x1024 .f32) (i : S65536x1024.Idx) : Elt Ideal .f32 :=
  mixRow (fun k => x0 (ix3 ⟨(i 0).val / 2048, by have : (i 0).val < 65536 := (i 0).isLt; omega⟩ ⟨(i 0).val % 2048, by omega⟩ k))
    (fun k => x1 (ix3 ⟨(i 0).val / 2048, by have : (i 0).val < 65536 := (i 0).isLt; omega⟩ ⟨(i 0).val % 2048, by omega⟩ k))
    (fun k => x2 (ix3 ⟨(i 0).val / 2048, by have : (i 0).val < 65536 := (i 0).isLt; omega⟩ ⟨(i 0).val % 2048, by omega⟩ k))
    (fun k => x3 (ix2 0 k)) (fun k j => x4 (ix3 0 k ⟨2208 + j.val, by omega⟩)) (fun j => x5 (ix2 0 j))
    (fun k j => x6 (ix3 0 k j)) (fun k j => x7 (ix3 0 k j)) (fun k j => x8 (ix3 0 k j)) (fun k => x9 (ix2 0 k)) (i 1)

section
variable (c : Dev nD)
theorem v0_at (r : Fin 65536) (k : Fin 1024) : V m c main_v0 (ix2 r k)
    = m ((c : Thread nD τ).loc main_arg0) (ix3 ⟨r.val / 2048, by omega⟩ ⟨r.val % 2048, by omega⟩ k) := by
  unfold V; after_reads_at
theorem v4_at (r : Fin 65536) (k : Fin 512) : V m c main_v4 (ix2 r k)
    = m ((c : Thread nD τ).loc main_arg1) (ix3 ⟨r.val / 2048, by omega⟩ ⟨r.val % 2048, by omega⟩ k) := by
  unfold V; after_reads_at
theorem v5_at (r : Fin 65536) (k : Fin 512) : V m c main_v5 (ix2 r k)
    = m ((c : Thread nD τ).loc main_arg2) (ix3 ⟨r.val / 2048, by omega⟩ ⟨r.val % 2048, by omega⟩ k) := by
  unfold V; after_reads_at
theorem v7_at (k : Fin 1024) : V m c main_v7 (ix2 0 k)
    = m ((c : Thread nD τ).loc main_arg3) (ix2 0 k) := by
  unfold V; after_reads_at
theorem v3_at (k : Fin 1024) (j : Fin 2048) : V m c main_v3 (ix2 k j)
    = m ((c : Thread nD τ).loc main_arg4) (ix3 0 k ⟨2208 + j.val, by omega⟩) := by
  unfold V; after_reads_at
theorem v9_at (j : Fin 2048) : V m c main_v9 (ix2 0 j)
    = m ((c : Thread nD τ).loc main_arg5) (ix2 0 j) := by
  unfold V; after_reads_at
theorem v11_at (k : Fin 512) (j : Fin 1024) : V m c main_v11 (ix2 k j)
    = m ((c : Thread nD τ).loc main_arg6) (ix3 0 k j) := by
  unfold V; after_reads_at
theorem v13_at (k : Fin 512) (j : Fin 1024) : V m c main_v13 (ix2 k j)
    = m ((c : Thread nD τ).loc main_arg7) (ix3 0 k j) := by
  unfold V; after_reads_at
theorem v15_at (k : Fin 1024) (j : Fin 1024) : V m c main_v15 (ix2 k j)
    = m ((c : Thread nD τ).loc main_arg8) (ix3 0 k j) := by
  unfold V; after_reads_at
theorem v17_at (k : Fin 1024) : V m c main_v17 (ix2 0 k)
    = m ((c : Thread nD τ).loc main_arg9) (ix2 0 k) := by
  unfold V; after_reads_at

theorem row_lt (t : Fin cfg0.N) (y : Fin 1024) : t.val * 1024 + y.val < 65536 := by
  have h : t.val < 64 := N_0 ▸ t.isLt
  omega

theorem blk0 (t : Fin cfg0.N) (y : Fin 1024) (k : Fin 1024) :
    iblk m c 0 t (ix2 y k) = V m c main_v0 (ix2 ⟨t.val * 1024 + y.val, row_lt t y⟩ k) := by
  blk_ext [iblk, idx t]
theorem blk1 (t : Fin cfg0.N) (y : Fin 1024) (k : Fin 512) :
    iblk m c 1 t (ix2 y k) = V m c main_v4 (ix2 ⟨t.val * 1024 + y.val, row_lt t y⟩ k) := by
  blk_ext [iblk, idx t]
theorem blk2 (t : Fin cfg0.N) (y : Fin 1024) (k : Fin 512) :
    iblk m c 2 t (ix2 y k) = V m c main_v5 (ix2 ⟨t.val * 1024 + y.val, row_lt t y⟩ k) := by
  blk_ext [iblk, idx t]
theorem blk3 (t : Fin cfg0.N) (k : Fin 1024) : iblk m c 3 t (ix2 0 k) = V m c main_v7 (ix2 0 k) := by
  blk_ext [iblk, idx t]
theorem blk4 (t : Fin cfg0.N) (k : Fin 1024) (j : Fin 2048) : iblk m c 4 t (ix2 k j) = V m c main_v3 (ix2 k j) := by
  blk_ext [iblk, idx t]
theorem blk5 (t : Fin cfg0.N) (j : Fin 2048) : iblk m c 5 t (ix2 0 j) = V m c main_v9 (ix2 0 j) := by
  blk_ext [iblk, idx t]
theorem blk6 (t : Fin cfg0.N) (k : Fin 512) (j : Fin 1024) : iblk m c 6 t (ix2 k j) = V m c main_v11 (ix2 k j) := by
  blk_ext [iblk, idx t]
theorem blk7 (t : Fin cfg0.N) (k : Fin 512) (j : Fin 1024) : iblk m c 7 t (ix2 k j) = V m c main_v13 (ix2 k j) := by
  blk_ext [iblk, idx t]
theorem blk8 (t : Fin cfg0.N) (k : Fin 1024) (j : Fin 1024) : iblk m c 8 t (ix2 k j) = V m c main_v15 (ix2 k j) := by
  blk_ext [iblk, idx t]
theorem blk9 (t : Fin cfg0.N) (k : Fin 1024) : iblk m c 9 t (ix2 0 k) = V m c main_v17 (ix2 0 k) := by
  blk_ext [iblk, idx t]
theorem blk10 (t : Fin cfg0.N) (y k : Fin 1024) :
    ((cfg0.win 10).blk t).view.emb (ix2 y k) = ix2 ⟨t.val * 1024 + y.val, row_lt t y⟩ k := by
  blk_ext [idx t]

/-- The result window's array after the run. -/
theorem arrAt_eq : (dats m 0 c).arrAt 10 cfg0.N
    = arr (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) := by
  refine (dats m 0 c).arrAt_eq_of_covers 10 _ (by decide +kernel) fun t hf y => ?_
  blk_simp
  rw [after0_10, out_eq]
  idx_vars y
  refine Eq.trans ?_ (congrArg (arr _ _ _ _ _ _ _ _ _ _) (blk10 t y0 y1)).symm
  unfold blockOf arr
  congr 1
  · funext k; exact (blk0 m c t y0 k).trans (v0_at m c _ k)
  · funext k; exact (blk1 m c t y0 k).trans (v4_at m c _ k)
  · funext k; exact (blk2 m c t y0 k).trans (v5_at m c _ k)
  · funext k; exact (blk3 m c t k).trans (v7_at m c k)
  · funext k j; exact (blk4 m c t k j).trans (v3_at m c k j)
  · funext k; exact (blk5 m c t k).trans (v9_at m c k)
  · funext k j; exact (blk6 m c t k j).trans (v11_at m c k j)
  · funext k j; exact (blk7 m c t k j).trans (v13_at m c k j)
  · funext k j; exact (blk8 m c t k j).trans (v15_at m c k j)
  · funext k; exact (blk9 m c t k).trans (v17_at m c k)

end

end Cert.Proof.Mix

end
-- ==== Proof.Mix.Reference.lean ====
module

public import proofs.«01_k».proof.Proof.Gen.MixRefIdeal.Read
public import proofs.«01_k».proof.Proof.Mix.Result

@[expose] public section

set_option maxRecDepth 16384

noncomputable section

/-! The reference's gated merge, read down to the same function of one row. -/

namespace Cert.Proof.Mix

open Idealize.ShloMosaic Cert.MixRefIdeal Cert.MixRefIdeal.Read

section
variable (x0 : Vec Ideal S32x2048x1024 .f32) (x1 x2 : Vec Ideal S32x2048x512 .bf16) (x3 : Vec Ideal S1x1024 .f32)
    (x4 : Vec Ideal S1x1024x4256 .f32) (x5 : Vec Ideal S1x2048 .f32) (x6 x7 : Vec Ideal S1x512x1024 .f32)
    (x8 : Vec Ideal S1x1024x1024 .f32) (x9 : Vec Ideal S1x1024 .f32)

/-- The merged branches at one place. -/
theorem merged_at (b : Fin 32) (r : Fin 2048) (c : Fin 1024) :
    val_main_v43 (F := Ideal) x0 x1 x2 x3 x4 x5 x6 x7 (ix3 b r c)
      = merged (fun k => x0 (ix3 b r k)) (fun k => x1 (ix3 b r k)) (fun k => x2 (ix3 b r k)) (fun k => x3 (ix2 0 k))
          (fun k j => x4 (ix3 0 k ⟨2208 + j.val, by omega⟩)) (fun j => x5 (ix2 0 j))
          (fun k j => x6 (ix3 0 k j)) (fun k j => x7 (ix3 0 k j)) c := by
  simp only [val_main_v0, val_main_v1, val_main_v2, val_main_v3, val_main_v4, val_main_v5, val_main_v6, val_main_v7,
    val_main_v8, val_main_v9, val_main_v10, val_main_v11, val_main_v12, val_main_v13, val_main_v14, val_main_v15,
    val_main_v22, val_main_v23, val_main_v24, val_main_v25, val_main_v26, val_main_v27, val_main_v28, val_main_v29,
    val_main_v30, val_main_v31, val_main_v32, val_main_v33, val_main_v34, val_main_v35, val_main_v36, val_main_v37,
    val_main_v38, val_main_v39, val_main_v40, val_main_v41, val_main_v42, val_main_v43,
    val_main_cst, val_main_cst_0, val_main_cst_1, val_main_cst_2, val_main_cst_3]
  pointwise [dot_S32x2048x1024_S1024x4256_S32x2048x4256_2_0_01_1_n_n, dot_S32x2048x512_S512x1024_S32x2048x1024_2_0_01_1_n_n]
  rfl

/-- Its output projection at one place. -/
theorem proj_at (b : Fin 32) (r : Fin 2048) (c : Fin 1024) :
    val_main_v45 (F := Ideal) x0 x1 x2 x3 x4 x5 x6 x7 x8 (ix3 b r c)
      = ∑ n, merged (fun k => x0 (ix3 b r k)) (fun k => x1 (ix3 b r k)) (fun k => x2 (ix3 b r k)) (fun k => x3 (ix2 0 k))
          (fun k j => x4 (ix3 0 k ⟨2208 + j.val, by omega⟩)) (fun j => x5 (ix2 0 j))
          (fun k j => x6 (ix3 0 k j)) (fun k j => x7 (ix3 0 k j)) n * x8 (ix3 0 n c) := by
  simp only [val_main_v45, val_main_v44]
  pointwise [dot_S32x2048x1024_S1024x1024_S32x2048x1024_2_0_01_1_n_n]
  simp only [merged_at]

/-- The reference's result, row by row. -/
theorem ref_eq : val_main_v61 (F := Ideal) x0 x1 x2 x3 x4 x5 x6 x7 x8 x9 = arr x0 x1 x2 x3 x4 x5 x6 x7 x8 x9 := by
  funext i
  idx_vars i
  simp only [val_main_v46, val_main_v47, val_main_v48, val_main_v49, val_main_v50, val_main_v51, val_main_v52,
    val_main_v53, val_main_v54, val_main_v55, val_main_v56, val_main_v57, val_main_v58, val_main_v59, val_main_v60,
    val_main_v61, val_main_cst_4, val_main_cst_5, val_main_cst_6]
  pointwise
  simp only [proj_at]
  rfl

end

end Cert.Proof.Mix

end
-- ==== Proof.Mix.Claims.lean ====
module

public import proofs.«01_k».proof.Defs
public import proofs.«01_k».proof.Proof.Gen.Mix.Frame
public import proofs.«01_k».proof.Proof.Gen.MixRefIdeal.Run
public import proofs.«01_k».proof.Proof.Mix.Result
public import proofs.«01_k».proof.Proof.Mix.Reference
public import Idealize.ShloMosaic.Adequacy
public import Idealize.ShloMosaic.Init

@[expose] public section

noncomputable section

/-! The claims about the gated merge of the two branches. -/

namespace Cert.Proof.Mix

open Idealize.ShloMosaic Idealize.SL.Sem

/-- The call's frame, as printed. -/
theorem frame_kernel [h : Cert.Mix.Facts] : Cert.quiescent_Mix := fun m ρ _ => Cert.Mix.Gen.frame m ρ

/-- The call's frame, idealized. -/
theorem frame_ideal [h : Cert.MixIdeal.Facts] : Cert.quiescent_MixIdeal := fun m ρ _ => Cert.MixIdeal.Gen.frame m ρ

/-- The reference's frame, from its run. -/
theorem frame_reference [h : Cert.MixRefIdeal.Facts] : Cert.quiescent_MixRefIdeal := fun m ρ _ =>
  (θ_run Cert.MixRefIdeal.defs _ _).mono (fun r h => ⟨fun c => (h c).2, Idealize.ShloMosaic.sem_eq_zero_of_no_sems (by decide) r.2⟩)
    (Cert.MixRefIdeal.Value.run (F := Ideal) m ρ)

/-- No operation was rewritten. -/
theorem preserves : Cert.preserves_Mix_MixIdeal := trivial

/-- On equal arguments the call and its reference leave equal results. -/
theorem algebraic [h : Cert.MixIdeal.Facts] [h' : Cert.MixRefIdeal.Facts] : Cert.algebraic_MixIdeal_MixRefIdeal := by
  intro m ρ m' ρ' _ hagree
  refine ⟨fun c => arr (m ((c.tc : Thread Cert.MixIdeal.nD Cert.MixIdeal.τ).loc Cert.MixIdeal.main_arg0)) (m ((c.tc : Thread Cert.MixIdeal.nD Cert.MixIdeal.τ).loc Cert.MixIdeal.main_arg1))
           (m ((c.tc : Thread Cert.MixIdeal.nD Cert.MixIdeal.τ).loc Cert.MixIdeal.main_arg2)) (m ((c.tc : Thread Cert.MixIdeal.nD Cert.MixIdeal.τ).loc Cert.MixIdeal.main_arg3))
           (m ((c.tc : Thread Cert.MixIdeal.nD Cert.MixIdeal.τ).loc Cert.MixIdeal.main_arg4)) (m ((c.tc : Thread Cert.MixIdeal.nD Cert.MixIdeal.τ).loc Cert.MixIdeal.main_arg5))
           (m ((c.tc : Thread Cert.MixIdeal.nD Cert.MixIdeal.τ).loc Cert.MixIdeal.main_arg6)) (m ((c.tc : Thread Cert.MixIdeal.nD Cert.MixIdeal.τ).loc Cert.MixIdeal.main_arg7))
           (m ((c.tc : Thread Cert.MixIdeal.nD Cert.MixIdeal.τ).loc Cert.MixIdeal.main_arg8)) (m ((c.tc : Thread Cert.MixIdeal.nD Cert.MixIdeal.τ).loc Cert.MixIdeal.main_arg9)), ?_, ?_⟩
  · exact (θ_run Cert.MixIdeal.defs _ _).mono (fun r h c => ⟨(h c).1.trans (arrAt_eq m c), (h c).2⟩)
      (Cert.MixIdeal.Value.run_blocks (F := Ideal) m ρ)
  · refine (θ_run Cert.MixRefIdeal.defs _ _).mono (fun r h c => ⟨(h c).1.trans ?_, (h c).2⟩)
      (Cert.MixRefIdeal.Value.run (F := Ideal) m' ρ')
    obtain ⟨h0, h1, h2, h3, h4, h5, h6, h7, h8, h9⟩ := hagree c
    rw [Cert.MixRefIdeal.Read.val_main_v61_eq, ref_eq, h0, h1, h2, h3, h4, h5, h6, h7, h8, h9]

end Cert.Proof.Mix

end
-- ==== Proof.Attn.Stub.lean ====
module

public import proofs.«01_k».proof.Proof.Gen.AttnIdeal.Value
public import proofs.«01_k».proof.Proof.Gen.AttnRefIdeal.Run
public import proofs.«01_k».proof.Proof.Gen.AttnRefIdeal.Read

@[expose] public section

namespace Cert.Attend

end Cert.Attend
-- ==== Proof.Attn.Blocks.lean ====
/-
  A tile's weights as the kernel stores them: for every block of 256 keys eight pieces of 32 rows, each the power of two
  of the block's rows plus one row of shifts.
-/
module

public import proofs.«01_k».proof.Proof.Gen.AttnIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Attend

open Idealize.ShloMosaic Idealize.ShloMosaic.TcCoe Idealize.SL.Sem Cert.AttnIdeal Cert.AttnIdeal.Gen
open scoped BigOperators

/-- Thirty-two rows of a block, from row `r`: two to the power of the rows plus the shifts `cv`. -/
def expPiece (blk : FVec Ideal S256x512 .f32) (cv : FVec Ideal S1x512 .f32) (r : ℕ) (h : S256x512.Slices ![r, 0] S32x512) :
    FVec Ideal S1x32x512 .bf16 :=
  shapeCast S1x32x512
    (truncf .bf16 (exp2 (addf (extractStridedSlice S32x512 ![r, 0] blk h) (broadcastTo S32x512 cv broadcasts_S1x512_S32x512)))
      bitsLt_bf16_f32) shapeCasts_S32x512_S1x32x512

theorem expPiece_apply (blk : FVec Ideal S256x512 .f32) (cv : FVec Ideal S1x512 .f32) (r : ℕ) (h : S256x512.Slices ![r, 0] S32x512)
    (a : Fin 1) (k : Fin 32) (q : Fin 512) (hr : r + k.val < 256) :
    expPiece blk cv r h (ix3 a k q) = Ideal.exp2 (blk (ix2 ⟨r + k.val, hr⟩ q) + cv (ix2 0 q)) := by
  unfold expPiece
  pointwise
  rfl

/-- Where a piece goes: the buffer `buf` from row `r`. -/
abbrev pieceRect (buf r : ℕ) (h : ∀ a, (![buf, r, 0] : Fin 3 → ℕ) a + S1x32x512.size a ≤ S3x2048x512.size a) : Rect S3x2048x512 :=
  Rect.unit ![buf, r, 0] S1x32x512.size h

/-- One stored piece, on the buffer `buf` from row `r`. -/
def stored (buf r : ℕ) (h : ∀ a, (![buf, r, 0] : Fin 3 → ℕ) a + S1x32x512.size a ≤ S3x2048x512.size a)
    (w : FVec Ideal S1x32x512 .bf16) : View.Piece (Elt Ideal) S3x2048x512 .bf16 :=
  ⟨pieceRect buf r h, w⟩

/-- A stored piece, read at a row it holds. -/
theorem canon_stored_mem (buf r : ℕ) (h : ∀ a, (![buf, r, 0] : Fin 3 → ℕ) a + S1x32x512.size a ≤ S3x2048x512.size a)
    (w : FVec Ideal S1x32x512 .bf16) (L : List (View.Piece (Elt Ideal) S3x2048x512 .bf16)) (b : Fin 3) (k : Fin 2048) (q : Fin 512)
    (hb : b.val = buf) (hk : r ≤ k.val) (hk' : k.val - r < 32) :
    View.canon (stored buf r h w :: L) (ix3 b k q) = w (ix3 0 ⟨k.val - r, hk'⟩ q) := by
  have e : (pieceRect buf r h).emb (ix3 0 ⟨k.val - r, hk'⟩ q) = ix3 b k q := by
    funext a
    apply Fin.ext
    fin_cases a
    · show buf + 1 * 0 = b.val; omega
    · show r + 1 * (k.val - r) = k.val; omega
    · show 0 + 1 * q.val = q.val; omega
  rw [← e]
  exact View.canon_cons_emb _ _ _ _

/-- A stored piece, read at a row before it. -/
theorem canon_stored_lt (buf r : ℕ) (h : ∀ a, (![buf, r, 0] : Fin 3 → ℕ) a + S1x32x512.size a ≤ S3x2048x512.size a)
    (w : FVec Ideal S1x32x512 .bf16) (L : List (View.Piece (Elt Ideal) S3x2048x512 .bf16)) (b : Fin 3) (k : Fin 2048) (q : Fin 512)
    (hk : k.val < r) :
    View.canon (stored buf r h w :: L) (ix3 b k q) = View.canon L (ix3 b k q) := by
  refine View.canon_cons_of_not_mem _ _ fun hm => ?_
  obtain ⟨x, hx⟩ := (pieceRect buf r h).exists_idx_of_mem hm
  have := congrArg (fun y : S3x2048x512.Idx => (y 1).val) hx
  change r + 1 * (x 1).val = k.val at this
  omega

/-- A stored piece of another buffer. -/
theorem canon_stored_ne (buf r : ℕ) (h : ∀ a, (![buf, r, 0] : Fin 3 → ℕ) a + S1x32x512.size a ≤ S3x2048x512.size a)
    (w : FVec Ideal S1x32x512 .bf16) (L : List (View.Piece (Elt Ideal) S3x2048x512 .bf16)) (b : Fin 3) (k : Fin 2048) (q : Fin 512)
    (hb : b.val ≠ buf) : View.canon (stored buf r h w :: L) (ix3 b k q) = View.canon L (ix3 b k q) := by
  refine View.canon_cons_of_not_mem _ _ fun hm => hb ?_
  obtain ⟨x, hx⟩ := (pieceRect buf r h).exists_idx_of_mem hm
  have h1 := congrArg (fun y : S3x2048x512.Idx => (y 0).val) hx
  change buf + 1 * (x 0).val = b.val at h1
  have h2 : (x 0).val < 1 := (x 0).isLt
  omega

/-- Eight stored pieces of another buffer. -/
theorem canon_skip {buf r0 r1 r2 r3 r4 r5 r6 r7 : ℕ} {L : List (View.Piece (Elt Ideal) S3x2048x512 .bf16)} {b : Fin 3} (hb : b.val ≠ buf)
    {h0 : ∀ a, (![buf, r0, 0] : Fin 3 → ℕ) a + S1x32x512.size a ≤ S3x2048x512.size a}
    {h1 : ∀ a, (![buf, r1, 0] : Fin 3 → ℕ) a + S1x32x512.size a ≤ S3x2048x512.size a}
    {h2 : ∀ a, (![buf, r2, 0] : Fin 3 → ℕ) a + S1x32x512.size a ≤ S3x2048x512.size a}
    {h3 : ∀ a, (![buf, r3, 0] : Fin 3 → ℕ) a + S1x32x512.size a ≤ S3x2048x512.size a}
    {h4 : ∀ a, (![buf, r4, 0] : Fin 3 → ℕ) a + S1x32x512.size a ≤ S3x2048x512.size a}
    {h5 : ∀ a, (![buf, r5, 0] : Fin 3 → ℕ) a + S1x32x512.size a ≤ S3x2048x512.size a}
    {h6 : ∀ a, (![buf, r6, 0] : Fin 3 → ℕ) a + S1x32x512.size a ≤ S3x2048x512.size a}
    {h7 : ∀ a, (![buf, r7, 0] : Fin 3 → ℕ) a + S1x32x512.size a ≤ S3x2048x512.size a}
    {w0 w1 w2 w3 w4 w5 w6 w7 : FVec Ideal S1x32x512 .bf16} {v : EReal} {k : Fin 2048} {q : Fin 512} (hL : View.canon L (ix3 b k q) = v) :
    View.canon (stored buf r0 h0 w0 :: stored buf r1 h1 w1 :: stored buf r2 h2 w2 :: stored buf r3 h3 w3 :: stored buf r4 h4 w4 ::
      stored buf r5 h5 w5 :: stored buf r6 h6 w6 :: stored buf r7 h7 w7 :: L) (ix3 b k q) = v := by
  rw [canon_stored_ne _ _ _ _ _ _ _ _ hb, canon_stored_ne _ _ _ _ _ _ _ _ hb, canon_stored_ne _ _ _ _ _ _ _ _ hb,
    canon_stored_ne _ _ _ _ _ _ _ _ hb, canon_stored_ne _ _ _ _ _ _ _ _ hb, canon_stored_ne _ _ _ _ _ _ _ _ hb,
    canon_stored_ne _ _ _ _ _ _ _ _ hb, canon_stored_ne _ _ _ _ _ _ _ _ hb, hL]

/-- A block of keys: its eight pieces, over the earlier blocks' pieces. -/
theorem canon_block {buf off : ℕ} {blk : FVec Ideal S256x512 .f32} {cv : FVec Ideal S1x512 .f32}
    (f : Fin 2048 → Fin 512 → EReal) {L : List (View.Piece (Elt Ideal) S3x2048x512 .bf16)} {b : Fin 3} (hb : b.val = buf)
    {h0 : ∀ a, (![buf, off, 0] : Fin 3 → ℕ) a + S1x32x512.size a ≤ S3x2048x512.size a}
    {h1 : ∀ a, (![buf, off + 32, 0] : Fin 3 → ℕ) a + S1x32x512.size a ≤ S3x2048x512.size a}
    {h2 : ∀ a, (![buf, off + 64, 0] : Fin 3 → ℕ) a + S1x32x512.size a ≤ S3x2048x512.size a}
    {h3 : ∀ a, (![buf, off + 96, 0] : Fin 3 → ℕ) a + S1x32x512.size a ≤ S3x2048x512.size a}
    {h4 : ∀ a, (![buf, off + 128, 0] : Fin 3 → ℕ) a + S1x32x512.size a ≤ S3x2048x512.size a}
    {h5 : ∀ a, (![buf, off + 160, 0] : Fin 3 → ℕ) a + S1x32x512.size a ≤ S3x2048x512.size a}
    {h6 : ∀ a, (![buf, off + 192, 0] : Fin 3 → ℕ) a + S1x32x512.size a ≤ S3x2048x512.size a}
    {h7 : ∀ a, (![buf, off + 224, 0] : Fin 3 → ℕ) a + S1x32x512.size a ≤ S3x2048x512.size a}
    (hf : ∀ (k : Fin 2048) (q : Fin 512) (h : k.val - off < 256), off ≤ k.val →
      f k q = Ideal.exp2 (blk (ix2 ⟨k.val - off, h⟩ q) + cv (ix2 0 q)))
    (hL : ∀ (k : Fin 2048) (q : Fin 512), k.val < off → View.canon L (ix3 b k q) = f k q) (k : Fin 2048) (q : Fin 512) (hk : k.val < off + 256) :
    View.canon (stored buf (off + 224) h7 (expPiece blk cv 224 slices_S256x512_o224_0_S32x512) :: stored buf (off + 192) h6 (expPiece blk cv 192 slices_S256x512_o192_0_S32x512) ::
      stored buf (off + 160) h5 (expPiece blk cv 160 slices_S256x512_o160_0_S32x512) :: stored buf (off + 128) h4 (expPiece blk cv 128 slices_S256x512_o128_0_S32x512) ::
      stored buf (off + 96) h3 (expPiece blk cv 96 slices_S256x512_o96_0_S32x512) :: stored buf (off + 64) h2 (expPiece blk cv 64 slices_S256x512_o64_0_S32x512) ::
      stored buf (off + 32) h1 (expPiece blk cv 32 slices_S256x512_o32_0_S32x512) :: stored buf off h0 (expPiece blk cv 0 slices_S256x512_o0_0_S32x512) :: L) (ix3 b k q) = f k q := by
  have key : ∀ (r : ℕ) (h : S256x512.Slices ![r, 0] S32x512) (_ : r ≤ 224) (_ : off + r ≤ k.val) (hx : k.val - (off + r) < 32),
      expPiece blk cv r h (ix3 0 ⟨k.val - (off + r), hx⟩ q) = f k q := by
    intro r h hr hk hx
    rw [expPiece_apply _ _ _ _ _ _ _ (show r + (k.val - (off + r)) < 256 by omega), hf k q (by omega) (by omega)]
    congr 4
    apply Fin.ext
    show r + (k.val - (off + r)) = k.val - off
    omega
  by_cases c7 : off + 224 ≤ k.val
  · rw [canon_stored_mem _ _ _ _ _ _ _ _ hb c7 (by omega)]; exact key 224 _ (by omega) c7 (by omega)
  rw [canon_stored_lt _ _ _ _ _ _ _ _ (by omega)]
  by_cases c6 : off + 192 ≤ k.val
  · rw [canon_stored_mem _ _ _ _ _ _ _ _ hb c6 (by omega)]; exact key 192 _ (by omega) c6 (by omega)
  rw [canon_stored_lt _ _ _ _ _ _ _ _ (by omega)]
  by_cases c5 : off + 160 ≤ k.val
  · rw [canon_stored_mem _ _ _ _ _ _ _ _ hb c5 (by omega)]; exact key 160 _ (by omega) c5 (by omega)
  rw [canon_stored_lt _ _ _ _ _ _ _ _ (by omega)]
  by_cases c4 : off + 128 ≤ k.val
  · rw [canon_stored_mem _ _ _ _ _ _ _ _ hb c4 (by omega)]; exact key 128 _ (by omega) c4 (by omega)
  rw [canon_stored_lt _ _ _ _ _ _ _ _ (by omega)]
  by_cases c3 : off + 96 ≤ k.val
  · rw [canon_stored_mem _ _ _ _ _ _ _ _ hb c3 (by omega)]; exact key 96 _ (by omega) c3 (by omega)
  rw [canon_stored_lt _ _ _ _ _ _ _ _ (by omega)]
  by_cases c2 : off + 64 ≤ k.val
  · rw [canon_stored_mem _ _ _ _ _ _ _ _ hb c2 (by omega)]; exact key 64 _ (by omega) c2 (by omega)
  rw [canon_stored_lt _ _ _ _ _ _ _ _ (by omega)]
  by_cases c1 : off + 32 ≤ k.val
  · rw [canon_stored_mem _ _ _ _ _ _ _ _ hb c1 (by omega)]; exact key 32 _ (by omega) c1 (by omega)
  rw [canon_stored_lt _ _ _ _ _ _ _ _ (by omega)]
  by_cases c0 : off ≤ k.val
  · rw [canon_stored_mem _ _ _ _ _ _ _ _ hb c0 (by omega)]; exact key 0 _ (by omega) c0 (by omega)
  rw [canon_stored_lt _ _ _ _ _ _ _ _ (by omega)]
  exact hL k q (by omega)

end Cert.Attend
-- ==== Proof.Attn.Rank.lean ====
/-
  The blocks a query attends to.

  The reference sorts the gates of the eight blocks, masked to the blocks before the query's own, and takes the first three positions. The kernel
  counts, for each block, the earlier blocks whose gate is greater, or equal at a lower index. `rank` is that count; a stable descending sort puts
  at position `t` the block of rank `t` (`rank_sortedFrom`), so both choices are the blocks of rank below three (`chosen_iff`).
-/
module

public import Idealize.ShloMosaic.Lib.Pointwise
public import Idealize.ShloMosaic.Lib.SortFacts

@[expose] public section

noncomputable section

namespace Cert.Attend

open Idealize.ShloMosaic

section

variable {n : ℕ} (x : Fin n → EReal)

/-- `a` comes before `b`: a greater gate, or an equal one at a lower index. -/
def Before (a b : Fin n) : Prop := x b < x a ∨ (x a = x b ∧ a < b)

/-- How many positions come before `b`. -/
def rank (b : Fin n) : ℕ := by
  classical exact (Finset.univ.filter fun a => Before x a b).card

theorem before_irrefl (a : Fin n) : ¬ Before x a a := by simp [Before]

theorem before_trans {a b c : Fin n} (h : Before x a b) (h' : Before x b c) : Before x a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

/-- Inserting a position that is below every position of a list in order leaves the list in order. -/
theorem pairwise_insertBefore_before (a : Fin n) (l : List (Fin n)) (ha : ∀ b ∈ l, a < b) (hl : l.Pairwise (Before x)) :
    (insertBefore (fun k k' => decide (x k' < x k)) a l).Pairwise (Before x) := by
  induction l with
  | nil => simp [insertBefore]
  | cons b l ih =>
    obtain ⟨hb, hl'⟩ := List.pairwise_cons.mp hl
    unfold insertBefore
    split
    · next h =>
      refine List.pairwise_cons.mpr ⟨fun y hy => ?_, ih (fun y hy => ha y (List.mem_cons_of_mem _ hy)) hl'⟩
      rcases List.mem_cons.mp ((perm_insertBefore _ a l).mem_iff.mp hy) with rfl | hy'
      · exact Or.inl (by simpa using h)
      · exact hb y hy'
    · next h =>
      have hab : Before x a b := by
        rcases lt_or_eq_of_le (not_lt.mp (by simpa using h) : x b ≤ x a) with h1 | h1
        · exact Or.inl h1
        · exact Or.inr ⟨h1.symm, ha b List.mem_cons_self⟩
      refine List.pairwise_cons.mpr ⟨fun y hy => ?_, hl⟩
      rcases List.mem_cons.mp hy with rfl | hy'
      · exact hab
      · exact before_trans x hab (hb y hy')

/-- The stable sort by greater gates leaves a list of increasing positions in order. -/
theorem pairwise_stableSort_before (l : List (Fin n)) (hl : l.Pairwise (· < ·)) :
    (stableSort (fun k k' => decide (x k' < x k)) l).Pairwise (Before x) := by
  induction l with
  | nil => simp [stableSort]
  | cons a l ih =>
    obtain ⟨ha, hl'⟩ := List.pairwise_cons.mp hl
    unfold stableSort
    exact pairwise_insertBefore_before x a _ (fun b hb => ha b ((perm_stableSort _ l).mem_iff.mp hb)) (ih hl')

theorem sortedFrom_before {i j : Fin n} (h : i < j) :
    Before x (sortedFrom (fun k k' => decide (x k' < x k)) i) (sortedFrom (fun k k' => decide (x k' < x k)) j) := by
  have hp : ∀ a b : Fin (sortPositions n fun k k' => decide (x k' < x k)).length, a < b →
      Before x ((sortPositions n fun k k' => decide (x k' < x k)).get a) ((sortPositions n fun k k' => decide (x k' < x k)).get b) :=
    List.pairwise_iff_get.mp (pairwise_stableSort_before x (List.finRange n) (List.pairwise_lt_finRange n))
  unfold sortedFrom
  exact hp _ _ (by simp only [Fin.lt_def, Fin.val_cast]; exact h)

/-- The sort puts at position `t` the block of rank `t`. -/
theorem rank_sortedFrom (t : Fin n) : rank x (sortedFrom (fun k k' => decide (x k' < x k)) t) = t.val := by
  classical
  set π := sortedFrom (fun k k' : Fin n => decide (x k' < x k)) with hπ
  have hbij : Function.Bijective π := ⟨sortedFrom_injective _, sortedFrom_surjective _⟩
  have key : ∀ i, Before x (π i) (π t) ↔ i < t := fun i => by
    constructor
    · intro h
      rcases lt_trichotomy i t with h1 | h1 | h1
      · exact h1
      · subst h1; exact absurd h (before_irrefl x _)
      · exact absurd (before_trans x h (sortedFrom_before x h1)) (before_irrefl x _)
    · exact sortedFrom_before x
  rw [rank, show (Finset.univ.filter fun a => Before x a (π t)) = (Finset.univ.filter fun i => i < t).map ⟨π, hbij.1⟩ from ?_, Finset.card_map,
    show (Finset.univ.filter fun i => i < t) = Finset.Iio t by ext; simp, Fin.card_Iio]
  ext a
  obtain ⟨i, rfl⟩ := hbij.2 a
  simp [key]

theorem sortedFrom_eq_iff (t b : Fin n) : sortedFrom (fun k k' => decide (x k' < x k)) t = b ↔ rank x b = t.val := by
  constructor
  · rintro rfl; exact rank_sortedFrom x t
  · intro h
    obtain ⟨i, rfl⟩ := sortedFrom_surjective (fun k k' : Fin n => decide (x k' < x k)) b
    rw [rank_sortedFrom] at h
    rw [Fin.ext h]

end

/-- The blocks before the own block `w`, of rank below three among them: what a query attends to beside its own block. -/
def Chosen (g : Fin 8 → ℝ) (w : ℕ) (b : Fin 8) : Prop :=
  b.val < w ∧ ((Finset.univ : Finset (Fin 8)).filter fun a => a.val < w ∧ (g b < g a ∨ (g a = g b ∧ a < b))).card < 3

instance (g : Fin 8 → ℝ) (w : ℕ) : DecidablePred (Chosen g w) := fun _ => by unfold Chosen; infer_instance

/-- The reference's choice: the first three positions of the sort of the masked gates, as far as there are blocks. -/
theorem chosen_iff (g : Fin 8 → ℝ) (w : ℕ) (x : Fin 8 → EReal) (hx : ∀ a, x a = if a.val < w then (g a : EReal) else ⊥) (b : Fin 8) :
    (∃ t : Fin 3, sortedFrom (fun k k' => decide (x k' < x k)) (⟨t.val, by omega⟩ : Fin 8) = b ∧ t.val < w) ↔ Chosen g w b := by
  classical
  have e : (∃ t : Fin 3, sortedFrom (fun k k' => decide (x k' < x k)) (⟨t.val, by omega⟩ : Fin 8) = b ∧ t.val < w) ↔
      rank x b < 3 ∧ rank x b < w := by
    constructor
    · rintro ⟨t, h, hw⟩
      rw [sortedFrom_eq_iff] at h
      rw [h]; exact ⟨t.2, hw⟩
    · rintro ⟨h, hw⟩
      exact ⟨⟨rank x b, h⟩, (sortedFrom_eq_iff x _ b).mpr rfl, hw⟩
  rw [e, Chosen]
  by_cases hb : b.val < w
  · have hr : rank x b = ((Finset.univ : Finset (Fin 8)).filter fun a => a.val < w ∧ (g b < g a ∨ (g a = g b ∧ a < b))).card := by
      rw [rank]
      congr 1
      ext a
      simp only [Finset.mem_filter, Finset.mem_univ, true_and, Before, hx, if_pos hb]
      by_cases ha : a.val < w
      · simp [ha, EReal.coe_lt_coe_iff]
      · simp [ha]
    have hlt : rank x b < w := by
      refine lt_of_lt_of_le (?_ : _ < ((Finset.univ : Finset (Fin 8)).filter fun a => a.val < w).card) ?_
      · rw [hr]
        refine Finset.card_lt_card (Finset.ssubset_iff_of_subset (fun a ha => ?_) |>.mpr ⟨b, by simpa using hb, by simp⟩)
        simp only [Finset.mem_filter, Finset.mem_univ, true_and] at ha ⊢
        exact ha.1
      · calc _ ≤ (Finset.range w).card := by
              refine Finset.card_le_card_of_injOn (fun a => a.val) (fun a ha => ?_) (fun a _ c _ h => Fin.ext h)
              simpa using ha
          _ = w := Finset.card_range w
    rw [← hr]
    exact ⟨fun h => ⟨hb, h.1⟩, fun h => ⟨h.2, hlt⟩⟩
  · have hge : w ≤ rank x b := by
      have hw : w ≤ b.val := not_lt.mp hb
      calc w = (Finset.univ.filter fun a : Fin 8 => a.val < w).card := by
              have : w < 8 := by omega
              rw [show (Finset.univ.filter fun a : Fin 8 => a.val < w) = Finset.Iio (⟨w, this⟩ : Fin 8) by ext a; simp [Fin.lt_def], Fin.card_Iio]
        _ ≤ rank x b := by
              rw [rank]
              refine Finset.card_le_card fun a ha => ?_
              simp only [Finset.mem_filter, Finset.mem_univ, true_and] at ha ⊢
              left
              rw [hx, hx, if_pos ha, if_neg hb]
              exact EReal.bot_lt_coe _
    exact ⟨fun h => absurd h.2 (by omega), fun h => absurd h.1 hb⟩

end Cert.Attend

end
-- ==== Proof.Attn.Vec.lean ====
/-
  The vector operations between a tile's scores and its stored weights, at one index: the masked diagonal block, the row of
  maxima, the biases that keep or drop a block of keys, and the count of the gates that beat a block's gate.
-/
module

public import proofs.«01_k».proof.Proof.Attn.Blocks
public import proofs.«01_k».proof.Proof.Attn.Rank

@[expose] public section

set_option maxRecDepth 16384

noncomputable section

namespace Cert.Attend

open Idealize.ShloMosaic Idealize.ShloMosaic.TcCoe Idealize.SL.Sem Cert.AttnIdeal Cert.AttnIdeal.Gen
open scoped BigOperators

/-- The number of a row of eight, at every place. -/
abbrev row8 : IVec S8x512 32 := kernelRun0_A.sl.v253

/-- The places of the diagonal block that a query may see. -/
abbrev causal : IVec S256x512 1 := kernelRun0_A.sl.v258

/-- The mask's value, the constant the program names. -/
abbrev maskv : Ideal .f32 := Named.named κ "mask" 0xF149F2CA#32

theorem maskv_eq : (maskv : EReal) = ⊥ := rfl

/-- The diagonal block with the keys past the query masked. -/
def diag (blk : FVec Ideal S256x512 .f32) : FVec Ideal S256x512 .f32 := select causal blk (broadcast S256x512 maskv)

theorem diag_apply (blk : FVec Ideal S256x512 .f32) (k : Fin 256) (q : Fin 512) :
    diag blk (ix2 k q) = if k.val ≤ q.val % 256 then blk (ix2 k q) else ⊥ := by
  have hc : causal (ix2 k q) = BitVec.ofBool (decide (k.val ≤ q.val % 256)) := by
    show (cmpi CmpIPredicate.sle (iota Kind.tc S256x512 32 [0] _) (andi (iota Kind.tc S256x512 32 [1] _) (broadcast S256x512 255#32))) (ix2 k q) = _
    pointwise
    have ha : IntOp.andi (BitVec.ofNat 32 q.val) 255#32 = BitVec.ofNat 32 (q.val % 256) := by
      revert q; decide +kernel
    rw [ha]
    change BitVec.ofBool (decide ((BitVec.ofNat 32 k.val).toInt ≤ (BitVec.ofNat 32 (q.val % 256)).toInt)) = _
    have hk := k.isLt
    have hq : q.val % 256 < 256 := Nat.mod_lt _ (by norm_num)
    congr 2
    rw [BitVec.toInt_ofNat', BitVec.toInt_ofNat']
    simp only [Int.bmod_def]
    apply propext
    split_ifs <;> omega
  unfold diag
  pointwise
  rw [hc, maskv_eq]
  by_cases h : k.val ≤ q.val % 256
  · rw [if_pos h, decide_eq_true h]; rfl
  · rw [if_neg h, decide_eq_false h]; rfl

theorem neg_inf : Ideal.ofBits FTy.f32 0xFF800000#32 = (⊥ : EReal) := by simp [Ideal.ofBits, Ideal.ieee]

/-- The row of maxima the weights are shifted by. -/
def rowMax (cmax bias : FVec Ideal S8x512 .f32) (sd : FVec Ideal S256x512 .f32) : FVec Ideal S1x512 .f32 :=
  maximumf
    (shapeCast S1x512 (multiReduction .maximumf [0] S512 (addf cmax bias) 0xFF800000#32 reduces_S8x512_S512 (.inl rfl) rfl) shapeCasts_S512_S1x512)
    (shapeCast S1x512 (multiReduction .maximumf [0] S512 sd 0xFF800000#32 reduces_S256x512_S512 (.inl rfl) rfl) shapeCasts_S512_S1x512)

theorem rowMax_apply (cmax bias : FVec Ideal S8x512 .f32) (sd : FVec Ideal S256x512 .f32) (q : Fin 512) :
    rowMax cmax bias sd (ix2 0 q) = max (Finset.univ.fold max ⊥ fun n : Fin 8 => cmax (ix2 n q) + bias (ix2 n q))
      (Finset.univ.fold max ⊥ fun k : Fin 256 => sd (ix2 k q)) := by
  unfold rowMax
  pointwise
  rw [neg_inf]

/-- The biases of a tile: zero where the block is kept, the mask where it is not. -/
def biasOf (keep : IVec S8x512 1) : FVec Ideal S8x512 .f32 :=
  select keep (broadcast S8x512 (Scalar.ofBits .f32 0x00000000#32)) (broadcast S8x512 maskv)

theorem biasOf_apply (keep : IVec S8x512 1) (n : Fin 8) (q : Fin 512) :
    biasOf keep (ix2 n q) = if keep (ix2 n q) = 1#1 then 0 else ⊥ := by
  unfold biasOf
  pointwise
  rw [maskv_eq]
  rfl

/-- Row `n` of the shifts. -/
def shiftRow (n : ℕ) (h : S8x512.Slices ![n, 0] S1x512) (bias : FVec Ideal S8x512 .f32) (m : FVec Ideal S1x512 .f32) : FVec Ideal S1x512 .f32 :=
  extractStridedSlice S1x512 ![n, 0] (subf bias (broadcastTo S8x512 m broadcasts_S1x512_S8x512)) h

theorem shiftRow_apply (n : ℕ) (h : S8x512.Slices ![n, 0] S1x512) (bias : FVec Ideal S8x512 .f32) (m : FVec Ideal S1x512 .f32)
    (q : Fin 512) (hn : n < 8) : shiftRow n h bias m (ix2 0 q) = bias (ix2 ⟨n, hn⟩ q) - m (ix2 0 q) := by
  unfold shiftRow
  pointwise

/-- The diagonal block's shifts. -/
def shiftDiag (m : FVec Ideal S1x512 .f32) : FVec Ideal S1x512 .f32 := subf (broadcast S1x512 (Scalar.ofBits .f32 0x00000000#32)) m

theorem shiftDiag_apply (m : FVec Ideal S1x512 .f32) (q : Fin 512) : shiftDiag m (ix2 0 q) = 0 - m (ix2 0 q) := by
  unfold shiftDiag
  pointwise

/-! ## The maximum is a real number -/

/-- No entry is the top. -/
def Below {s : Shape} {φ : FTy} (v : FVec Ideal s φ) : Prop := ∀ i, (v i : EReal) < ⊤

theorem below_mask (s : Shape) : Below (broadcast s maskv) := fun _ => bot_lt_top

/-- The block maxima, one more block's. -/
def maxStep (n : BitVec 32) (blk : FVec Ideal S256x512 .f32) (acc : FVec Ideal S8x512 .f32) : FVec Ideal S8x512 .f32 :=
  select (cmpi .eq row8 (broadcast S8x512 n))
    (broadcastTo S8x512 (shapeCast S1x512 (shapeCast S1x512
      (multiReduction .maximumf [0] S512 blk 0xFF800000#32 reduces_S256x512_S512 (.inl rfl) rfl) shapeCasts_S512_S1x512)
        shapeCasts_S1x512_S1x512) broadcasts_S1x512_S8x512) acc

theorem below_maxStep {n : BitVec 32} {blk : FVec Ideal S256x512 .f32} {acc : FVec Ideal S8x512 .f32} (hb : Below blk) (ha : Below acc) :
    Below (maxStep n blk acc) := by
  intro i
  idx_vars i
  unfold maxStep
  pointwise
  rw [neg_inf]
  unfold Scalar.select
  split
  · rw [Finset.fold_max_lt]
    exact ⟨bot_lt_top, fun k _ => hb _⟩
  · exact ha _

theorem below_slice {N : ℕ} {off : ℕ} {s : FVec Ideal ⟨2, ![N, 512]⟩ .f32} (h : Shape.Slices ⟨2, ![N, 512]⟩ ![off, 0] S256x512) (hs : Below s) :
    Below (extractStridedSlice S256x512 ![off, 0] s h) := fun _ => hs _

/-- The row of maxima is real: every entry is below the top, and the query's own key is above the mask. -/
theorem rowMax_real {cmax : FVec Ideal S8x512 .f32} {keep : IVec S8x512 1} {blk : FVec Ideal S256x512 .f32} (hc : Below cmax)
    (σ : Fin 256 → Fin 512 → ℝ) (hb : ∀ k q, blk (ix2 k q) = (σ k q : EReal)) (q : Fin 512) :
    ∃ μ : ℝ, rowMax cmax (biasOf keep) (diag blk) (ix2 0 q) = (μ : EReal) := by
  have hlt : (rowMax cmax (biasOf keep) (diag blk) (ix2 0 q) : EReal) < ⊤ := by
    rw [rowMax_apply, max_lt_iff, Finset.fold_max_lt, Finset.fold_max_lt]
    refine ⟨⟨bot_lt_top, fun n _ => ?_⟩, bot_lt_top, fun k _ => ?_⟩
    · rw [biasOf_apply]
      split_ifs
      · rw [add_zero]; exact hc _
      · rw [EReal.add_bot]; exact bot_lt_top
    · rw [diag_apply, hb]
      split_ifs
      · exact EReal.coe_lt_top _
      · exact bot_lt_top
  have hgt : ⊥ < (rowMax cmax (biasOf keep) (diag blk) (ix2 0 q) : EReal) := by
    rw [rowMax_apply, lt_max_iff]
    right
    rw [Finset.lt_fold_max]
    right
    refine ⟨⟨q.val % 256, Nat.mod_lt _ (by norm_num)⟩, Finset.mem_univ _, ?_⟩
    rw [diag_apply, if_pos (le_refl _), hb]
    exact EReal.bot_lt_coe _
  exact ⟨_, (EReal.coe_toReal hlt.ne hgt.ne').symm⟩

/-! ## The gates -/

/-- The block `r` before, around the eight. -/
def before (r : BitVec 32) : IVec S8x512 32 :=
  select (cmpi .sge row8 (broadcast S8x512 r)) (subi row8 (broadcast S8x512 r)) (addi (subi row8 (broadcast S8x512 r)) (broadcast S8x512 8#32))

/-- Whether that block's gate beats this one's. -/
def beatsBy (gate : FVec Ideal S8x512 .f32) (r : BitVec 32) : IVec S8x512 1 :=
  ori (cmpf .ogt (dynamicRotate 0 r none gate rotates_S8x512_d0) gate)
    (andi (cmpf .oeq (dynamicRotate 0 r none gate rotates_S8x512_d0) gate) (cmpi .slt (before r) row8))

/-- One more block counted. -/
def countStep (j : BitVec 32) (gate : FVec Ideal S8x512 .f32) (r : BitVec 32) (acc : IVec S8x512 32) : IVec S8x512 32 :=
  addi acc (select (andi (cmpi .slt (before r) (broadcast S8x512 j)) (beatsBy gate r)) (broadcast S8x512 1#32) (broadcast S8x512 0#32))

theorem row8_apply (b : Fin 8) (q : Fin 512) : row8 (ix2 b q) = BitVec.ofNat 32 b.val := by
  show iota Kind.tc S8x512 32 [0] _ (ix2 b q) = _
  pointwise

theorem before_apply (r b : Fin 8) (q : Fin 512) :
    before (BitVec.ofNat 32 r.val) (ix2 b q) = BitVec.ofNat 32 ((b.val + 8 - r.val) % 8) := by
  change Scalar.select (IntOp.cmpi .sge (row8 (ix2 b q)) (BitVec.ofNat 32 r.val)) (row8 (ix2 b q) - BitVec.ofNat 32 r.val)
    (row8 (ix2 b q) - BitVec.ofNat 32 r.val + 8#32) = _
  rw [row8_apply]
  revert r b
  decide

/-- Block `a` lies before the tile and its gate beats block `b`'s. -/
def Beats (g : Fin 8 → ℝ) (j : ℕ) (b a : Fin 8) : Prop := a.val < j ∧ (g b < g a ∨ (g a = g b ∧ a < b))

instance (g : Fin 8 → ℝ) (j : ℕ) (b a : Fin 8) : Decidable (Beats g j b a) := by unfold Beats; exact inferInstance

/-- The block `r` before, around the eight, as a number. -/
def around (r b : Fin 8) : Fin 8 := ⟨(b.val + 8 - r.val) % 8, Nat.mod_lt _ (by norm_num)⟩

theorem slt_small : ∀ a b : Fin 8, IntOp.cmpi .slt (BitVec.ofNat 32 a.val) (BitVec.ofNat 32 b.val) = BitVec.ofBool (decide (a.val < b.val)) := by
  decide

theorem toNat_small : ∀ r : Fin 8, (BitVec.ofNat 32 r.val).toNat % 8 = r.val := by decide

/-- The choice between one and nothing, from the three comparisons. -/
theorem choice (p q r s : Bool) : Scalar.select (IntOp.andi (BitVec.ofBool p) (IntOp.ori (BitVec.ofBool q) (IntOp.andi (BitVec.ofBool r) (BitVec.ofBool s))))
    (1#32) (0#32) = BitVec.ofNat 32 (if p = true ∧ (q = true ∨ (r = true ∧ s = true)) then 1 else 0) := by
  revert p q r s
  decide

theorem countStep_apply (j : Fin 8) (gate : FVec Ideal S8x512 .f32) (g : Fin 8 → Fin 512 → ℝ) (hg : ∀ b q, gate (ix2 b q) = (g b q : EReal))
    (r : Fin 8) (acc : IVec S8x512 32) (b : Fin 8) (q : Fin 512) :
    countStep (BitVec.ofNat 32 j.val) gate (BitVec.ofNat 32 r.val) acc (ix2 b q)
      = acc (ix2 b q) + BitVec.ofNat 32 (if Beats (fun b => g b q) j.val b (around r b) then 1 else 0) := by
  have hrot : dynamicRotate 0 (BitVec.ofNat 32 r.val) none gate rotates_S8x512_d0 (ix2 b q) = gate (ix2 (around r b) q) := by
    pointwise
    congr 2
    apply Fin.ext
    show (b.val + 8 - (BitVec.ofNat 32 r.val).toNat % 8) % 8 = (b.val + 8 - r.val) % 8
    rw [toNat_small]
  have hb : before (BitVec.ofNat 32 r.val) (ix2 b q) = BitVec.ofNat 32 (around r b).val := before_apply r b q
  change acc (ix2 b q) + Scalar.select (IntOp.andi (IntOp.cmpi .slt (before (BitVec.ofNat 32 r.val) (ix2 b q)) (BitVec.ofNat 32 j.val))
    (IntOp.ori (FloatOps.cmpf .ogt (dynamicRotate 0 (BitVec.ofNat 32 r.val) none gate rotates_S8x512_d0 (ix2 b q)) (gate (ix2 b q)))
      (IntOp.andi (FloatOps.cmpf .oeq (dynamicRotate 0 (BitVec.ofNat 32 r.val) none gate rotates_S8x512_d0 (ix2 b q)) (gate (ix2 b q)))
        (IntOp.cmpi .slt (before (BitVec.ofNat 32 r.val) (ix2 b q)) (row8 (ix2 b q)))))) 1#32 0#32 = _
  rw [hrot, hb, row8_apply, slt_small, slt_small, hg, hg]
  have h1 : (FloatOps.cmpf (F := Ideal) (φ := .f32) .ogt ((g (around r b) q : ℝ) : EReal) ((g b q : ℝ) : EReal) : BitVec 1)
      = BitVec.ofBool (decide (g b q < g (around r b) q)) := by
    show BitVec.ofBool (decide _) = _
    simp only [EReal.coe_lt_coe_iff]
  have h2 : (FloatOps.cmpf (F := Ideal) (φ := .f32) .oeq ((g (around r b) q : ℝ) : EReal) ((g b q : ℝ) : EReal) : BitVec 1)
      = BitVec.ofBool (decide (g (around r b) q = g b q)) := by
    show BitVec.ofBool (decide _) = _
    simp only [EReal.coe_eq_coe_iff]
  rw [h1, h2, choice]
  simp only [decide_eq_true_eq, Beats, Fin.lt_def]

theorem andi_bits : ∀ p q : Bool, IntOp.andi (BitVec.ofBool p) (BitVec.ofBool q) = 1#1 ↔ (p = true ∧ q = true) := by decide

/-- The blocks a tile keeps: those before it that fewer than three gates beat. -/
def keepGate (j : BitVec 32) (gate : FVec Ideal S8x512 .f32) : IVec S8x512 1 :=
  andi (cmpi .slt row8 (broadcast S8x512 j))
    (cmpi .slt (countStep j gate 7#32 (countStep j gate 6#32 (countStep j gate 5#32 (countStep j gate 4#32 (countStep j gate 3#32
      (countStep j gate 2#32 (countStep j gate 1#32 (broadcast S8x512 0#32)))))))) (broadcast S8x512 3#32))

theorem seven : ∀ a b c d e f g : Bool, IntOp.cmpi .slt (0#32 + BitVec.ofNat 32 (if a then 1 else 0) + BitVec.ofNat 32 (if b then 1 else 0)
    + BitVec.ofNat 32 (if c then 1 else 0) + BitVec.ofNat 32 (if d then 1 else 0) + BitVec.ofNat 32 (if e then 1 else 0)
    + BitVec.ofNat 32 (if f then 1 else 0) + BitVec.ofNat 32 (if g then 1 else 0)) 3#32
    = BitVec.ofBool (decide ((if a then 1 else 0) + (if b then 1 else 0) + (if c then 1 else 0) + (if d then 1 else 0) + (if e then 1 else 0)
      + (if f then 1 else 0) + (if g then 1 else 0) < 3)) := by decide

theorem keepGate_apply (j : Fin 8) (gate : FVec Ideal S8x512 .f32) (g : Fin 8 → Fin 512 → ℝ) (hg : ∀ b q, gate (ix2 b q) = (g b q : EReal))
    (b : Fin 8) (q : Fin 512) : keepGate (BitVec.ofNat 32 j.val) gate (ix2 b q) = 1#1 ↔ Chosen (fun b => g b q) j.val b := by
  have st := countStep_apply j gate g hg
  change IntOp.andi (IntOp.cmpi .slt (row8 (ix2 b q)) (BitVec.ofNat 32 j.val)) (IntOp.cmpi .slt (countStep _ gate (BitVec.ofNat 32 (7 : Fin 8).val) _ (ix2 b q)) 3#32) = 1#1 ↔ _
  rw [row8_apply, slt_small, st]
  change IntOp.andi _ (IntOp.cmpi .slt (countStep _ gate (BitVec.ofNat 32 (6 : Fin 8).val) _ (ix2 b q) + _) 3#32) = 1#1 ↔ _
  rw [st]
  change IntOp.andi _ (IntOp.cmpi .slt (countStep _ gate (BitVec.ofNat 32 (5 : Fin 8).val) _ (ix2 b q) + _ + _) 3#32) = 1#1 ↔ _
  rw [st]
  change IntOp.andi _ (IntOp.cmpi .slt (countStep _ gate (BitVec.ofNat 32 (4 : Fin 8).val) _ (ix2 b q) + _ + _ + _) 3#32) = 1#1 ↔ _
  rw [st]
  change IntOp.andi _ (IntOp.cmpi .slt (countStep _ gate (BitVec.ofNat 32 (3 : Fin 8).val) _ (ix2 b q) + _ + _ + _ + _) 3#32) = 1#1 ↔ _
  rw [st]
  change IntOp.andi _ (IntOp.cmpi .slt (countStep _ gate (BitVec.ofNat 32 (2 : Fin 8).val) _ (ix2 b q) + _ + _ + _ + _ + _) 3#32) = 1#1 ↔ _
  rw [st]
  change IntOp.andi _ (IntOp.cmpi .slt (countStep _ gate (BitVec.ofNat 32 (1 : Fin 8).val) _ (ix2 b q) + _ + _ + _ + _ + _ + _) 3#32) = 1#1 ↔ _
  rw [st]
  have hs := seven (decide (Beats (fun b => g b q) j.val b (around 1 b))) (decide (Beats (fun b => g b q) j.val b (around 2 b)))
    (decide (Beats (fun b => g b q) j.val b (around 3 b))) (decide (Beats (fun b => g b q) j.val b (around 4 b)))
    (decide (Beats (fun b => g b q) j.val b (around 5 b))) (decide (Beats (fun b => g b q) j.val b (around 6 b)))
    (decide (Beats (fun b => g b q) j.val b (around 7 b)))
  simp only [decide_eq_true_eq] at hs
  refine (Eq.congr_left (congrArg (IntOp.andi _) hs)).trans ?_
  have hbb : ¬ Beats (fun b => g b q) j.val b b := by simp [Beats]
  have hc : (Finset.univ.filter fun a : Fin 8 => Beats (fun b => g b q) j.val b a).card
      = (if Beats (fun b => g b q) j.val b (around 1 b) then 1 else 0) + (if Beats (fun b => g b q) j.val b (around 2 b) then 1 else 0)
      + (if Beats (fun b => g b q) j.val b (around 3 b) then 1 else 0) + (if Beats (fun b => g b q) j.val b (around 4 b) then 1 else 0)
      + (if Beats (fun b => g b q) j.val b (around 5 b) then 1 else 0) + (if Beats (fun b => g b q) j.val b (around 6 b) then 1 else 0)
      + (if Beats (fun b => g b q) j.val b (around 7 b) then 1 else 0) := by
    rw [Finset.card_filter]
    have hi : Function.Injective fun r : Fin 8 => around r b := by
      clear hbb hs st hg
      revert b; decide
    rw [← Equiv.sum_comp (Equiv.ofBijective _ (Finite.injective_iff_bijective.mp hi))]
    simp only [Equiv.ofBijective_apply]
    rw [Fin.sum_univ_eight]
    have h0 : around 0 b = b := by
      clear hbb hs st hg hi
      revert b; decide
    rw [h0, if_neg hbb, zero_add]
  have hf : (Finset.univ.filter fun a : Fin 8 => a.val < j.val ∧ (g b q < g a q ∨ (g a q = g b q ∧ a < b))).card
      = (Finset.univ.filter fun a : Fin 8 => Beats (fun b => g b q) j.val b a).card := by
    congr 1
  unfold Chosen
  rw [hf, hc]
  refine (andi_bits _ _).trans (and_congr decide_eq_true_iff ?_)
  rw [decide_eq_true_iff]

end Cert.Attend
-- ==== Proof.Attn.Softmax.lean ====
/-
  One row of attention over the extended reals.

  Both programs weigh the values of the keys by exponentials of real scores and divide by the weights' sum. They differ in the constant subtracted
  from the scores before the exponential (each takes its own maximum), in the base of the exponential, and in whether the division comes before or
  after the weighted sum. `attend` is the row with nothing subtracted; the lemmas here say that any positive factor common to the weights leaves it.
-/
module

public import Idealize.ShloMosaic.Lib.Pointwise

@[expose] public section

noncomputable section

namespace Cert.Attend

open Idealize.ShloMosaic

variable {ι : Type*} [Fintype ι]

/-- The softmax of the scores `σ` over the keys that `M` admits, applied to the values `v`. -/
def attend (σ : ι → ℝ) (M : ι → Prop) [DecidablePred M] (v : ι → EReal) : EReal :=
  Ideal.div (∑ k, ((if M k then Real.exp (σ k) else 0 : ℝ) : EReal) * v k)
    ((∑ k, (if M k then Real.exp (σ k) else 0) : ℝ) : EReal)

/-- A nonnegative real factor distributes over a finite sum of extended reals. -/
theorem sum_mul_real {κ : Type*} (s : Finset κ) (f : κ → EReal) {c : ℝ} (hc : 0 ≤ c) :
    (∑ k ∈ s, f k) * (c : EReal) = ∑ k ∈ s, f k * (c : EReal) := by
  classical
  induction s using Finset.induction_on with
  | empty => simp
  | insert a s ha ih =>
    rw [Finset.sum_insert ha, Finset.sum_insert ha, EReal.right_distrib_of_nonneg_of_ne_top (by exact_mod_cast hc) (EReal.coe_ne_top c), ih]

/-- A finite sum of reals, read in the extended reals. -/
theorem coe_sum {κ : Type*} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

section

variable (σ : ι → ℝ) (M : ι → Prop) [DecidablePred M] (v : ι → EReal)

/-- The weights' sum is positive when some key is admitted. -/
theorem weight_pos {k₀ : ι} (h : M k₀) : 0 < ∑ k, (if M k then Real.exp (σ k) else 0) := by
  refine Finset.sum_pos' (fun k _ => ?_) ⟨k₀, Finset.mem_univ _, ?_⟩
  · split_ifs <;> positivity
  · simp only [if_pos h]; positivity

/-- Weights `c` times the exponentials, the division after the weighted sum. -/
theorem attend_of_scaled {k₀ : ι} (h : M k₀) {c : ℝ} (hc : 0 < c) (p : ι → EReal)
    (hp : ∀ k, p k = ((if M k then c * Real.exp (σ k) else 0 : ℝ) : EReal)) :
    Ideal.div (∑ k, v k * p k) (∑ k, p k) = attend σ M v := by
  have hW := weight_pos σ M h
  have e1 : ∑ k, v k * p k = (∑ k, ((if M k then Real.exp (σ k) else 0 : ℝ) : EReal) * v k) * (c : EReal) := by
    rw [sum_mul_real _ _ hc.le]
    refine Finset.sum_congr rfl fun k _ => ?_
    rw [hp k, mul_comm _ (v k), mul_assoc, ← EReal.coe_mul]
    congr 2
    split_ifs <;> ring
  have e2 : ∑ k, p k = (((∑ k, (if M k then Real.exp (σ k) else 0)) * c : ℝ) : EReal) := by
    rw [Finset.sum_mul, coe_sum]
    refine Finset.sum_congr rfl fun k _ => ?_
    rw [hp k]
    congr 1
    split_ifs <;> ring
  rw [e1, e2, attend, Ideal.div_coe (mul_pos hW hc).ne', Ideal.div_coe hW.ne', mul_assoc, ← EReal.coe_mul]
  congr 2
  field_simp

/-- Weights `c` times the exponentials, each divided by their sum before the weighted sum. -/
theorem attend_of_normalised {k₀ : ι} (h : M k₀) {c : ℝ} (hc : 0 < c) (p : ι → EReal)
    (hp : ∀ k, p k = ((if M k then c * Real.exp (σ k) else 0 : ℝ) : EReal)) :
    ∑ k, v k * Ideal.div (p k) (∑ k, p k) = attend σ M v := by
  have hW := weight_pos σ M h
  have e2 : ∑ k, p k = (((∑ k, (if M k then Real.exp (σ k) else 0)) * c : ℝ) : EReal) := by
    rw [Finset.sum_mul, coe_sum]
    refine Finset.sum_congr rfl fun k _ => ?_
    rw [hp k]
    congr 1
    split_ifs <;> ring
  rw [attend, Ideal.div_coe hW.ne', sum_mul_real _ _ (by positivity)]
  refine Finset.sum_congr rfl fun k _ => ?_
  rw [e2, Ideal.div_coe (mul_pos hW hc).ne', hp k, ← EReal.coe_mul, mul_comm _ (v k), mul_assoc, ← EReal.coe_mul]
  congr 2
  split_ifs
  · field_simp
  · simp

end

/-- Two to a real power, as a natural exponential. -/
theorem exp2_coe_eq (r : ℝ) : Ideal.exp2 (r : EReal) = ((Real.exp (r * Real.log 2) : ℝ) : EReal) := by
  rw [Ideal.exp2_coe]
  congr 1
  rw [show Real.rpow 2 r = (2 : ℝ) ^ r from rfl, Real.rpow_def_of_pos (by norm_num), mul_comm]

end Cert.Attend

end
-- ==== Proof.Attn.Tile.lean ====
/-
  One tile of 256 queries: the stored weights are, up to one positive factor per query, the powers of two of the scores over
  the keys the query attends to, and nothing over the others; the tile's result divides the weighted sum of the values by
  the sum of the weights.
-/
module

public import proofs.«01_k».proof.Proof.Attn.Vec
public import proofs.«01_k».proof.Proof.Attn.Softmax

@[expose] public section

set_option maxRecDepth 16384

noncomputable section

namespace Cert.Attend

open Idealize.ShloMosaic Idealize.ShloMosaic.TcCoe Idealize.SL.Sem Cert.AttnIdeal Cert.AttnIdeal.Gen
open scoped BigOperators Classical

/-- A slice of rows, at one place. -/
theorem rows_apply {N R o : ℕ} (s : FVec Ideal ⟨2, ![N, 512]⟩ .f32) (h : Shape.Slices ⟨2, ![N, 512]⟩ ![o, 0] ⟨2, ![R, 512]⟩) (k : Fin R) (q : Fin 512)
    (hk : o + k.val < N) : extractStridedSlice ⟨2, ![R, 512]⟩ ![o, 0] s h (ix2 k q) = s (ix2 ⟨o + k.val, hk⟩ q) := by
  show s _ = s _
  congr 1
  funext a
  apply Fin.ext
  fin_cases a
  · rfl
  · exact Nat.zero_add _

/-- The scores of the keys, `g0` rows down in `s`. -/
def IsScores (g0 N : ℕ) (s : FVec Ideal ⟨2, ![N, 512]⟩ .f32) (σ : Fin 2048 → Fin 512 → ℝ) : Prop :=
  ∀ (k : Fin 2048) (h : g0 + k.val < N) (q : Fin 512), s (ix2 ⟨g0 + k.val, h⟩ q) = (σ k q : EReal)

/-- The weight of a key, shifted by `μ`. -/
def weight (σ : Fin 2048 → Fin 512 → ℝ) (M : Fin 2048 → Fin 512 → Prop) (μ : Fin 512 → ℝ) (k : Fin 2048) (q : Fin 512) : EReal :=
  ((if M k q then Real.exp (-(μ q) * Real.log 2) * Real.exp (σ k q * Real.log 2) else 0 : ℝ) : EReal)

/-- The first `n` rows of buffer `b` hold the weights, up to a positive factor for each query. -/
def Weights (b : Fin 3) (n : ℕ) (L : List (View.Piece (Elt Ideal) S3x2048x512 .bf16)) (σ : Fin 2048 → Fin 512 → ℝ)
    (M : Fin 2048 → Fin 512 → Prop) : Prop :=
  ∀ q, ∃ c : ℝ, 0 < c ∧ ∀ k : Fin 2048, k.val < n →
    View.canon L (ix3 b k q) = ((if M k q then c * Real.exp (σ k q * Real.log 2) else 0 : ℝ) : EReal)

theorem weights_of {b : Fin 3} {n : ℕ} {L : List (View.Piece (Elt Ideal) S3x2048x512 .bf16)} {σ : Fin 2048 → Fin 512 → ℝ}
    {M : Fin 2048 → Fin 512 → Prop} (μ : Fin 512 → ℝ) (h : ∀ (k : Fin 2048) (q : Fin 512), k.val < n → View.canon L (ix3 b k q) = weight σ M μ k q) :
    Weights b n L σ M := fun q => ⟨_, Real.exp_pos _, fun k hk => h k q hk⟩

theorem exp2_shift (x μ : ℝ) : Ideal.exp2 ((x : EReal) + (0 - (μ : EReal)))
    = ((Real.exp (-μ * Real.log 2) * Real.exp (x * Real.log 2) : ℝ) : EReal) := by
  rw [zero_sub, ← EReal.coe_neg, ← EReal.coe_add, exp2_coe_eq, ← Real.exp_add]
  congr 2
  ring

/-- A block before the tile. -/
theorem past {g0 N off n : ℕ} {s : FVec Ideal ⟨2, ![N, 512]⟩ .f32} {σ : Fin 2048 → Fin 512 → ℝ} (hs : IsScores g0 N s σ)
    {m : FVec Ideal S1x512 .f32} {μ : Fin 512 → ℝ} (hμ : ∀ q, m (ix2 0 q) = (μ q : EReal)) {M : Fin 2048 → Fin 512 → Prop} {keep : IVec S8x512 1}
    {blk : FVec Ideal S256x512 .f32} {cv : FVec Ideal S1x512 .f32} {hsl : Shape.Slices ⟨2, ![N, 512]⟩ ![g0 + off, 0] S256x512}
    {hn : S8x512.Slices ![n, 0] S1x512} (hn8 : n < 8)
    (hM : ∀ (k : Fin 2048) (q : Fin 512), off ≤ k.val → k.val < off + 256 → (M k q ↔ keep (ix2 ⟨n, hn8⟩ q) = 1#1)) (hN : g0 + off + 256 ≤ N)
    (hb : blk = extractStridedSlice S256x512 ![g0 + off, 0] s hsl) (hcv : cv = shiftRow n hn (biasOf keep) m)
    (k : Fin 2048) (q : Fin 512) (h : k.val - off < 256) (ho : off ≤ k.val) :
    weight σ M μ k q = Ideal.exp2 (blk (ix2 ⟨k.val - off, h⟩ q) + cv (ix2 0 q)) := by
  have e : blk (ix2 ⟨k.val - off, h⟩ q) = (σ k q : EReal) := by
    rw [hb, ← hs k (by omega) q]
    refine (rows_apply s hsl _ q (by show g0 + off + (k.val - off) < N; omega)).trans ?_
    congr 3
    show g0 + off + (k.val - off) = g0 + k.val
    omega
  rw [e, hcv, shiftRow_apply n hn _ _ q hn8, biasOf_apply, hμ]
  unfold weight
  by_cases hk : keep (ix2 ⟨n, hn8⟩ q) = 1#1
  · rw [if_pos hk, if_pos ((hM k q ho (by omega)).mpr hk), exp2_shift]
  · rw [if_neg hk, if_neg (fun h => hk ((hM k q ho (by omega)).mp h)), sub_eq_add_neg, EReal.bot_add, EReal.add_bot, Ideal.exp2_bot]
    rfl

/-- The tile's own block. -/
theorem own {g0 N off : ℕ} {s : FVec Ideal ⟨2, ![N, 512]⟩ .f32} {σ : Fin 2048 → Fin 512 → ℝ} (hs : IsScores g0 N s σ)
    {m : FVec Ideal S1x512 .f32} {μ : Fin 512 → ℝ} (hμ : ∀ q, m (ix2 0 q) = (μ q : EReal)) {M : Fin 2048 → Fin 512 → Prop}
    {blk : FVec Ideal S256x512 .f32} {cv : FVec Ideal S1x512 .f32} {hsl : Shape.Slices ⟨2, ![N, 512]⟩ ![g0 + off, 0] S256x512}
    (hM : ∀ (k : Fin 2048) (q : Fin 512), off ≤ k.val → k.val < off + 256 → (M k q ↔ k.val - off ≤ q.val % 256)) (hN : g0 + off + 256 ≤ N)
    (hb : blk = diag (extractStridedSlice S256x512 ![g0 + off, 0] s hsl)) (hcv : cv = shiftDiag m)
    (k : Fin 2048) (q : Fin 512) (h : k.val - off < 256) (ho : off ≤ k.val) :
    weight σ M μ k q = Ideal.exp2 (blk (ix2 ⟨k.val - off, h⟩ q) + cv (ix2 0 q)) := by
  have e : extractStridedSlice S256x512 ![g0 + off, 0] s hsl (ix2 ⟨k.val - off, h⟩ q) = (σ k q : EReal) := by
    rw [← hs k (by omega) q]
    refine (rows_apply s hsl _ q (by show g0 + off + (k.val - off) < N; omega)).trans ?_
    congr 3
    show g0 + off + (k.val - off) = g0 + k.val
    omega
  rw [hb, diag_apply, e, hcv, shiftDiag_apply, hμ]
  unfold weight
  by_cases hk : k.val - off ≤ q.val % 256
  · rw [if_pos hk, if_pos ((hM k q ho (by omega)).mpr hk), exp2_shift]
  · rw [if_neg hk, if_neg (fun h => hk ((hM k q ho (by omega)).mp h)), EReal.bot_add, Ideal.exp2_bot]
    rfl

/-- The row of maxima of a tile, real for every query. -/
theorem rowMax_reals {g0 N off : ℕ} {s : FVec Ideal ⟨2, ![N, 512]⟩ .f32} {σ : Fin 2048 → Fin 512 → ℝ} (hs : IsScores g0 N s σ)
    (hsl : Shape.Slices ⟨2, ![N, 512]⟩ ![g0 + off, 0] S256x512) (hN : g0 + off + 256 ≤ N) (ho : off + 256 ≤ 2048)
    {cmax : FVec Ideal S8x512 .f32} (keep : IVec S8x512 1) (hc : Below cmax) :
    ∃ μ : Fin 512 → ℝ, ∀ q, rowMax cmax (biasOf keep) (diag (extractStridedSlice S256x512 ![g0 + off, 0] s hsl)) (ix2 0 q) = (μ q : EReal) := by
  refine Classical.skolem.mp fun q => rowMax_real hc (fun k q => σ ⟨off + k.val, by omega⟩ q) (fun k q => ?_) q
  rw [← hs ⟨off + k.val, by omega⟩ (by show g0 + (off + k.val) < N; omega) q]
  refine (rows_apply s hsl _ q (by show g0 + off + k.val < N; omega)).trans ?_
  congr 3
  exact Nat.add_assoc _ _ _

/-- The gates of a tile's queries: the products with the two parts of the block means, added. -/
abbrev gateOf {N : ℕ} (s : FVec Ideal ⟨2, ![N, 512]⟩ .f32) (h0 : Shape.Slices ⟨2, ![N, 512]⟩ ![0, 0] S8x512)
    (h8 : Shape.Slices ⟨2, ![N, 512]⟩ ![8, 0] S8x512) : FVec Ideal S8x512 .f32 :=
  addf (extractStridedSlice S8x512 ![0, 0] s h0) (extractStridedSlice S8x512 ![8, 0] s h8)

/-- The keys a query of tile `j` attends to: the kept blocks before the tile, and its own block up to the query. -/
def Seen (keep : IVec S8x512 1) (j : ℕ) (k : Fin 2048) (q : Fin 512) : Prop :=
  (k.val < 256 * j ∧ keep (ix2 ⟨k.val / 256, by omega⟩ q) = 1#1) ∨ (256 * j ≤ k.val ∧ k.val - 256 * j ≤ q.val % 256)

theorem seen_past {keep : IVec S8x512 1} {j n : ℕ} (hn : n < j) (hj : j < 8) (k : Fin 2048) (q : Fin 512) (h : 256 * n ≤ k.val)
    (h' : k.val < 256 * n + 256) : Seen keep j k q ↔ keep (ix2 ⟨n, by omega⟩ q) = 1#1 := by
  have e : (⟨k.val / 256, by omega⟩ : Fin 8) = ⟨n, by omega⟩ := Fin.ext (by show k.val / 256 = n; omega)
  unfold Seen
  rw [e]
  constructor
  · rintro (⟨_, h⟩ | ⟨h, _⟩)
    · exact h
    · omega
  · intro h; exact Or.inl ⟨by omega, h⟩

theorem seen_own {keep : IVec S8x512 1} {j : ℕ} (k : Fin 2048) (q : Fin 512) (h : 256 * j ≤ k.val)
    (_h' : k.val < 256 * j + 256) : Seen keep j k q ↔ k.val - 256 * j ≤ q.val % 256 := by
  unfold Seen
  constructor
  · rintro (⟨h, _⟩ | ⟨_, h⟩)
    · omega
    · exact h
  · intro h'; exact Or.inr ⟨h, h'⟩

/-- The blocks kept for tile `j` of the latent stream: all before it. -/
abbrev latentKeep (j : BitVec 32) : IVec S8x512 1 := cmpi .slt row8 (broadcast S8x512 j)

theorem whole_slices : Shape.Slices ⟨2, ![256, 512]⟩ ![0 + 0, 0] S256x512 := by decide

/-- The slice of all rows. -/
theorem slice_whole (s : FVec Ideal S256x512 .f32) : extractStridedSlice S256x512 ![0 + 0, 0] s whole_slices = s := by
  funext y
  idx_vars y
  refine (rows_apply s whole_slices _ _ (by show 0 + 0 + _ < 256; omega)).trans ?_
  congr 2
  exact Fin.ext (by show 0 + 0 + _ = _; omega)

end Cert.Attend
-- ==== Proof.Attn.Out.lean ====
/-
  One tile of the result: the values times the weights of the keys, divided by the row of the sums of the weights.
-/
module

public import proofs.«01_k».proof.Proof.Attn.Tile
public import proofs.«01_k».proof.Proof.Attn.Softmax

@[expose] public section

set_option maxRecDepth 16384

noncomputable section

namespace Cert.Attend

open Idealize.ShloMosaic Idealize.ShloMosaic.TcCoe Idealize.SL.Sem Cert.AttnIdeal Cert.AttnIdeal.Gen
open scoped BigOperators Classical

/-- The 64 rows of one head, divided by the row of sums. -/
def half (acc : FVec Ideal S80x256 .f32) : FVec Ideal S64x256 .f32 :=
  divf (extractStridedSlice S64x256 ![0, 0] acc slices_S80x256_o0_0_S64x256)
    (broadcastTo S64x256 (extractStridedSlice S1x256 ![64, 0] acc slices_S80x256_o64_0_S1x256) broadcasts_S1x256_S64x256)

theorem half_apply (acc : FVec Ideal S80x256 .f32) (d : Fin 64) (q : Fin 256) :
    half acc (ix2 d q) = Ideal.div (acc (ix2 ⟨d.val, by omega⟩ q)) (acc (ix2 64 q)) := by
  unfold half
  pointwise

/-- A tile of the result, from the parts of its two heads. -/
def tileOut (a b : FVec Ideal S64x256 .f32) : FVec Ideal S1x256x128 .bf16 :=
  shapeCast S1x256x128
    (truncf .bf16
      (transpose S256x128 [1, 0] (concatenate S128x256 0 [⟨S64x256, a⟩, ⟨S64x256, b⟩] concatenates_S64x256_S64x256_S128x256_d0)
        transposes_S128x256_p1_0_S256x128) bitsLt_bf16_f32) shapeCasts_S256x128_S1x256x128

theorem tileOut_apply (a b : FVec Ideal S64x256 .f32) (z : Fin 1) (q : Fin 256) (l : Fin 128) :
    tileOut a b (ix3 z q l) = if h : l.val < 64 then a (ix2 ⟨l.val, h⟩ q) else b (ix2 ⟨l.val - 64, by omega⟩ q) := by
  unfold tileOut
  pointwise

/-- A read of the values of one head. -/
theorem readCov_vt {n : ℕ} (hn : n ≤ 2048) (v : View sig Kind.tc Space.vmem S2x80x2048 .bf16) (L : List (View.Piece (Elt Ideal) S2x80x2048 .bf16)) (hh : Fin 2)
    (h : ∀ a, (![hh.val, 0, 0] : Fin 3 → ℕ) a + (⟨3, ![1, 80, n]⟩ : Shape).size a ≤ S2x80x2048.size a) (z : Fin 1) (i : Fin 80) (k : Fin n) :
    v.readCov L (Rect.unit (s := S2x80x2048) ![hh.val, 0, 0] (Shape.size ⟨3, ![1, 80, n]⟩) h).toLoadRect (ix3 z i k)
      = View.canon L (ix3 hh i (Fin.castLE hn k)) := by
  rw [View.readCov_eq_canon']
  refine congrArg (View.canon L) (funext fun a => Fin.ext ?_)
  fin_cases a
  · show hh.val + 1 * z.val = hh.val; omega
  · show 0 + 1 * i.val = i.val; omega
  · show 0 + 1 * k.val = k.val; omega

/-- A read of the weights of one head's queries. -/
theorem readCov_p {n : ℕ} (hn : n ≤ 2048) (v : View sig Kind.tc Space.vmem S3x2048x512 .bf16) (L : List (View.Piece (Elt Ideal) S3x2048x512 .bf16)) (b : Fin 3)
    (hh : Fin 2) (h : ∀ a, (![b.val, 0, 256 * hh.val] : Fin 3 → ℕ) a + (⟨3, ![1, n, 256]⟩ : Shape).size a ≤ S3x2048x512.size a) (z : Fin 1) (k : Fin n) (q : Fin 256) :
    v.readCov L (Rect.unit (s := S3x2048x512) ![b.val, 0, 256 * hh.val] (Shape.size ⟨3, ![1, n, 256]⟩) h).toLoadRect (ix3 z k q)
      = View.canon L (ix3 b (Fin.castLE hn k) ⟨256 * hh.val + q.val, by omega⟩) := by
  rw [View.readCov_eq_canon']
  refine congrArg (View.canon L) (funext fun a => Fin.ext ?_)
  fin_cases a
  · show b.val + 1 * z.val = b.val; omega
  · show 0 + 1 * k.val = k.val; omega
  · show 256 * hh.val + 1 * q.val = 256 * hh.val + q.val; omega

/-- A sum over the first keys is the sum over all, where the others count nothing. -/
theorem sum_castLE {n : ℕ} (hn : n ≤ 2048) (f : Fin 2048 → EReal) (h : ∀ k, n ≤ k.val → f k = 0) :
    ∑ k : Fin n, f (Fin.castLE hn k) = ∑ k, f k := by
  refine (Finset.sum_map Finset.univ (Fin.castLEEmb hn) f).symm.trans ?_
  refine Finset.sum_subset (Finset.subset_univ _) fun k _ hk => h k ?_
  by_contra hlt
  exact hk (Finset.mem_map.mpr ⟨⟨k.val, by omega⟩, Finset.mem_univ _, Fin.ext rfl⟩)

/-- The part of one head of a tile is the attention of its queries. -/
theorem half_value {n : ℕ} (hn : n ≤ 2048) {acc : FVec Ideal S80x256 .f32} {Lv : List (View.Piece (Elt Ideal) S2x80x2048 .bf16)}
    {Lp : List (View.Piece (Elt Ideal) S3x2048x512 .bf16)} {b : Fin 3} {hh : Fin 2}
    (hacc : ∀ i q, acc (ix2 i q) = ∑ k : Fin n, View.canon Lv (ix3 hh i (Fin.castLE hn k))
      * View.canon Lp (ix3 b (Fin.castLE hn k) ⟨256 * hh.val + q.val, by omega⟩))
    {σ : Fin 2048 → Fin 512 → ℝ} {M : Fin 2048 → Fin 512 → Prop} (hw : Weights b n Lp σ M) (hM : ∀ k q, n ≤ k.val → ¬ M k q)
    {V : Fin 64 → Fin 2048 → EReal} (hV : ∀ (d : Fin 64) k, View.canon Lv (ix3 hh ⟨d.val, by omega⟩ k) = V d k)
    (h1 : ∀ k, View.canon Lv (ix3 hh 64 k) = 1) (d : Fin 64) (q : Fin 256) (k₀ : Fin 2048) (hk₀ : M k₀ ⟨256 * hh.val + q.val, by omega⟩) :
    half acc (ix2 d q) = attend (fun k => σ k ⟨256 * hh.val + q.val, by omega⟩ * Real.log 2) (fun k => M k ⟨256 * hh.val + q.val, by omega⟩) (V d) := by
  obtain ⟨c, hc, hp⟩ := hw ⟨256 * hh.val + q.val, by omega⟩
  set Q : Fin 512 := ⟨256 * hh.val + q.val, by omega⟩ with hQ
  set p : Fin 2048 → EReal := fun k => ((if M k Q then c * Real.exp (σ k Q * Real.log 2) else 0 : ℝ) : EReal) with hpdef
  have hz : ∀ k : Fin 2048, n ≤ k.val → p k = 0 := fun k hk => by
    rw [hpdef]; simp only [if_neg (hM k Q hk)]; rfl
  have hpk : ∀ k : Fin n, View.canon Lp (ix3 b (Fin.castLE hn k) Q) = p (Fin.castLE hn k) := fun k => hp _ k.isLt
  have e1 : acc (ix2 ⟨d.val, by omega⟩ q) = ∑ k, V d k * p k := by
    rw [hacc, ← sum_castLE hn (fun k => V d k * p k) fun k hk => by rw [hz k hk, mul_zero]]
    exact Finset.sum_congr rfl fun k _ => by rw [hV d, hpk k]
  have e2 : acc (ix2 64 q) = ∑ k, p k := by
    rw [hacc, ← sum_castLE hn p hz]
    exact Finset.sum_congr rfl fun k _ => by rw [h1, hpk k, one_mul]
  rw [half_apply, e1, e2]
  exact attend_of_scaled (fun k => σ k Q * Real.log 2) (fun k => M k Q) (V d) hk₀ hc p fun k => rfl

/-- The products of a tile of 256 keys. -/
def acc256 (vt : FVec Ideal S1x80x256 .bf16) (p : FVec Ideal S1x256x256 .bf16) : FVec Ideal S80x256 .f32 :=
  matmul dot_S80x256_S256x256_S80x256_1_0_0_1_n_n none (shapeCast S80x256 vt shapeCasts_S1x80x256_S80x256) (shapeCast S256x256 p shapeCasts_S1x256x256_S256x256)
    (constant (F := Ideal) S80x256 .f32 0x00000000#32)

theorem acc256_apply (vt : FVec Ideal S1x80x256 .bf16) (p : FVec Ideal S1x256x256 .bf16) (i : Fin 80) (q : Fin 256) :
    acc256 vt p (ix2 i q) = ∑ k : Fin 256, vt (ix3 0 i k) * p (ix3 0 k q) := by
  unfold acc256
  pointwise [dot_S80x256_S256x256_S80x256_1_0_0_1_n_n]

/-- The products of a tile of 512 keys. -/
def acc512 (vt : FVec Ideal S1x80x512 .bf16) (p : FVec Ideal S1x512x256 .bf16) : FVec Ideal S80x256 .f32 :=
  matmul dot_S80x512_S512x256_S80x256_1_0_0_1_n_n none (shapeCast S80x512 vt shapeCasts_S1x80x512_S80x512) (shapeCast S512x256 p shapeCasts_S1x512x256_S512x256)
    (constant (F := Ideal) S80x256 .f32 0x00000000#32)

theorem acc512_apply (vt : FVec Ideal S1x80x512 .bf16) (p : FVec Ideal S1x512x256 .bf16) (i : Fin 80) (q : Fin 256) :
    acc512 vt p (ix2 i q) = ∑ k : Fin 512, vt (ix3 0 i k) * p (ix3 0 k q) := by
  unfold acc512
  pointwise [dot_S80x512_S512x256_S80x256_1_0_0_1_n_n]

/-- The products of a tile of 768 keys. -/
def acc768 (vt : FVec Ideal S1x80x768 .bf16) (p : FVec Ideal S1x768x256 .bf16) : FVec Ideal S80x256 .f32 :=
  matmul dot_S80x768_S768x256_S80x256_1_0_0_1_n_n none (shapeCast S80x768 vt shapeCasts_S1x80x768_S80x768) (shapeCast S768x256 p shapeCasts_S1x768x256_S768x256)
    (constant (F := Ideal) S80x256 .f32 0x00000000#32)

theorem acc768_apply (vt : FVec Ideal S1x80x768 .bf16) (p : FVec Ideal S1x768x256 .bf16) (i : Fin 80) (q : Fin 256) :
    acc768 vt p (ix2 i q) = ∑ k : Fin 768, vt (ix3 0 i k) * p (ix3 0 k q) := by
  unfold acc768
  pointwise [dot_S80x768_S768x256_S80x256_1_0_0_1_n_n]

/-- The products of a tile of 1024 keys. -/
def acc1024 (vt : FVec Ideal S1x80x1024 .bf16) (p : FVec Ideal S1x1024x256 .bf16) : FVec Ideal S80x256 .f32 :=
  matmul dot_S80x1024_S1024x256_S80x256_1_0_0_1_n_n none (shapeCast S80x1024 vt shapeCasts_S1x80x1024_S80x1024) (shapeCast S1024x256 p shapeCasts_S1x1024x256_S1024x256)
    (constant (F := Ideal) S80x256 .f32 0x00000000#32)

theorem acc1024_apply (vt : FVec Ideal S1x80x1024 .bf16) (p : FVec Ideal S1x1024x256 .bf16) (i : Fin 80) (q : Fin 256) :
    acc1024 vt p (ix2 i q) = ∑ k : Fin 1024, vt (ix3 0 i k) * p (ix3 0 k q) := by
  unfold acc1024
  pointwise [dot_S80x1024_S1024x256_S80x256_1_0_0_1_n_n]

/-- The products of a tile of 1280 keys. -/
def acc1280 (vt : FVec Ideal S1x80x1280 .bf16) (p : FVec Ideal S1x1280x256 .bf16) : FVec Ideal S80x256 .f32 :=
  matmul dot_S80x1280_S1280x256_S80x256_1_0_0_1_n_n none (shapeCast S80x1280 vt shapeCasts_S1x80x1280_S80x1280) (shapeCast S1280x256 p shapeCasts_S1x1280x256_S1280x256)
    (constant (F := Ideal) S80x256 .f32 0x00000000#32)

theorem acc1280_apply (vt : FVec Ideal S1x80x1280 .bf16) (p : FVec Ideal S1x1280x256 .bf16) (i : Fin 80) (q : Fin 256) :
    acc1280 vt p (ix2 i q) = ∑ k : Fin 1280, vt (ix3 0 i k) * p (ix3 0 k q) := by
  unfold acc1280
  pointwise [dot_S80x1280_S1280x256_S80x256_1_0_0_1_n_n]

/-- The products of a tile of 1536 keys. -/
def acc1536 (vt : FVec Ideal S1x80x1536 .bf16) (p : FVec Ideal S1x1536x256 .bf16) : FVec Ideal S80x256 .f32 :=
  matmul dot_S80x1536_S1536x256_S80x256_1_0_0_1_n_n none (shapeCast S80x1536 vt shapeCasts_S1x80x1536_S80x1536) (shapeCast S1536x256 p shapeCasts_S1x1536x256_S1536x256)
    (constant (F := Ideal) S80x256 .f32 0x00000000#32)

theorem acc1536_apply (vt : FVec Ideal S1x80x1536 .bf16) (p : FVec Ideal S1x1536x256 .bf16) (i : Fin 80) (q : Fin 256) :
    acc1536 vt p (ix2 i q) = ∑ k : Fin 1536, vt (ix3 0 i k) * p (ix3 0 k q) := by
  unfold acc1536
  pointwise [dot_S80x1536_S1536x256_S80x256_1_0_0_1_n_n]

/-- The products of a tile of 1792 keys. -/
def acc1792 (vt : FVec Ideal S1x80x1792 .bf16) (p : FVec Ideal S1x1792x256 .bf16) : FVec Ideal S80x256 .f32 :=
  matmul dot_S80x1792_S1792x256_S80x256_1_0_0_1_n_n none (shapeCast S80x1792 vt shapeCasts_S1x80x1792_S80x1792) (shapeCast S1792x256 p shapeCasts_S1x1792x256_S1792x256)
    (constant (F := Ideal) S80x256 .f32 0x00000000#32)

theorem acc1792_apply (vt : FVec Ideal S1x80x1792 .bf16) (p : FVec Ideal S1x1792x256 .bf16) (i : Fin 80) (q : Fin 256) :
    acc1792 vt p (ix2 i q) = ∑ k : Fin 1792, vt (ix3 0 i k) * p (ix3 0 k q) := by
  unfold acc1792
  pointwise [dot_S80x1792_S1792x256_S80x256_1_0_0_1_n_n]

/-- The products of a tile of 2048 keys. -/
def acc2048 (vt : FVec Ideal S1x80x2048 .bf16) (p : FVec Ideal S1x2048x256 .bf16) : FVec Ideal S80x256 .f32 :=
  matmul dot_S80x2048_S2048x256_S80x256_1_0_0_1_n_n none (shapeCast S80x2048 vt shapeCasts_S1x80x2048_S80x2048) (shapeCast S2048x256 p shapeCasts_S1x2048x256_S2048x256)
    (constant (F := Ideal) S80x256 .f32 0x00000000#32)

theorem acc2048_apply (vt : FVec Ideal S1x80x2048 .bf16) (p : FVec Ideal S1x2048x256 .bf16) (i : Fin 80) (q : Fin 256) :
    acc2048 vt p (ix2 i q) = ∑ k : Fin 2048, vt (ix3 0 i k) * p (ix3 0 k q) := by
  unfold acc2048
  pointwise [dot_S80x2048_S2048x256_S80x256_1_0_0_1_n_n]

end Cert.Attend
-- ==== Proof.Attn.Values.lean ====
/-
  The transposed values of the two heads of a grid point, and the sixteen rows of ones below them.
-/
module

public import proofs.«01_k».proof.Proof.Attn.Out
public import Idealize.ShloMosaic.Lib.WholeRead

@[expose] public section

set_option maxRecDepth 16384

noncomputable section

namespace Cert.Attend

open Idealize.ShloMosaic Idealize.ShloMosaic.TcCoe Idealize.SL.Sem Cert.AttnIdeal Cert.AttnIdeal.Gen
open scoped BigOperators

/-- A read of 256 rows of an operand. -/
theorem readAt_rows {W : ℕ} {m : Memref sig .tc .vmem ⟨3, ![1, 2048, W]⟩ .bf16} (h : m.IsWhole) (x : FVec Ideal ⟨3, ![1, 2048, W]⟩ .bf16) (o : ℕ)
    (hin : ∀ a, (![0, o, 0] : Fin 3 → ℕ) a + (⟨3, ![1, 256, W]⟩ : Shape).size a ≤ (⟨3, ![1, 2048, W]⟩ : Shape).size a) (z : Fin 1) (k : Fin 256)
    (l : Fin W) (hk : o + k.val < 2048) :
    View.readAt (Elt Ideal) m.view (Rect.unit (s := ⟨3, ![1, 2048, W]⟩) ![0, o, 0] (Shape.size ⟨3, ![1, 256, W]⟩) hin).toLoadRect (h.unread x) (ix3 z k l)
      = x (ix3 0 ⟨o + k.val, hk⟩ l) := by
  rw [Memref.IsWhole.readAt_unread]
  refine congrArg x (funext fun a => Fin.ext ?_)
  fin_cases a
  · show 0 + 1 * z.val = 0; omega
  · show o + 1 * k.val = o + k.val; omega
  · show 0 + 1 * l.val = l.val; omega

/-- The transposed rows of a block of values, of the head from lane `o`. -/
def vPiece (o : ℕ) (ho : S128x256.Slices ![o, 0] S64x256) (rd : FVec Ideal S1x256x128 .bf16) : FVec Ideal S1x64x256 .bf16 :=
  shapeCast S1x64x256
    (extractStridedSlice S64x256 ![o, 0]
      (truncf .bf16 (transpose S128x256 [1, 0] (extf .f32 (shapeCast S256x128 rd shapeCasts_S1x256x128_S256x128) bitsLt_bf16_f32)
        transposes_S256x128_p1_0_S128x256) bitsLt_bf16_f32) ho) shapeCasts_S64x256_S1x64x256

theorem vPiece_apply (o : ℕ) (ho : S128x256.Slices ![o, 0] S64x256) (rd : FVec Ideal S1x256x128 .bf16) (z : Fin 1) (d : Fin 64) (k : Fin 256)
    (h : o + d.val < 128) : vPiece o ho rd (ix3 z d k) = rd (ix3 0 k ⟨o + d.val, h⟩) := by
  unfold vPiece
  pointwise

/-- What the buffer of values holds: the values' lanes, and ones below. -/
def vtOf (x : FVec Ideal S1x2048x128 .bf16) (hh : Fin 2) (i : Fin 80) (k : Fin 2048) : EReal :=
  if h : i.val < 64 then x (ix3 0 k ⟨64 * hh.val + i.val, by omega⟩) else 1

/-- The buffer's rows of ones. -/
theorem canon_ones (hh : Fin 2) {L : List (View.Piece (Elt Ideal) S2x80x2048 .bf16)} {w : FVec Ideal S1x16x2048 .bf16} (hw : ∀ y, w y = 1)
    {hin : ∀ a, (![hh.val, 64, 0] : Fin 3 → ℕ) a + S1x16x2048.size a ≤ S2x80x2048.size a} (b : Fin 2) (i : Fin 80) (k : Fin 2048) (hi : 64 ≤ i.val)
    (hL : b ≠ hh → View.canon L (ix3 b i k) = 1) :
    View.canon (⟨Rect.unit (s := S2x80x2048) ![hh.val, 64, 0] S1x16x2048.size hin, w⟩ :: L) (ix3 b i k) = 1 := by
  by_cases hb : b = hh
  · have e : (Rect.unit (s := S2x80x2048) ![hh.val, 64, 0] S1x16x2048.size hin).emb (ix3 0 ⟨i.val - 64, by omega⟩ k) = ix3 b i k := by
      funext a
      apply Fin.ext
      fin_cases a
      · show hh.val + 1 * 0 = b.val; rw [hb]; omega
      · show 64 + 1 * (i.val - 64) = i.val; omega
      · show 0 + 1 * k.val = k.val; omega
    rw [← e]
    exact (View.canon_cons_emb _ _ _ _).trans (hw _)
  · rw [View.canon_cons_of_not_mem _ _ fun hm => ?_]
    · exact hL hb
    obtain ⟨x, hx⟩ := (Rect.unit (s := S2x80x2048) ![hh.val, 64, 0] S1x16x2048.size hin).exists_idx_of_mem hm
    have h1 := congrArg (fun y : S2x80x2048.Idx => (y 0).val) hx
    change hh.val + 1 * (x 0).val = b.val at h1
    have h2 : (x 0).val < 1 := (x 0).isLt
    exact hb (Fin.ext (by omega))

/-- One block of one head on top of the blocks before it. -/
theorem canon_vt {x : FVec Ideal S1x2048x128 .bf16} {m : Memref sig .tc .vmem S1x2048x128 .bf16} (hm : m.IsWhole) (n : ℕ) (hh : Fin 2)
    {L : List (View.Piece (Elt Ideal) S2x80x2048 .bf16)} {ho : S128x256.Slices ![64 * hh.val, 0] S64x256}
    {hin : ∀ a, (![hh.val, 0, 256 * n] : Fin 3 → ℕ) a + S1x64x256.size a ≤ S2x80x2048.size a}
    {hrd : ∀ a, (![0, 256 * n, 0] : Fin 3 → ℕ) a + S1x256x128.size a ≤ S1x2048x128.size a} (hn : n < 8)
    (hL : ∀ b i k, (64 ≤ i.val ∨ 2 * (k.val / 256) + b.val < 2 * n + hh.val) → View.canon L (ix3 b i k) = vtOf x b i k)
    (b : Fin 2) (i : Fin 80) (k : Fin 2048) (hk : 64 ≤ i.val ∨ 2 * (k.val / 256) + b.val < 2 * n + hh.val + 1) :
    View.canon (⟨Rect.unit (s := S2x80x2048) ![hh.val, 0, 256 * n] S1x64x256.size hin,
      vPiece (64 * hh.val) ho (View.readAt (Elt Ideal) m.view (Rect.unit (s := S1x2048x128) ![0, 256 * n, 0] S1x256x128.size hrd).toLoadRect (hm.unread x))⟩ :: L)
      (ix3 b i k) = vtOf x b i k := by
  by_cases hc : i.val < 64 ∧ b = hh ∧ k.val / 256 = n
  · obtain ⟨hi, rfl, hkn⟩ := hc
    have e : (Rect.unit (s := S2x80x2048) ![b.val, 0, 256 * n] S1x64x256.size hin).emb (ix3 0 ⟨i.val, hi⟩ ⟨k.val - 256 * n, by omega⟩) = ix3 b i k := by
      funext a
      apply Fin.ext
      fin_cases a
      · show b.val + 1 * 0 = b.val; omega
      · show 0 + 1 * i.val = i.val; omega
      · show 256 * n + 1 * (k.val - 256 * n) = k.val; omega
    rw [← e]
    refine (View.canon_cons_emb _ _ _ _).trans ?_
    rw [vtOf, dif_pos hi]
    refine (vPiece_apply _ ho _ _ ⟨i.val, hi⟩ ⟨k.val - 256 * n, by omega⟩ (by show 64 * b.val + i.val < 128; omega)).trans ?_
    refine (readAt_rows hm x (256 * n) hrd _ _ _ (by show 256 * n + (k.val - 256 * n) < 2048; omega)).trans ?_
    congr 2
    exact Fin.ext (by show 256 * n + (k.val - 256 * n) = k.val; omega)
  · rw [View.canon_cons_of_not_mem _ _ fun hmem => hc ?_]
    · refine hL b i k ?_
      by_contra hno
      exact hc ⟨by omega, Fin.ext (by omega), by omega⟩
    obtain ⟨y, hy⟩ := (Rect.unit (s := S2x80x2048) ![hh.val, 0, 256 * n] S1x64x256.size hin).exists_idx_of_mem hmem
    have h0 := congrArg (fun y : S2x80x2048.Idx => (y 0).val) hy
    have h1 := congrArg (fun y : S2x80x2048.Idx => (y 1).val) hy
    have h2 := congrArg (fun y : S2x80x2048.Idx => (y 2).val) hy
    change hh.val + 1 * (y 0).val = b.val at h0
    change 0 + 1 * (y 1).val = i.val at h1
    change 256 * n + 1 * (y 2).val = k.val at h2
    have l0 : (y 0).val < 1 := (y 0).isLt
    have l1 : (y 1).val < 64 := (y 1).isLt
    have l2 : (y 2).val < 256 := (y 2).isLt
    exact ⟨by omega, Fin.ext (by omega), by omega⟩

open Cert.AttnIdeal.Gen.kernelRun0_A.sl

theorem ones_apply (y : S1x16x2048.Idx) : (v3 : FVec Ideal S1x16x2048 .bf16) y = 1 := by
  idx_vars y
  change Ideal.ofBits .bf16 0x3F80#16 = 1
  simp [Ideal.ofBits, Ideal.ieee]
  rw [← EReal.coe_mul]
  norm_num

theorem canonVA (c : Dev nD) (a4 : Memref sig .tc .vmem S1x2048x128 .bf16) (h : a4.IsWhole) (x2 : FVec Ideal S1x2048x128 .bf16)
    (b : Fin 2) (i : Fin 80) (k : Fin 2048) : View.canon (HS1_18 (F := Ideal) c a4 h x2) (ix3 b i k) = vtOf x2 b i k := by
  have hk : 64 ≤ i.val ∨ 2 * (k.val / 256) + b.val < 2 * 7 + (1 : Fin 2).val + 1 := Or.inr (by show _ < 2 * 7 + 1 + 1; omega)
  refine canon_vt h 7 1 (by decide) (fun b i k hk => ?_) b i k hk
  refine canon_vt h 7 0 (by decide) (fun b i k hk => ?_) b i k hk
  refine canon_vt h 6 1 (by decide) (fun b i k hk => ?_) b i k hk
  refine canon_vt h 6 0 (by decide) (fun b i k hk => ?_) b i k hk
  refine canon_vt h 5 1 (by decide) (fun b i k hk => ?_) b i k hk
  refine canon_vt h 5 0 (by decide) (fun b i k hk => ?_) b i k hk
  refine canon_vt h 4 1 (by decide) (fun b i k hk => ?_) b i k hk
  refine canon_vt h 4 0 (by decide) (fun b i k hk => ?_) b i k hk
  refine canon_vt h 3 1 (by decide) (fun b i k hk => ?_) b i k hk
  refine canon_vt h 3 0 (by decide) (fun b i k hk => ?_) b i k hk
  refine canon_vt h 2 1 (by decide) (fun b i k hk => ?_) b i k hk
  refine canon_vt h 2 0 (by decide) (fun b i k hk => ?_) b i k hk
  refine canon_vt h 1 1 (by decide) (fun b i k hk => ?_) b i k hk
  refine canon_vt h 1 0 (by decide) (fun b i k hk => ?_) b i k hk
  refine canon_vt h 0 1 (by decide) (fun b i k hk => ?_) b i k hk
  refine canon_vt h 0 0 (by decide) (fun b i k hk => ?_) b i k hk
  have hi : 64 ≤ i.val := hk.resolve_right (Nat.not_lt_zero _)
  rw [vtOf, dif_neg (by omega)]
  refine canon_ones 1 ones_apply b i k hi fun hb => canon_ones 0 ones_apply b i k hi fun hb' => absurd ?_ hb
  exact Fin.ext (by have := fun h => hb' (Fin.ext h); change b.val = 1; change b.val = 0 → False at this; omega)

theorem canonVB (c : Dev nD) (a7 : Memref sig .tc .vmem S1x2048x128 .bf16) (h : a7.IsWhole) (x5 : FVec Ideal S1x2048x128 .bf16)
    (b : Fin 2) (i : Fin 80) (k : Fin 2048) : View.canon (HS3_18 (F := Ideal) c a7 h x5) (ix3 b i k) = vtOf x5 b i k := by
  have hk : 64 ≤ i.val ∨ 2 * (k.val / 256) + b.val < 2 * 7 + (1 : Fin 2).val + 1 := Or.inr (by show _ < 2 * 7 + 1 + 1; omega)
  refine canon_vt h 7 1 (by decide) (fun b i k hk => ?_) b i k hk
  refine canon_vt h 7 0 (by decide) (fun b i k hk => ?_) b i k hk
  refine canon_vt h 6 1 (by decide) (fun b i k hk => ?_) b i k hk
  refine canon_vt h 6 0 (by decide) (fun b i k hk => ?_) b i k hk
  refine canon_vt h 5 1 (by decide) (fun b i k hk => ?_) b i k hk
  refine canon_vt h 5 0 (by decide) (fun b i k hk => ?_) b i k hk
  refine canon_vt h 4 1 (by decide) (fun b i k hk => ?_) b i k hk
  refine canon_vt h 4 0 (by decide) (fun b i k hk => ?_) b i k hk
  refine canon_vt h 3 1 (by decide) (fun b i k hk => ?_) b i k hk
  refine canon_vt h 3 0 (by decide) (fun b i k hk => ?_) b i k hk
  refine canon_vt h 2 1 (by decide) (fun b i k hk => ?_) b i k hk
  refine canon_vt h 2 0 (by decide) (fun b i k hk => ?_) b i k hk
  refine canon_vt h 1 1 (by decide) (fun b i k hk => ?_) b i k hk
  refine canon_vt h 1 0 (by decide) (fun b i k hk => ?_) b i k hk
  refine canon_vt h 0 1 (by decide) (fun b i k hk => ?_) b i k hk
  refine canon_vt h 0 0 (by decide) (fun b i k hk => ?_) b i k hk
  have hi : 64 ≤ i.val := hk.resolve_right (Nat.not_lt_zero _)
  rw [vtOf, dif_neg (by omega)]
  refine canon_ones 1 ones_apply b i k hi fun hb => canon_ones 0 ones_apply b i k hi fun hb' => absurd ?_ hb
  exact Fin.ext (by have := fun h => hb' (Fin.ext h); change b.val = 1; change b.val = 0 → False at this; omega)

end Cert.Attend
-- ==== Proof.Attn.Keys.lean ====
/-
  The keys of the block-sparse stream as the kernel keeps them: the means of the blocks in two parts, then the keys.
-/
module

public import proofs.«01_k».proof.Proof.Attn.Values

@[expose] public section

set_option maxRecDepth 16384

noncomputable section

namespace Cert.Attend

open Idealize.ShloMosaic Idealize.ShloMosaic.TcCoe Idealize.SL.Sem Cert.AttnIdeal Cert.AttnIdeal.Gen
open scoped BigOperators

/-- One more block's mean, in the block's row. -/
def meanStep (n : BitVec 32) (rd : FVec Ideal S1x256x128 .bf16) (acc : FVec Ideal S8x128 .f32) : FVec Ideal S8x128 .f32 :=
  select (cmpi .eq (iota .tc S8x128 32 [0]) (broadcast S8x128 n))
    (broadcastTo S8x128 (shapeCast S1x128 (mulf (shapeCast S1x128
      (multiReduction .add [0] S128 (extf .f32 (shapeCast S256x128 rd shapeCasts_S1x256x128_S256x128) bitsLt_bf16_f32) 0x00000000#32
        reduces_S256x128_S128 (.inl rfl) rfl) shapeCasts_S128_S1x128) (broadcast S1x128 (Scalar.ofBits (F := Ideal) .f32 0x3B800000#32)))
      shapeCasts_S1x128_S1x128) broadcasts_S1x128_S8x128) acc

theorem meanStep_apply (n : Fin 8) (rd : FVec Ideal S1x256x128 .bf16) (acc : FVec Ideal S8x128 .f32) (b : Fin 8) (l : Fin 128) :
    meanStep (BitVec.ofNat 32 n.val) rd acc (ix2 b l)
      = if b = n then (∑ k : Fin 256, rd (ix3 0 k l)) * Scalar.ofBits (F := Ideal) .f32 0x3B800000#32 else acc (ix2 b l) := by
  unfold meanStep
  pointwise
  have hcmp : IntOp.cmpi CmpIPredicate.eq (BitVec.ofNat 32 b.val) (BitVec.ofNat 32 n.val) = if b = n then 1#1 else 0#1 := by
    revert b n
    decide
  rw [hcmp]
  split_ifs <;> rfl

/-- The means of the eight blocks, computed one after another. -/
def meansOf (r0 r1 r2 r3 r4 r5 r6 r7 : FVec Ideal S1x256x128 .bf16) : FVec Ideal S8x128 .f32 :=
  meanStep 7#32 r7 (meanStep 6#32 r6 (meanStep 5#32 r5 (meanStep 4#32 r4 (meanStep 3#32 r3 (meanStep 2#32 r2 (meanStep 1#32 r1
    (meanStep 0#32 r0 (broadcast S8x128 (Scalar.ofBits (F := Ideal) .f32 0x00000000#32)))))))))

theorem inv256 : (Scalar.ofBits (F := Ideal) .f32 0x3B800000#32 : EReal) = ((1 / 256 : ℝ) : EReal) := by
  change Ideal.ofBits .f32 0x3B800000#32 = _
  simp [Ideal.ofBits, Ideal.ieee]
  rw [← EReal.coe_mul]
  norm_num

/-- The mean of a block of keys. -/
def meanR (a : Fin 2048 → Fin 128 → ℝ) (b : Fin 8) (l : Fin 128) : ℝ := (∑ k : Fin 256, a ⟨256 * b.val + k.val, by omega⟩ l) * (1 / 256)

theorem meansOf_apply {r : Fin 8 → FVec Ideal S1x256x128 .bf16} {a : Fin 2048 → Fin 128 → ℝ}
    (hr : ∀ n k l, r n (ix3 0 k l) = (a ⟨256 * n.val + k.val, by omega⟩ l : EReal)) (b : Fin 8) (l : Fin 128) :
    meansOf (r 0) (r 1) (r 2) (r 3) (r 4) (r 5) (r 6) (r 7) (ix2 b l) = (meanR a b l : EReal) := by
  have h : ∀ n : Fin 8, (∑ k : Fin 256, (r n (ix3 0 k l) : EReal)) * Scalar.ofBits (F := Ideal) .f32 0x3B800000#32 = (meanR a n l : EReal) := fun n => by
    rw [inv256, meanR, EReal.coe_mul, coe_sum]
    exact congrArg (· * _) (Finset.sum_congr rfl fun k _ => hr n k l)
  unfold meansOf
  refine (meanStep_apply 7 _ _ b l).trans ?_
  rw [h]
  split_ifs with h7
  · rw [h7]
  refine (meanStep_apply 6 _ _ b l).trans ?_
  rw [h]
  split_ifs with h6
  · rw [h6]
  refine (meanStep_apply 5 _ _ b l).trans ?_
  rw [h]
  split_ifs with h5
  · rw [h5]
  refine (meanStep_apply 4 _ _ b l).trans ?_
  rw [h]
  split_ifs with h4
  · rw [h4]
  refine (meanStep_apply 3 _ _ b l).trans ?_
  rw [h]
  split_ifs with h3
  · rw [h3]
  refine (meanStep_apply 2 _ _ b l).trans ?_
  rw [h]
  split_ifs with h2
  · rw [h2]
  refine (meanStep_apply 1 _ _ b l).trans ?_
  rw [h]
  split_ifs with h1
  · rw [h1]
  refine (meanStep_apply 0 _ _ b l).trans ?_
  rw [h]
  split_ifs with h0
  · rw [h0]
  · omega

/-- The two parts of the means: rounded, and what the rounding left. -/
def meanParts (m : FVec Ideal S8x128 .f32) : FVec Ideal S16x128 .bf16 :=
  shapeCast S16x128 (truncf .bf16 (concatenate S16x128 0
    [⟨S8x128, extf .f32 (truncf .bf16 m bitsLt_bf16_f32) bitsLt_bf16_f32⟩,
      ⟨S8x128, subf m (extf .f32 (truncf .bf16 m bitsLt_bf16_f32) bitsLt_bf16_f32)⟩] concatenates_S8x128_S8x128_S16x128_d0) bitsLt_bf16_f32)
    shapeCasts_S16x128_S16x128

theorem meanParts_apply {m : FVec Ideal S8x128 .f32} {μ : Fin 8 → Fin 128 → ℝ} (hm : ∀ b l, m (ix2 b l) = (μ b l : EReal)) (i : Fin 16) (l : Fin 128) :
    meanParts m (ix2 i l) = ((if h : i.val < 8 then μ ⟨i.val, h⟩ l else 0 : ℝ) : EReal) := by
  unfold meanParts
  pointwise
  split_ifs with h
  · exact hm _ _
  all_goals
    refine (congrArg₂ (fun x y : EReal => x - y) (hm _ _) (hm _ _)).trans ?_
    rw [← EReal.coe_sub, sub_self]

/-- The kept rows: means, remainders, keys. -/
def keyRow (a : Fin 2048 → Fin 128 → ℝ) (k : Fin 2064) (l : Fin 128) : ℝ :=
  if h : k.val < 16 then (if h : k.val < 8 then meanR a ⟨k.val, h⟩ l else 0) else a ⟨k.val - 16, by omega⟩ l

/-- A piece of rows, read inside and outside. -/
theorem canon_rows {R o : ℕ} {L : List (View.Piece (Elt Ideal) S2064x128 .bf16)} {w : FVec Ideal ⟨2, ![R, 128]⟩ .bf16}
    {hin : ∀ a, (![o, 0] : Fin 2 → ℕ) a + (⟨2, ![R, 128]⟩ : Shape).size a ≤ S2064x128.size a} (k : Fin 2064) (l : Fin 128) {v : EReal}
    (hw : ∀ h : k.val - o < R, o ≤ k.val → w (ix2 ⟨k.val - o, h⟩ l) = v) (hL : ¬ (o ≤ k.val ∧ k.val < o + R) → View.canon L (ix2 k l) = v) :
    View.canon (⟨Rect.unit (s := S2064x128) ![o, 0] (Shape.size ⟨2, ![R, 128]⟩) hin, w⟩ :: L) (ix2 k l) = v := by
  by_cases hc : o ≤ k.val ∧ k.val < o + R
  · have e : (Rect.unit (s := S2064x128) ![o, 0] (Shape.size ⟨2, ![R, 128]⟩) hin).emb (ix2 ⟨k.val - o, by omega⟩ l) = ix2 k l := by
      funext a
      apply Fin.ext
      fin_cases a
      · show o + 1 * (k.val - o) = k.val; omega
      · show 0 + 1 * l.val = l.val; omega
    rw [← e]
    exact (View.canon_cons_emb _ _ _ _).trans (hw _ hc.1)
  · rw [View.canon_cons_of_not_mem _ _ fun hm => hc ?_]
    · exact hL hc
    obtain ⟨y, hy⟩ := (Rect.unit (s := S2064x128) ![o, 0] (Shape.size ⟨2, ![R, 128]⟩) hin).exists_idx_of_mem hm
    have h0 := congrArg (fun y : S2064x128.Idx => (y 0).val) hy
    change o + 1 * (y 0).val = k.val at h0
    have l0 : (y 0).val < R := (y 0).isLt
    omega

/-- A block of keys, kept as read. -/
def keyBlock (rd : FVec Ideal S1x256x128 .bf16) : FVec Ideal S256x128 .bf16 :=
  shapeCast S256x128 (shapeCast S256x128 rd shapeCasts_S1x256x128_S256x128) shapeCasts_S256x128_S256x128

theorem keyBlock_apply (rd : FVec Ideal S1x256x128 .bf16) (k : Fin 256) (l : Fin 128) : keyBlock rd (ix2 k l) = rd (ix3 0 k l) := by
  unfold keyBlock
  pointwise

open Cert.AttnIdeal.Gen.kernelRun0_A.sl

variable (c : Dev nD) (a3 : Memref sig .tc .vmem S1x2048x128 .bf16) (h3 : a3.IsWhole) (x1 : FVec Ideal S1x2048x128 .bf16)

/-- A read of a block of keys. -/
abbrev rdBlock {m : Memref sig .tc .vmem S1x2048x128 .bf16} (hm : m.IsWhole) (x : FVec Ideal S1x2048x128 .bf16) (o : ℕ)
    (hin : ∀ a, (![0, o, 0] : Fin 3 → ℕ) a + S1x256x128.size a ≤ S1x2048x128.size a) : FVec Ideal S1x256x128 .bf16 :=
  View.readAt (Elt Ideal) m.view (Rect.unit (s := S1x2048x128) ![0, o, 0] S1x256x128.size hin).toLoadRect (hm.unread x)

theorem rd_inb (n : Fin 8) : ∀ a, (![0, 256 * n.val, 0] : Fin 3 → ℕ) a + S1x256x128.size a ≤ S1x2048x128.size a := by
  revert n
  decide

/-- The kept rows are what the pieces hold. -/
theorem canonK {a : Fin 2048 → Fin 128 → ℝ} (ha : ∀ k l, x1 (ix3 0 k l) = (a k l : EReal)) (k : Fin 2064) (l : Fin 128) :
    View.canon (HS0_9 (F := Ideal) c a3 h3 x1) (ix2 k l) = (keyRow a k l : EReal) := by
  have hr : ∀ (n : Fin 8) k l, rdBlock h3 x1 (256 * n.val) (rd_inb n) (ix3 0 k l) = (a ⟨256 * n.val + k.val, by omega⟩ l : EReal) := fun n k l =>
    (readAt_rows h3 x1 (256 * n.val) (rd_inb n) 0 k l (by omega)).trans (ha _ _)
  refine canon_rows (R := 16) (o := 0) (w := meanParts (meansOf (rdBlock h3 x1 (256 * (0 : Fin 8).val) (rd_inb 0)) (rdBlock h3 x1 (256 * (1 : Fin 8).val) (rd_inb 1))
    (rdBlock h3 x1 (256 * (2 : Fin 8).val) (rd_inb 2)) (rdBlock h3 x1 (256 * (3 : Fin 8).val) (rd_inb 3)) (rdBlock h3 x1 (256 * (4 : Fin 8).val) (rd_inb 4))
    (rdBlock h3 x1 (256 * (5 : Fin 8).val) (rd_inb 5)) (rdBlock h3 x1 (256 * (6 : Fin 8).val) (rd_inb 6)) (rdBlock h3 x1 (256 * (7 : Fin 8).val) (rd_inb 7)))) k l (fun h _ => ?_) fun hk => ?_
  · rw [meanParts_apply (meansOf_apply (r := fun n => rdBlock h3 x1 (256 * n.val) (rd_inb n)) hr)]
    unfold keyRow
    rw [dif_pos (show k.val < 16 by omega)]
    rfl
  have hge : 16 ≤ k.val := by omega
  have step : ∀ (n : Fin 8) (h : k.val - (16 + 256 * n.val) < 256), 16 + 256 * n.val ≤ k.val →
      keyBlock (rdBlock h3 x1 (256 * n.val) (rd_inb n)) (ix2 ⟨k.val - (16 + 256 * n.val), h⟩ l) = (keyRow a k l : EReal) := fun n h hk => by
    rw [keyBlock_apply, hr, keyRow, dif_neg (by omega)]
    congr 3
    show 256 * n.val + (k.val - (16 + 256 * n.val)) = k.val - 16
    omega
  refine canon_rows (R := 256) (o := 1808) k l (step 7) fun h7 => ?_
  refine canon_rows (R := 256) (o := 1552) k l (step 6) fun h6 => ?_
  refine canon_rows (R := 256) (o := 1296) k l (step 5) fun h5 => ?_
  refine canon_rows (R := 256) (o := 1040) k l (step 4) fun h4 => ?_
  refine canon_rows (R := 256) (o := 784) k l (step 3) fun h3 => ?_
  refine canon_rows (R := 256) (o := 528) k l (step 2) fun h2 => ?_
  refine canon_rows (R := 256) (o := 272) k l (step 1) fun h1 => ?_
  refine canon_rows (R := 256) (o := 16) k l (step 0) fun h0 => ?_
  omega

end Cert.Attend
-- ==== Proof.Attn.Scores.lean ====
/-
  The scores of a tile: the kept rows times the queries of the two heads, each query with the lanes of its own head.
-/
module

public import proofs.«01_k».proof.Proof.Attn.Keys
public import Idealize.ShloMosaic.Lib.ValueLayout

@[expose] public section

set_option maxRecDepth 16384

noncomputable section

namespace Cert.Attend

open Idealize.ShloMosaic Idealize.ShloMosaic.TcCoe Idealize.SL.Sem Cert.AttnIdeal Cert.AttnIdeal.Gen
open scoped BigOperators

/-- The lanes of the first head, block-sparse stream. -/
def LaneA (l : Fin 128) : Prop := l.val % 64 < 8 ∨ (16 ≤ l.val % 64 ∧ l.val % 64 < 40)

/-- The lanes of the first head, latent stream. -/
def LaneB (l : Fin 256) : Prop := l.val < 128

/-- The product of a query's lanes of head `hh` with a row. -/
def headDot {W : ℕ} (lane : Fin W → Prop) [DecidablePred lane] (hh : Fin 2) (x y : Fin W → ℝ) : ℝ := ∑ l, y l * (if (hh = 0 ↔ lane l) then x l else 0)

/-- The head of a query's column. -/
abbrev headOf (r : Fin 512) : Fin 2 := ⟨r.val / 256, by omega⟩

/-- The position of a query's column in the sequence. -/
abbrev posOf (j : Fin 8) (r : Fin 512) : Fin 2048 := ⟨256 * j.val + r.val % 256, by omega⟩

/-- The mask of the first head's lanes, block-sparse stream. -/
def maskA : IVec S256x128 1 :=
  ori (cmpi .slt (andi (iota .tc S256x128 32 [1]) (broadcast S256x128 63#32)) (broadcast S256x128 8#32))
    (andi (cmpi .sge (andi (iota .tc S256x128 32 [1]) (broadcast S256x128 63#32)) (broadcast S256x128 16#32))
      (cmpi .slt (andi (iota .tc S256x128 32 [1]) (broadcast S256x128 63#32)) (broadcast S256x128 40#32)))

/-- The mask of the first head's lanes, latent stream. -/
def maskB : IVec S256x256 1 := cmpi .slt (iota .tc S256x256 32 [1]) (broadcast S256x256 128#32)

instance : DecidablePred LaneA := fun l => inferInstanceAs (Decidable (l.val % 64 < 8 ∨ (16 ≤ l.val % 64 ∧ l.val % 64 < 40)))
instance : DecidablePred LaneB := fun l => inferInstanceAs (Decidable (l.val < 128))

theorem maskA_apply (k : Fin 256) (l : Fin 128) : maskA (ix2 k l) = if LaneA l then 1#1 else 0#1 := by
  unfold maskA
  pointwise
  revert l
  decide

theorem maskB_apply (k : Fin 256) (l : Fin 256) : maskB (ix2 k l) = if LaneB l then 1#1 else 0#1 := by
  unfold maskB
  pointwise
  revert l
  decide

theorem zero_bf16 : (Scalar.ofBits (F := Ideal) .bf16 0x0000#16 : EReal) = 0 := by
  change Ideal.ofBits .bf16 0x0000#16 = 0
  simp [Ideal.ofBits, Ideal.ieee]

/-- The queries of both heads, one head after the other, each with its own lanes. -/
def queriesA (q : FVec Ideal S1x256x128 .bf16) : FVec Ideal S512x128 .bf16 :=
  concatenate S512x128 0
    [⟨S256x128, select maskA (shapeCast S256x128 q shapeCasts_S1x256x128_S256x128) (broadcast S256x128 (Scalar.ofBits (F := Ideal) .bf16 0x0000#16))⟩,
      ⟨S256x128, select maskA (broadcast S256x128 (Scalar.ofBits (F := Ideal) .bf16 0x0000#16)) (shapeCast S256x128 q shapeCasts_S1x256x128_S256x128)⟩]
    concatenates_S256x128_S256x128_S512x128_d0

theorem queriesA_apply {a : Fin 2048 → Fin 128 → ℝ} {j : Fin 8} {q : FVec Ideal S1x256x128 .bf16}
    (hq : ∀ k l, q (ix3 0 k l) = (a ⟨256 * j.val + k.val, by omega⟩ l : EReal)) (r : Fin 512) (l : Fin 128) :
    queriesA q (ix2 r l) = ((if (headOf r = 0 ↔ LaneA l) then a (posOf j r) l else 0 : ℝ) : EReal) := by
  have h0 : (headOf r = 0) ↔ r.val < 256 := by
    rw [Fin.ext_iff]; show r.val / 256 = 0 ↔ _; omega
  unfold queriesA
  pointwise
  by_cases hr : r.val < 256
  · refine (dif_pos hr).trans ?_
    have e : (headOf r = 0 ↔ LaneA l) ↔ LaneA l := by simp only [h0, hr, true_iff]
    have ep : (⟨256 * j.val + r.val, by omega⟩ : Fin 2048) = posOf j r := Fin.ext (by show 256 * j.val + r.val = 256 * j.val + r.val % 256; omega)
    change Scalar.select (maskA (ix2 ⟨r.val, hr⟩ l)) (q (ix3 0 ⟨r.val, hr⟩ l)) 0 = _
    rw [maskA_apply, hq, ep]
    simp only [e]
    split_ifs <;> rfl
  · refine (dif_neg hr).trans ?_
    have e : (headOf r = 0 ↔ LaneA l) ↔ ¬ LaneA l := by simp only [h0, hr, false_iff]
    have ep : (⟨256 * j.val + (r.val - 256), by omega⟩ : Fin 2048) = posOf j r := Fin.ext (by show 256 * j.val + (r.val - 256) = 256 * j.val + r.val % 256; omega)
    change Scalar.select (maskA (ix2 ⟨r.val - 256, by omega⟩ l)) 0 (q (ix3 0 ⟨r.val - 256, by omega⟩ l)) = _
    rw [maskA_apply, hq, ep]
    simp only [e]
    split_ifs <;> first | rfl | contradiction

/-- The queries of both heads, one head after the other, each with its own lanes. -/
def queriesB (q : FVec Ideal S1x256x256 .bf16) : FVec Ideal S512x256 .bf16 :=
  concatenate S512x256 0
    [⟨S256x256, select maskB (shapeCast S256x256 q shapeCasts_S1x256x256_S256x256) (broadcast S256x256 (Scalar.ofBits (F := Ideal) .bf16 0x0000#16))⟩,
      ⟨S256x256, select maskB (broadcast S256x256 (Scalar.ofBits (F := Ideal) .bf16 0x0000#16)) (shapeCast S256x256 q shapeCasts_S1x256x256_S256x256)⟩]
    concatenates_S256x256_S256x256_S512x256_d0

theorem queriesB_apply {a : Fin 2048 → Fin 256 → ℝ} {j : Fin 8} {q : FVec Ideal S1x256x256 .bf16}
    (hq : ∀ k l, q (ix3 0 k l) = (a ⟨256 * j.val + k.val, by omega⟩ l : EReal)) (r : Fin 512) (l : Fin 256) :
    queriesB q (ix2 r l) = ((if (headOf r = 0 ↔ LaneB l) then a (posOf j r) l else 0 : ℝ) : EReal) := by
  have h0 : (headOf r = 0) ↔ r.val < 256 := by
    rw [Fin.ext_iff]; show r.val / 256 = 0 ↔ _; omega
  unfold queriesB
  pointwise
  by_cases hr : r.val < 256
  · refine (dif_pos hr).trans ?_
    have e : (headOf r = 0 ↔ LaneB l) ↔ LaneB l := by simp only [h0, hr, true_iff]
    have ep : (⟨256 * j.val + r.val, by omega⟩ : Fin 2048) = posOf j r := Fin.ext (by show 256 * j.val + r.val = 256 * j.val + r.val % 256; omega)
    change Scalar.select (maskB (ix2 ⟨r.val, hr⟩ l)) (q (ix3 0 ⟨r.val, hr⟩ l)) 0 = _
    rw [maskB_apply, hq, ep]
    simp only [e]
    split_ifs <;> rfl
  · refine (dif_neg hr).trans ?_
    have e : (headOf r = 0 ↔ LaneB l) ↔ ¬ LaneB l := by simp only [h0, hr, false_iff]
    have ep : (⟨256 * j.val + (r.val - 256), by omega⟩ : Fin 2048) = posOf j r := Fin.ext (by show 256 * j.val + (r.val - 256) = 256 * j.val + r.val % 256; omega)
    change Scalar.select (maskB (ix2 ⟨r.val - 256, by omega⟩ l)) 0 (q (ix3 0 ⟨r.val - 256, by omega⟩ l)) = _
    rw [maskB_apply, hq, ep]
    simp only [e]
    split_ifs <;> first | rfl | contradiction

/-- The scores of a tile from sums over lanes. -/
theorem scores_real {N W : ℕ} {lane : Fin W → Prop} [DecidablePred lane] {a : Fin 2048 → Fin W → ℝ} {j : Fin 8} {row : Fin N → Fin W → ℝ}
    {s : FVec Ideal ⟨2, ![N, 512]⟩ .f32} {keys : FVec Ideal ⟨2, ![N, W]⟩ .bf16} {q : FVec Ideal ⟨2, ![512, W]⟩ .bf16}
    (hs : ∀ k r, s (ix2 k r) = ∑ l, keys (ix2 k l) * q (ix2 r l)) (hk : ∀ k l, keys (ix2 k l) = (row k l : EReal))
    (hq : ∀ r l, q (ix2 r l) = ((if (headOf r = 0 ↔ lane l) then a (posOf j r) l else 0 : ℝ) : EReal)) (k : Fin N) (r : Fin 512) :
    s (ix2 k r) = (headDot lane (headOf r) (a (posOf j r)) (row k) : EReal) := by
  rw [hs, headDot, coe_sum]
  refine Finset.sum_congr rfl fun l _ => ?_
  rw [hk, hq, ← EReal.coe_mul]

/-- A read of the first kept rows. -/
theorem readCov_rows {N : ℕ} (hN : N ≤ 2064) (v : View sig Kind.tc Space.vmem S2064x128 .bf16) (L : List (View.Piece (Elt Ideal) S2064x128 .bf16))
    (h : ∀ a, (![0, 0] : Fin 2 → ℕ) a + (⟨2, ![N, 128]⟩ : Shape).size a ≤ S2064x128.size a) (k : Fin N) (l : Fin 128) :
    v.readCov L (Rect.unit (s := S2064x128) ![0, 0] (Shape.size ⟨2, ![N, 128]⟩) h).toLoadRect (ix2 k l) = View.canon L (ix2 (Fin.castLE hN k) l) := by
  rw [View.readCov_eq_canon']
  refine congrArg (View.canon L) (funext fun a => Fin.ext ?_)
  fin_cases a
  · show 0 + 1 * k.val = k.val; omega
  · show 0 + 1 * l.val = l.val; omega

/-- A read of the first keys of the latent stream. -/
theorem readAt_keys {N : ℕ} (hN : N ≤ 2048) {m : Memref sig .tc .vmem S1x2048x256 .bf16} (hm : m.IsWhole) (x : FVec Ideal S1x2048x256 .bf16)
    {h0 : ∀ a, (![0, 0, 0] : Fin 3 → ℕ) a + S1x2048x256.size a ≤ S1x2048x256.size a} {hst} {hsq : S1x2048x256.Squeezes S2048x256}
    (h : ∀ a, (![0, 0] : Fin 2 → ℕ) a + (⟨2, ![N, 256]⟩ : Shape).size a ≤ S2048x256.size a) (k : Fin N) (l : Fin 256) :
    View.readAt (Elt Ideal) ((m.slice (Rect.unit (s := S1x2048x256) ![0, 0, 0] S1x2048x256.size h0) hst).squeeze S2048x256 hsq).view
      (Rect.unit (s := S2048x256) ![0, 0] (Shape.size ⟨2, ![N, 256]⟩) h).toLoadRect (hm.unread x) (ix2 k l) = x (ix3 0 (Fin.castLE hN k) l) := by
  refine (hm.readAt_slice_reshape_unread (Val := Elt Ideal) x _ hsq.numel_eq _ _).trans ?_
  refine congrArg (fun y => (x y : EReal)) ?_
  have e : (Rect.unit (s := S2048x256) ![0, 0] (Shape.size ⟨2, ![N, 256]⟩) h).toLoadRect.idx (ix2 k l) = ix2 (Fin.castLE hN k) l := by
    funext a
    apply Fin.ext
    fin_cases a
    · show 0 + 1 * k.val = k.val; omega
    · show 0 + 1 * l.val = l.val; omega
  rw [e]
  refine (congrArg (Rect.emb _) (ValueIdx.reshapeEquiv_ix2_1ab _ (Fin.castLE hN k) l)).trans ?_
  funext a
  apply Fin.ext
  fin_cases a
  · rfl
  · show 0 + 1 * k.val = k.val; omega
  · show 0 + 1 * l.val = l.val; omega

open Cert.AttnIdeal.Gen.kernelRun0_A.sl

/-- The products of 272 rows. -/
def prodA0 (keys : FVec Ideal S272x128 .bf16) (q : FVec Ideal S512x128 .bf16) : FVec Ideal S272x512 .f32 :=
  matmul dot_S272x128_S512x128_S272x512_1_1_0_0_n_n none keys q (constant (F := Ideal) S272x512 .f32 0x00000000#32)

theorem prodA0_apply (keys : FVec Ideal S272x128 .bf16) (q : FVec Ideal S512x128 .bf16) (k : Fin 272) (r : Fin 512) :
    prodA0 keys q (ix2 k r) = ∑ l, keys (ix2 k l) * q (ix2 r l) := by
  unfold prodA0
  pointwise [dot_S272x128_S512x128_S272x512_1_1_0_0_n_n]

theorem scoresA0 (c : Dev nD) (a2 : Memref sig .tc .vmem S1x2048x128 .bf16) (h2 : a2.IsWhole)
    (a3 : Memref sig .tc .vmem S1x2048x128 .bf16) (h3 : a3.IsWhole) (a10 : Memref sig .tc .vmem S2064x128 .bf16)
    {x0 x1 : FVec Ideal S1x2048x128 .bf16} {a b : Fin 2048 → Fin 128 → ℝ} (ha : ∀ k l, x0 (ix3 0 k l) = (a k l : EReal))
    (hb : ∀ k l, x1 (ix3 0 k l) = (b k l : EReal)) (k : Fin 272) (r : Fin 512) :
    r_1 (F := Ideal) c a2 h2 a3 h3 a10 x0 x1 (ix2 k r)
      = (headDot LaneA (headOf r) (a (posOf 0 r)) (keyRow b (Fin.castLE (by decide : 272 ≤ 2064) k)) : EReal) :=
  scores_real (s := prodA0 (a10.view.readCov (HS0_9 (F := Ideal) c a3 h3 x1) (Rect.unit (s := S2064x128) ![0, 0] S272x128.size inb_S2064x128_S272x128_0_0).toLoadRect)
      (queriesA (rdBlock h2 x0 (256 * ((0 : Fin 8)).val) (rd_inb 0)))) (prodA0_apply _ _)
    (fun k l => (readCov_rows (by decide) a10.view _ inb_S2064x128_S272x128_0_0 k l).trans (canonK c a3 h3 x1 hb _ _))
    (queriesA_apply (j := 0) fun k l => (readAt_rows h2 x0 _ (rd_inb 0) 0 k l (by show 256 * 0 + k.val < 2048; omega)).trans (ha _ _)) k r

/-- The products of 528 rows. -/
def prodA1 (keys : FVec Ideal S528x128 .bf16) (q : FVec Ideal S512x128 .bf16) : FVec Ideal S528x512 .f32 :=
  matmul dot_S528x128_S512x128_S528x512_1_1_0_0_n_n none keys q (constant (F := Ideal) S528x512 .f32 0x00000000#32)

theorem prodA1_apply (keys : FVec Ideal S528x128 .bf16) (q : FVec Ideal S512x128 .bf16) (k : Fin 528) (r : Fin 512) :
    prodA1 keys q (ix2 k r) = ∑ l, keys (ix2 k l) * q (ix2 r l) := by
  unfold prodA1
  pointwise [dot_S528x128_S512x128_S528x512_1_1_0_0_n_n]

theorem scoresA1 (c : Dev nD) (a2 : Memref sig .tc .vmem S1x2048x128 .bf16) (h2 : a2.IsWhole)
    (a3 : Memref sig .tc .vmem S1x2048x128 .bf16) (h3 : a3.IsWhole) (a10 : Memref sig .tc .vmem S2064x128 .bf16)
    {x0 x1 : FVec Ideal S1x2048x128 .bf16} {a b : Fin 2048 → Fin 128 → ℝ} (ha : ∀ k l, x0 (ix3 0 k l) = (a k l : EReal))
    (hb : ∀ k l, x1 (ix3 0 k l) = (b k l : EReal)) (k : Fin 528) (r : Fin 512) :
    r_3 (F := Ideal) c a2 h2 a3 h3 a10 x0 x1 (ix2 k r)
      = (headDot LaneA (headOf r) (a (posOf 1 r)) (keyRow b (Fin.castLE (by decide : 528 ≤ 2064) k)) : EReal) :=
  scores_real (s := prodA1 (a10.view.readCov (HS0_9 (F := Ideal) c a3 h3 x1) (Rect.unit (s := S2064x128) ![0, 0] S528x128.size inb_S2064x128_S528x128_0_0).toLoadRect)
      (queriesA (rdBlock h2 x0 (256 * ((1 : Fin 8)).val) (rd_inb 1)))) (prodA1_apply _ _)
    (fun k l => (readCov_rows (by decide) a10.view _ inb_S2064x128_S528x128_0_0 k l).trans (canonK c a3 h3 x1 hb _ _))
    (queriesA_apply (j := 1) fun k l => (readAt_rows h2 x0 _ (rd_inb 1) 0 k l (by show 256 * 1 + k.val < 2048; omega)).trans (ha _ _)) k r

/-- The products of 784 rows. -/
def prodA2 (keys : FVec Ideal S784x128 .bf16) (q : FVec Ideal S512x128 .bf16) : FVec Ideal S784x512 .f32 :=
  matmul dot_S784x128_S512x128_S784x512_1_1_0_0_n_n none keys q (constant (F := Ideal) S784x512 .f32 0x00000000#32)

theorem prodA2_apply (keys : FVec Ideal S784x128 .bf16) (q : FVec Ideal S512x128 .bf16) (k : Fin 784) (r : Fin 512) :
    prodA2 keys q (ix2 k r) = ∑ l, keys (ix2 k l) * q (ix2 r l) := by
  unfold prodA2
  pointwise [dot_S784x128_S512x128_S784x512_1_1_0_0_n_n]

theorem scoresA2 (c : Dev nD) (a2 : Memref sig .tc .vmem S1x2048x128 .bf16) (h2 : a2.IsWhole)
    (a3 : Memref sig .tc .vmem S1x2048x128 .bf16) (h3 : a3.IsWhole) (a10 : Memref sig .tc .vmem S2064x128 .bf16)
    {x0 x1 : FVec Ideal S1x2048x128 .bf16} {a b : Fin 2048 → Fin 128 → ℝ} (ha : ∀ k l, x0 (ix3 0 k l) = (a k l : EReal))
    (hb : ∀ k l, x1 (ix3 0 k l) = (b k l : EReal)) (k : Fin 784) (r : Fin 512) :
    r_8 (F := Ideal) c a2 h2 a3 h3 a10 x0 x1 (ix2 k r)
      = (headDot LaneA (headOf r) (a (posOf 2 r)) (keyRow b (Fin.castLE (by decide : 784 ≤ 2064) k)) : EReal) :=
  scores_real (s := prodA2 (a10.view.readCov (HS0_9 (F := Ideal) c a3 h3 x1) (Rect.unit (s := S2064x128) ![0, 0] S784x128.size inb_S2064x128_S784x128_0_0).toLoadRect)
      (queriesA (rdBlock h2 x0 (256 * ((2 : Fin 8)).val) (rd_inb 2)))) (prodA2_apply _ _)
    (fun k l => (readCov_rows (by decide) a10.view _ inb_S2064x128_S784x128_0_0 k l).trans (canonK c a3 h3 x1 hb _ _))
    (queriesA_apply (j := 2) fun k l => (readAt_rows h2 x0 _ (rd_inb 2) 0 k l (by show 256 * 2 + k.val < 2048; omega)).trans (ha _ _)) k r

/-- The products of 1040 rows. -/
def prodA3 (keys : FVec Ideal S1040x128 .bf16) (q : FVec Ideal S512x128 .bf16) : FVec Ideal S1040x512 .f32 :=
  matmul dot_S1040x128_S512x128_S1040x512_1_1_0_0_n_n none keys q (constant (F := Ideal) S1040x512 .f32 0x00000000#32)

theorem prodA3_apply (keys : FVec Ideal S1040x128 .bf16) (q : FVec Ideal S512x128 .bf16) (k : Fin 1040) (r : Fin 512) :
    prodA3 keys q (ix2 k r) = ∑ l, keys (ix2 k l) * q (ix2 r l) := by
  unfold prodA3
  pointwise [dot_S1040x128_S512x128_S1040x512_1_1_0_0_n_n]

theorem scoresA3 (c : Dev nD) (a2 : Memref sig .tc .vmem S1x2048x128 .bf16) (h2 : a2.IsWhole)
    (a3 : Memref sig .tc .vmem S1x2048x128 .bf16) (h3 : a3.IsWhole) (a10 : Memref sig .tc .vmem S2064x128 .bf16)
    {x0 x1 : FVec Ideal S1x2048x128 .bf16} {a b : Fin 2048 → Fin 128 → ℝ} (ha : ∀ k l, x0 (ix3 0 k l) = (a k l : EReal))
    (hb : ∀ k l, x1 (ix3 0 k l) = (b k l : EReal)) (k : Fin 1040) (r : Fin 512) :
    r_15 (F := Ideal) c a2 h2 a3 h3 a10 x0 x1 (ix2 k r)
      = (headDot LaneA (headOf r) (a (posOf 3 r)) (keyRow b (Fin.castLE (by decide : 1040 ≤ 2064) k)) : EReal) :=
  scores_real (s := prodA3 (a10.view.readCov (HS0_9 (F := Ideal) c a3 h3 x1) (Rect.unit (s := S2064x128) ![0, 0] S1040x128.size inb_S2064x128_S1040x128_0_0).toLoadRect)
      (queriesA (rdBlock h2 x0 (256 * ((3 : Fin 8)).val) (rd_inb 3)))) (prodA3_apply _ _)
    (fun k l => (readCov_rows (by decide) a10.view _ inb_S2064x128_S1040x128_0_0 k l).trans (canonK c a3 h3 x1 hb _ _))
    (queriesA_apply (j := 3) fun k l => (readAt_rows h2 x0 _ (rd_inb 3) 0 k l (by show 256 * 3 + k.val < 2048; omega)).trans (ha _ _)) k r

/-- The products of 1296 rows. -/
def prodA4 (keys : FVec Ideal S1296x128 .bf16) (q : FVec Ideal S512x128 .bf16) : FVec Ideal S1296x512 .f32 :=
  matmul dot_S1296x128_S512x128_S1296x512_1_1_0_0_n_n none keys q (constant (F := Ideal) S1296x512 .f32 0x00000000#32)

theorem prodA4_apply (keys : FVec Ideal S1296x128 .bf16) (q : FVec Ideal S512x128 .bf16) (k : Fin 1296) (r : Fin 512) :
    prodA4 keys q (ix2 k r) = ∑ l, keys (ix2 k l) * q (ix2 r l) := by
  unfold prodA4
  pointwise [dot_S1296x128_S512x128_S1296x512_1_1_0_0_n_n]

theorem scoresA4 (c : Dev nD) (a2 : Memref sig .tc .vmem S1x2048x128 .bf16) (h2 : a2.IsWhole)
    (a3 : Memref sig .tc .vmem S1x2048x128 .bf16) (h3 : a3.IsWhole) (a10 : Memref sig .tc .vmem S2064x128 .bf16)
    {x0 x1 : FVec Ideal S1x2048x128 .bf16} {a b : Fin 2048 → Fin 128 → ℝ} (ha : ∀ k l, x0 (ix3 0 k l) = (a k l : EReal))
    (hb : ∀ k l, x1 (ix3 0 k l) = (b k l : EReal)) (k : Fin 1296) (r : Fin 512) :
    r_20 (F := Ideal) c a2 h2 a3 h3 a10 x0 x1 (ix2 k r)
      = (headDot LaneA (headOf r) (a (posOf 4 r)) (keyRow b (Fin.castLE (by decide : 1296 ≤ 2064) k)) : EReal) :=
  scores_real (s := prodA4 (a10.view.readCov (HS0_9 (F := Ideal) c a3 h3 x1) (Rect.unit (s := S2064x128) ![0, 0] S1296x128.size inb_S2064x128_S1296x128_0_0).toLoadRect)
      (queriesA (rdBlock h2 x0 (256 * ((4 : Fin 8)).val) (rd_inb 4)))) (prodA4_apply _ _)
    (fun k l => (readCov_rows (by decide) a10.view _ inb_S2064x128_S1296x128_0_0 k l).trans (canonK c a3 h3 x1 hb _ _))
    (queriesA_apply (j := 4) fun k l => (readAt_rows h2 x0 _ (rd_inb 4) 0 k l (by show 256 * 4 + k.val < 2048; omega)).trans (ha _ _)) k r

/-- The products of 1552 rows. -/
def prodA5 (keys : FVec Ideal S1552x128 .bf16) (q : FVec Ideal S512x128 .bf16) : FVec Ideal S1552x512 .f32 :=
  matmul dot_S1552x128_S512x128_S1552x512_1_1_0_0_n_n none keys q (constant (F := Ideal) S1552x512 .f32 0x00000000#32)

theorem prodA5_apply (keys : FVec Ideal S1552x128 .bf16) (q : FVec Ideal S512x128 .bf16) (k : Fin 1552) (r : Fin 512) :
    prodA5 keys q (ix2 k r) = ∑ l, keys (ix2 k l) * q (ix2 r l) := by
  unfold prodA5
  pointwise [dot_S1552x128_S512x128_S1552x512_1_1_0_0_n_n]

theorem scoresA5 (c : Dev nD) (a2 : Memref sig .tc .vmem S1x2048x128 .bf16) (h2 : a2.IsWhole)
    (a3 : Memref sig .tc .vmem S1x2048x128 .bf16) (h3 : a3.IsWhole) (a10 : Memref sig .tc .vmem S2064x128 .bf16)
    {x0 x1 : FVec Ideal S1x2048x128 .bf16} {a b : Fin 2048 → Fin 128 → ℝ} (ha : ∀ k l, x0 (ix3 0 k l) = (a k l : EReal))
    (hb : ∀ k l, x1 (ix3 0 k l) = (b k l : EReal)) (k : Fin 1552) (r : Fin 512) :
    r_25 (F := Ideal) c a2 h2 a3 h3 a10 x0 x1 (ix2 k r)
      = (headDot LaneA (headOf r) (a (posOf 5 r)) (keyRow b (Fin.castLE (by decide : 1552 ≤ 2064) k)) : EReal) :=
  scores_real (s := prodA5 (a10.view.readCov (HS0_9 (F := Ideal) c a3 h3 x1) (Rect.unit (s := S2064x128) ![0, 0] S1552x128.size inb_S2064x128_S1552x128_0_0).toLoadRect)
      (queriesA (rdBlock h2 x0 (256 * ((5 : Fin 8)).val) (rd_inb 5)))) (prodA5_apply _ _)
    (fun k l => (readCov_rows (by decide) a10.view _ inb_S2064x128_S1552x128_0_0 k l).trans (canonK c a3 h3 x1 hb _ _))
    (queriesA_apply (j := 5) fun k l => (readAt_rows h2 x0 _ (rd_inb 5) 0 k l (by show 256 * 5 + k.val < 2048; omega)).trans (ha _ _)) k r

/-- The products of 1808 rows. -/
def prodA6 (keys : FVec Ideal S1808x128 .bf16) (q : FVec Ideal S512x128 .bf16) : FVec Ideal S1808x512 .f32 :=
  matmul dot_S1808x128_S512x128_S1808x512_1_1_0_0_n_n none keys q (constant (F := Ideal) S1808x512 .f32 0x00000000#32)

theorem prodA6_apply (keys : FVec Ideal S1808x128 .bf16) (q : FVec Ideal S512x128 .bf16) (k : Fin 1808) (r : Fin 512) :
    prodA6 keys q (ix2 k r) = ∑ l, keys (ix2 k l) * q (ix2 r l) := by
  unfold prodA6
  pointwise [dot_S1808x128_S512x128_S1808x512_1_1_0_0_n_n]

theorem scoresA6 (c : Dev nD) (a2 : Memref sig .tc .vmem S1x2048x128 .bf16) (h2 : a2.IsWhole)
    (a3 : Memref sig .tc .vmem S1x2048x128 .bf16) (h3 : a3.IsWhole) (a10 : Memref sig .tc .vmem S2064x128 .bf16)
    {x0 x1 : FVec Ideal S1x2048x128 .bf16} {a b : Fin 2048 → Fin 128 → ℝ} (ha : ∀ k l, x0 (ix3 0 k l) = (a k l : EReal))
    (hb : ∀ k l, x1 (ix3 0 k l) = (b k l : EReal)) (k : Fin 1808) (r : Fin 512) :
    r_31 (F := Ideal) c a2 h2 a3 h3 a10 x0 x1 (ix2 k r)
      = (headDot LaneA (headOf r) (a (posOf 6 r)) (keyRow b (Fin.castLE (by decide : 1808 ≤ 2064) k)) : EReal) :=
  scores_real (s := prodA6 (a10.view.readCov (HS0_9 (F := Ideal) c a3 h3 x1) (Rect.unit (s := S2064x128) ![0, 0] S1808x128.size inb_S2064x128_S1808x128_0_0).toLoadRect)
      (queriesA (rdBlock h2 x0 (256 * ((6 : Fin 8)).val) (rd_inb 6)))) (prodA6_apply _ _)
    (fun k l => (readCov_rows (by decide) a10.view _ inb_S2064x128_S1808x128_0_0 k l).trans (canonK c a3 h3 x1 hb _ _))
    (queriesA_apply (j := 6) fun k l => (readAt_rows h2 x0 _ (rd_inb 6) 0 k l (by show 256 * 6 + k.val < 2048; omega)).trans (ha _ _)) k r

/-- The products of 2064 rows. -/
def prodA7 (keys : FVec Ideal S2064x128 .bf16) (q : FVec Ideal S512x128 .bf16) : FVec Ideal S2064x512 .f32 :=
  matmul dot_S2064x128_S512x128_S2064x512_1_1_0_0_n_n none keys q (constant (F := Ideal) S2064x512 .f32 0x00000000#32)

theorem prodA7_apply (keys : FVec Ideal S2064x128 .bf16) (q : FVec Ideal S512x128 .bf16) (k : Fin 2064) (r : Fin 512) :
    prodA7 keys q (ix2 k r) = ∑ l, keys (ix2 k l) * q (ix2 r l) := by
  unfold prodA7
  pointwise [dot_S2064x128_S512x128_S2064x512_1_1_0_0_n_n]

theorem scoresA7 (c : Dev nD) (a2 : Memref sig .tc .vmem S1x2048x128 .bf16) (h2 : a2.IsWhole)
    (a3 : Memref sig .tc .vmem S1x2048x128 .bf16) (h3 : a3.IsWhole) (a10 : Memref sig .tc .vmem S2064x128 .bf16)
    {x0 x1 : FVec Ideal S1x2048x128 .bf16} {a b : Fin 2048 → Fin 128 → ℝ} (ha : ∀ k l, x0 (ix3 0 k l) = (a k l : EReal))
    (hb : ∀ k l, x1 (ix3 0 k l) = (b k l : EReal)) (k : Fin 2064) (r : Fin 512) :
    r_39 (F := Ideal) c a2 h2 a3 h3 a10 x0 x1 (ix2 k r)
      = (headDot LaneA (headOf r) (a (posOf 7 r)) (keyRow b (Fin.castLE (by decide : 2064 ≤ 2064) k)) : EReal) :=
  scores_real (s := prodA7 (a10.view.readCov (HS0_9 (F := Ideal) c a3 h3 x1) (Rect.unit (s := S2064x128) ![0, 0] S2064x128.size inb_S2064x128_S2064x128_0_0).toLoadRect)
      (queriesA (rdBlock h2 x0 (256 * ((7 : Fin 8)).val) (rd_inb 7)))) (prodA7_apply _ _)
    (fun k l => (readCov_rows (by decide) a10.view _ inb_S2064x128_S2064x128_0_0 k l).trans (canonK c a3 h3 x1 hb _ _))
    (queriesA_apply (j := 7) fun k l => (readAt_rows h2 x0 _ (rd_inb 7) 0 k l (by show 256 * 7 + k.val < 2048; omega)).trans (ha _ _)) k r

/-- The products of 256 rows. -/
def prodB0 (keys : FVec Ideal S256x256 .bf16) (q : FVec Ideal S512x256 .bf16) : FVec Ideal S256x512 .f32 :=
  matmul dot_S256x256_S512x256_S256x512_1_1_0_0_n_n none (shapeCast S256x256 keys shapeCasts_S256x256_S256x256) q (constant (F := Ideal) S256x512 .f32 0x00000000#32)

theorem prodB0_apply (keys : FVec Ideal S256x256 .bf16) (q : FVec Ideal S512x256 .bf16) (k : Fin 256) (r : Fin 512) :
    prodB0 keys q (ix2 k r) = ∑ l, keys (ix2 k l) * q (ix2 r l) := by
  unfold prodB0
  pointwise [dot_S256x256_S512x256_S256x512_1_1_0_0_n_n]

theorem scoresB0 (c : Dev nD) (a5 : Memref sig .tc .vmem S1x2048x256 .bf16) (h5 : a5.IsWhole)
    (a6 : Memref sig .tc .vmem S1x2048x256 .bf16) (h6 : a6.IsWhole) {x3 x4 : FVec Ideal S1x2048x256 .bf16} {a b : Fin 2048 → Fin 256 → ℝ}
    (ha : ∀ k l, x3 (ix3 0 k l) = (a k l : EReal)) (hb : ∀ k l, x4 (ix3 0 k l) = (b k l : EReal)) (k : Fin 256) (r : Fin 512) :
    r_2 (F := Ideal) c a5 h5 a6 h6 x3 x4 (ix2 k r)
      = (headDot LaneB (headOf r) (a (posOf 0 r)) (b (Fin.castLE (by decide : 256 ≤ 2048) k)) : EReal) :=
  scores_real (s := prodB0 (View.readAt (Elt Ideal) ((a6.slice (Rect.unit (s := S1x2048x256) ![0, 0, 0] S1x2048x256.size inb_S1x2048x256_S1x2048x256_0_0_0) (fun _ => rfl)).squeeze
        S2048x256 squeezes_S1x2048x256_S2048x256).view (Rect.unit (s := S2048x256) ![0, 0] S256x256.size inb_S2048x256_S256x256_0_0).toLoadRect (h6.unread x4))
      (queriesB (View.readAt (Elt Ideal) a5.view (Rect.unit (s := S1x2048x256) ![0, 0, 0] S1x256x256.size inb_S1x2048x256_S1x256x256_0_0_0).toLoadRect (h5.unread x3))))
    (prodB0_apply _ _)
    (fun k l => (readAt_keys (by decide) h6 x4 inb_S2048x256_S256x256_0_0 k l).trans (hb _ _))
    (queriesB_apply (j := 0) fun k l => (readAt_rows h5 x3 0 inb_S1x2048x256_S1x256x256_0_0_0 0 k l (by omega)).trans (ha _ _)) k r

/-- The products of 512 rows. -/
def prodB1 (keys : FVec Ideal S512x256 .bf16) (q : FVec Ideal S512x256 .bf16) : FVec Ideal S512x512 .f32 :=
  matmul dot_S512x256_S512x256_S512x512_1_1_0_0_n_n none (shapeCast S512x256 keys shapeCasts_S512x256_S512x256) q (constant (F := Ideal) S512x512 .f32 0x00000000#32)

theorem prodB1_apply (keys : FVec Ideal S512x256 .bf16) (q : FVec Ideal S512x256 .bf16) (k : Fin 512) (r : Fin 512) :
    prodB1 keys q (ix2 k r) = ∑ l, keys (ix2 k l) * q (ix2 r l) := by
  unfold prodB1
  pointwise [dot_S512x256_S512x256_S512x512_1_1_0_0_n_n]

theorem scoresB1 (c : Dev nD) (a5 : Memref sig .tc .vmem S1x2048x256 .bf16) (h5 : a5.IsWhole)
    (a6 : Memref sig .tc .vmem S1x2048x256 .bf16) (h6 : a6.IsWhole) {x3 x4 : FVec Ideal S1x2048x256 .bf16} {a b : Fin 2048 → Fin 256 → ℝ}
    (ha : ∀ k l, x3 (ix3 0 k l) = (a k l : EReal)) (hb : ∀ k l, x4 (ix3 0 k l) = (b k l : EReal)) (k : Fin 512) (r : Fin 512) :
    r_6 (F := Ideal) c a5 h5 a6 h6 x3 x4 (ix2 k r)
      = (headDot LaneB (headOf r) (a (posOf 1 r)) (b (Fin.castLE (by decide : 512 ≤ 2048) k)) : EReal) :=
  scores_real (s := prodB1 (View.readAt (Elt Ideal) ((a6.slice (Rect.unit (s := S1x2048x256) ![0, 0, 0] S1x2048x256.size inb_S1x2048x256_S1x2048x256_0_0_0) (fun _ => rfl)).squeeze
        S2048x256 squeezes_S1x2048x256_S2048x256).view (Rect.unit (s := S2048x256) ![0, 0] S512x256.size inb_S2048x256_S512x256_0_0).toLoadRect (h6.unread x4))
      (queriesB (View.readAt (Elt Ideal) a5.view (Rect.unit (s := S1x2048x256) ![0, 256, 0] S1x256x256.size inb_S1x2048x256_S1x256x256_0_256_0).toLoadRect (h5.unread x3))))
    (prodB1_apply _ _)
    (fun k l => (readAt_keys (by decide) h6 x4 inb_S2048x256_S512x256_0_0 k l).trans (hb _ _))
    (queriesB_apply (j := 1) fun k l => (readAt_rows h5 x3 256 inb_S1x2048x256_S1x256x256_0_256_0 0 k l (by omega)).trans (ha _ _)) k r

/-- The products of 768 rows. -/
def prodB2 (keys : FVec Ideal S768x256 .bf16) (q : FVec Ideal S512x256 .bf16) : FVec Ideal S768x512 .f32 :=
  matmul dot_S768x256_S512x256_S768x512_1_1_0_0_n_n none (shapeCast S768x256 keys shapeCasts_S768x256_S768x256) q (constant (F := Ideal) S768x512 .f32 0x00000000#32)

theorem prodB2_apply (keys : FVec Ideal S768x256 .bf16) (q : FVec Ideal S512x256 .bf16) (k : Fin 768) (r : Fin 512) :
    prodB2 keys q (ix2 k r) = ∑ l, keys (ix2 k l) * q (ix2 r l) := by
  unfold prodB2
  pointwise [dot_S768x256_S512x256_S768x512_1_1_0_0_n_n]

theorem scoresB2 (c : Dev nD) (a5 : Memref sig .tc .vmem S1x2048x256 .bf16) (h5 : a5.IsWhole)
    (a6 : Memref sig .tc .vmem S1x2048x256 .bf16) (h6 : a6.IsWhole) {x3 x4 : FVec Ideal S1x2048x256 .bf16} {a b : Fin 2048 → Fin 256 → ℝ}
    (ha : ∀ k l, x3 (ix3 0 k l) = (a k l : EReal)) (hb : ∀ k l, x4 (ix3 0 k l) = (b k l : EReal)) (k : Fin 768) (r : Fin 512) :
    r_11 (F := Ideal) c a5 h5 a6 h6 x3 x4 (ix2 k r)
      = (headDot LaneB (headOf r) (a (posOf 2 r)) (b (Fin.castLE (by decide : 768 ≤ 2048) k)) : EReal) :=
  scores_real (s := prodB2 (View.readAt (Elt Ideal) ((a6.slice (Rect.unit (s := S1x2048x256) ![0, 0, 0] S1x2048x256.size inb_S1x2048x256_S1x2048x256_0_0_0) (fun _ => rfl)).squeeze
        S2048x256 squeezes_S1x2048x256_S2048x256).view (Rect.unit (s := S2048x256) ![0, 0] S768x256.size inb_S2048x256_S768x256_0_0).toLoadRect (h6.unread x4))
      (queriesB (View.readAt (Elt Ideal) a5.view (Rect.unit (s := S1x2048x256) ![0, 512, 0] S1x256x256.size inb_S1x2048x256_S1x256x256_0_512_0).toLoadRect (h5.unread x3))))
    (prodB2_apply _ _)
    (fun k l => (readAt_keys (by decide) h6 x4 inb_S2048x256_S768x256_0_0 k l).trans (hb _ _))
    (queriesB_apply (j := 2) fun k l => (readAt_rows h5 x3 512 inb_S1x2048x256_S1x256x256_0_512_0 0 k l (by omega)).trans (ha _ _)) k r

/-- The products of 1024 rows. -/
def prodB3 (keys : FVec Ideal S1024x256 .bf16) (q : FVec Ideal S512x256 .bf16) : FVec Ideal S1024x512 .f32 :=
  matmul dot_S1024x256_S512x256_S1024x512_1_1_0_0_n_n none (shapeCast S1024x256 keys shapeCasts_S1024x256_S1024x256) q (constant (F := Ideal) S1024x512 .f32 0x00000000#32)

theorem prodB3_apply (keys : FVec Ideal S1024x256 .bf16) (q : FVec Ideal S512x256 .bf16) (k : Fin 1024) (r : Fin 512) :
    prodB3 keys q (ix2 k r) = ∑ l, keys (ix2 k l) * q (ix2 r l) := by
  unfold prodB3
  pointwise [dot_S1024x256_S512x256_S1024x512_1_1_0_0_n_n]

theorem scoresB3 (c : Dev nD) (a5 : Memref sig .tc .vmem S1x2048x256 .bf16) (h5 : a5.IsWhole)
    (a6 : Memref sig .tc .vmem S1x2048x256 .bf16) (h6 : a6.IsWhole) {x3 x4 : FVec Ideal S1x2048x256 .bf16} {a b : Fin 2048 → Fin 256 → ℝ}
    (ha : ∀ k l, x3 (ix3 0 k l) = (a k l : EReal)) (hb : ∀ k l, x4 (ix3 0 k l) = (b k l : EReal)) (k : Fin 1024) (r : Fin 512) :
    r_18 (F := Ideal) c a5 h5 a6 h6 x3 x4 (ix2 k r)
      = (headDot LaneB (headOf r) (a (posOf 3 r)) (b (Fin.castLE (by decide : 1024 ≤ 2048) k)) : EReal) :=
  scores_real (s := prodB3 (View.readAt (Elt Ideal) ((a6.slice (Rect.unit (s := S1x2048x256) ![0, 0, 0] S1x2048x256.size inb_S1x2048x256_S1x2048x256_0_0_0) (fun _ => rfl)).squeeze
        S2048x256 squeezes_S1x2048x256_S2048x256).view (Rect.unit (s := S2048x256) ![0, 0] S1024x256.size inb_S2048x256_S1024x256_0_0).toLoadRect (h6.unread x4))
      (queriesB (View.readAt (Elt Ideal) a5.view (Rect.unit (s := S1x2048x256) ![0, 768, 0] S1x256x256.size inb_S1x2048x256_S1x256x256_0_768_0).toLoadRect (h5.unread x3))))
    (prodB3_apply _ _)
    (fun k l => (readAt_keys (by decide) h6 x4 inb_S2048x256_S1024x256_0_0 k l).trans (hb _ _))
    (queriesB_apply (j := 3) fun k l => (readAt_rows h5 x3 768 inb_S1x2048x256_S1x256x256_0_768_0 0 k l (by omega)).trans (ha _ _)) k r

/-- The products of 1280 rows. -/
def prodB4 (keys : FVec Ideal S1280x256 .bf16) (q : FVec Ideal S512x256 .bf16) : FVec Ideal S1280x512 .f32 :=
  matmul dot_S1280x256_S512x256_S1280x512_1_1_0_0_n_n none (shapeCast S1280x256 keys shapeCasts_S1280x256_S1280x256) q (constant (F := Ideal) S1280x512 .f32 0x00000000#32)

theorem prodB4_apply (keys : FVec Ideal S1280x256 .bf16) (q : FVec Ideal S512x256 .bf16) (k : Fin 1280) (r : Fin 512) :
    prodB4 keys q (ix2 k r) = ∑ l, keys (ix2 k l) * q (ix2 r l) := by
  unfold prodB4
  pointwise [dot_S1280x256_S512x256_S1280x512_1_1_0_0_n_n]

theorem scoresB4 (c : Dev nD) (a5 : Memref sig .tc .vmem S1x2048x256 .bf16) (h5 : a5.IsWhole)
    (a6 : Memref sig .tc .vmem S1x2048x256 .bf16) (h6 : a6.IsWhole) {x3 x4 : FVec Ideal S1x2048x256 .bf16} {a b : Fin 2048 → Fin 256 → ℝ}
    (ha : ∀ k l, x3 (ix3 0 k l) = (a k l : EReal)) (hb : ∀ k l, x4 (ix3 0 k l) = (b k l : EReal)) (k : Fin 1280) (r : Fin 512) :
    r_23 (F := Ideal) c a5 h5 a6 h6 x3 x4 (ix2 k r)
      = (headDot LaneB (headOf r) (a (posOf 4 r)) (b (Fin.castLE (by decide : 1280 ≤ 2048) k)) : EReal) :=
  scores_real (s := prodB4 (View.readAt (Elt Ideal) ((a6.slice (Rect.unit (s := S1x2048x256) ![0, 0, 0] S1x2048x256.size inb_S1x2048x256_S1x2048x256_0_0_0) (fun _ => rfl)).squeeze
        S2048x256 squeezes_S1x2048x256_S2048x256).view (Rect.unit (s := S2048x256) ![0, 0] S1280x256.size inb_S2048x256_S1280x256_0_0).toLoadRect (h6.unread x4))
      (queriesB (View.readAt (Elt Ideal) a5.view (Rect.unit (s := S1x2048x256) ![0, 1024, 0] S1x256x256.size inb_S1x2048x256_S1x256x256_0_1024_0).toLoadRect (h5.unread x3))))
    (prodB4_apply _ _)
    (fun k l => (readAt_keys (by decide) h6 x4 inb_S2048x256_S1280x256_0_0 k l).trans (hb _ _))
    (queriesB_apply (j := 4) fun k l => (readAt_rows h5 x3 1024 inb_S1x2048x256_S1x256x256_0_1024_0 0 k l (by omega)).trans (ha _ _)) k r

/-- The products of 1536 rows. -/
def prodB5 (keys : FVec Ideal S1536x256 .bf16) (q : FVec Ideal S512x256 .bf16) : FVec Ideal S1536x512 .f32 :=
  matmul dot_S1536x256_S512x256_S1536x512_1_1_0_0_n_n none (shapeCast S1536x256 keys shapeCasts_S1536x256_S1536x256) q (constant (F := Ideal) S1536x512 .f32 0x00000000#32)

theorem prodB5_apply (keys : FVec Ideal S1536x256 .bf16) (q : FVec Ideal S512x256 .bf16) (k : Fin 1536) (r : Fin 512) :
    prodB5 keys q (ix2 k r) = ∑ l, keys (ix2 k l) * q (ix2 r l) := by
  unfold prodB5
  pointwise [dot_S1536x256_S512x256_S1536x512_1_1_0_0_n_n]

theorem scoresB5 (c : Dev nD) (a5 : Memref sig .tc .vmem S1x2048x256 .bf16) (h5 : a5.IsWhole)
    (a6 : Memref sig .tc .vmem S1x2048x256 .bf16) (h6 : a6.IsWhole) {x3 x4 : FVec Ideal S1x2048x256 .bf16} {a b : Fin 2048 → Fin 256 → ℝ}
    (ha : ∀ k l, x3 (ix3 0 k l) = (a k l : EReal)) (hb : ∀ k l, x4 (ix3 0 k l) = (b k l : EReal)) (k : Fin 1536) (r : Fin 512) :
    r_27 (F := Ideal) c a5 h5 a6 h6 x3 x4 (ix2 k r)
      = (headDot LaneB (headOf r) (a (posOf 5 r)) (b (Fin.castLE (by decide : 1536 ≤ 2048) k)) : EReal) :=
  scores_real (s := prodB5 (View.readAt (Elt Ideal) ((a6.slice (Rect.unit (s := S1x2048x256) ![0, 0, 0] S1x2048x256.size inb_S1x2048x256_S1x2048x256_0_0_0) (fun _ => rfl)).squeeze
        S2048x256 squeezes_S1x2048x256_S2048x256).view (Rect.unit (s := S2048x256) ![0, 0] S1536x256.size inb_S2048x256_S1536x256_0_0).toLoadRect (h6.unread x4))
      (queriesB (View.readAt (Elt Ideal) a5.view (Rect.unit (s := S1x2048x256) ![0, 1280, 0] S1x256x256.size inb_S1x2048x256_S1x256x256_0_1280_0).toLoadRect (h5.unread x3))))
    (prodB5_apply _ _)
    (fun k l => (readAt_keys (by decide) h6 x4 inb_S2048x256_S1536x256_0_0 k l).trans (hb _ _))
    (queriesB_apply (j := 5) fun k l => (readAt_rows h5 x3 1280 inb_S1x2048x256_S1x256x256_0_1280_0 0 k l (by omega)).trans (ha _ _)) k r

/-- The products of 1792 rows. -/
def prodB6 (keys : FVec Ideal S1792x256 .bf16) (q : FVec Ideal S512x256 .bf16) : FVec Ideal S1792x512 .f32 :=
  matmul dot_S1792x256_S512x256_S1792x512_1_1_0_0_n_n none (shapeCast S1792x256 keys shapeCasts_S1792x256_S1792x256) q (constant (F := Ideal) S1792x512 .f32 0x00000000#32)

theorem prodB6_apply (keys : FVec Ideal S1792x256 .bf16) (q : FVec Ideal S512x256 .bf16) (k : Fin 1792) (r : Fin 512) :
    prodB6 keys q (ix2 k r) = ∑ l, keys (ix2 k l) * q (ix2 r l) := by
  unfold prodB6
  pointwise [dot_S1792x256_S512x256_S1792x512_1_1_0_0_n_n]

theorem scoresB6 (c : Dev nD) (a5 : Memref sig .tc .vmem S1x2048x256 .bf16) (h5 : a5.IsWhole)
    (a6 : Memref sig .tc .vmem S1x2048x256 .bf16) (h6 : a6.IsWhole) {x3 x4 : FVec Ideal S1x2048x256 .bf16} {a b : Fin 2048 → Fin 256 → ℝ}
    (ha : ∀ k l, x3 (ix3 0 k l) = (a k l : EReal)) (hb : ∀ k l, x4 (ix3 0 k l) = (b k l : EReal)) (k : Fin 1792) (r : Fin 512) :
    r_35 (F := Ideal) c a5 h5 a6 h6 x3 x4 (ix2 k r)
      = (headDot LaneB (headOf r) (a (posOf 6 r)) (b (Fin.castLE (by decide : 1792 ≤ 2048) k)) : EReal) :=
  scores_real (s := prodB6 (View.readAt (Elt Ideal) ((a6.slice (Rect.unit (s := S1x2048x256) ![0, 0, 0] S1x2048x256.size inb_S1x2048x256_S1x2048x256_0_0_0) (fun _ => rfl)).squeeze
        S2048x256 squeezes_S1x2048x256_S2048x256).view (Rect.unit (s := S2048x256) ![0, 0] S1792x256.size inb_S2048x256_S1792x256_0_0).toLoadRect (h6.unread x4))
      (queriesB (View.readAt (Elt Ideal) a5.view (Rect.unit (s := S1x2048x256) ![0, 1536, 0] S1x256x256.size inb_S1x2048x256_S1x256x256_0_1536_0).toLoadRect (h5.unread x3))))
    (prodB6_apply _ _)
    (fun k l => (readAt_keys (by decide) h6 x4 inb_S2048x256_S1792x256_0_0 k l).trans (hb _ _))
    (queriesB_apply (j := 6) fun k l => (readAt_rows h5 x3 1536 inb_S1x2048x256_S1x256x256_0_1536_0 0 k l (by omega)).trans (ha _ _)) k r

/-- The products of 2048 rows. -/
def prodB7 (keys : FVec Ideal S2048x256 .bf16) (q : FVec Ideal S512x256 .bf16) : FVec Ideal S2048x512 .f32 :=
  matmul dot_S2048x256_S512x256_S2048x512_1_1_0_0_n_n none (shapeCast S2048x256 keys shapeCasts_S2048x256_S2048x256) q (constant (F := Ideal) S2048x512 .f32 0x00000000#32)

theorem prodB7_apply (keys : FVec Ideal S2048x256 .bf16) (q : FVec Ideal S512x256 .bf16) (k : Fin 2048) (r : Fin 512) :
    prodB7 keys q (ix2 k r) = ∑ l, keys (ix2 k l) * q (ix2 r l) := by
  unfold prodB7
  pointwise [dot_S2048x256_S512x256_S2048x512_1_1_0_0_n_n]

theorem scoresB7 (c : Dev nD) (a5 : Memref sig .tc .vmem S1x2048x256 .bf16) (h5 : a5.IsWhole)
    (a6 : Memref sig .tc .vmem S1x2048x256 .bf16) (h6 : a6.IsWhole) {x3 x4 : FVec Ideal S1x2048x256 .bf16} {a b : Fin 2048 → Fin 256 → ℝ}
    (ha : ∀ k l, x3 (ix3 0 k l) = (a k l : EReal)) (hb : ∀ k l, x4 (ix3 0 k l) = (b k l : EReal)) (k : Fin 2048) (r : Fin 512) :
    r_42 (F := Ideal) c a5 h5 a6 h6 x3 x4 (ix2 k r)
      = (headDot LaneB (headOf r) (a (posOf 7 r)) (b (Fin.castLE (by decide : 2048 ≤ 2048) k)) : EReal) :=
  scores_real (s := prodB7 (View.readAt (Elt Ideal) ((a6.slice (Rect.unit (s := S1x2048x256) ![0, 0, 0] S1x2048x256.size inb_S1x2048x256_S1x2048x256_0_0_0) (fun _ => rfl)).squeeze
        S2048x256 squeezes_S1x2048x256_S2048x256).view (Rect.unit (s := S2048x256) ![0, 0] S2048x256.size inb_S2048x256_S2048x256_0_0).toLoadRect (h6.unread x4))
      (queriesB (View.readAt (Elt Ideal) a5.view (Rect.unit (s := S1x2048x256) ![0, 1792, 0] S1x256x256.size inb_S1x2048x256_S1x256x256_0_1792_0).toLoadRect (h5.unread x3))))
    (prodB7_apply _ _)
    (fun k l => (readAt_keys (by decide) h6 x4 inb_S2048x256_S2048x256_0_0 k l).trans (hb _ _))
    (queriesB_apply (j := 7) fun k l => (readAt_rows h5 x3 1792 inb_S1x2048x256_S1x256x256_0_1792_0 0 k l (by omega)).trans (ha _ _)) k r

end Cert.Attend
-- ==== Proof.Attn.Lanes.lean ====
/-
  The lanes of the kernel's queries and keys.

  The kernel wants the entries of two heads dealt out over one vector register: the host gathers them by a table. A head's product over the lanes is
  then its product over its own entries (`headDot_sparse`, `headDot_latent`), since each table is a permutation whose lanes of one head are the
  lanes the kernel's mask keeps.
-/
module

public import proofs.«01_k».proof.Proof.Attn.Scores

@[expose] public section

set_option maxRecDepth 16384

noncomputable section

namespace Cert.Attend

open Idealize.ShloMosaic
open scoped BigOperators

/-- The entry, of two heads side by side, that a lane of the sparse stream holds. -/
def srcA (l : Fin 128) : Fin 128 :=
  ⟨if l.val % 64 < 16 then l.val % 64 / 8 * 64 + l.val / 64 * 8 + l.val % 8
    else (l.val % 64 - 16) / 24 * 64 + 16 + l.val / 64 * 24 + (l.val % 64 - 16) % 24, by split_ifs <;> omega⟩

/-- The entry of a latent head that a lane holds; the last lanes hold nothing and are left where they are. -/
def srcB (l : Fin 128) : Fin 128 :=
  ⟨if l.val < 16 then l.val + 64 else if l.val < 64 then l.val - 16 else if l.val < 80 then l.val + 16 else if l.val < 96 then l.val - 32 else l.val, by
    split_ifs <;> omega⟩

theorem srcA_bijective : Function.Bijective srcA :=
  Finite.injective_iff_bijective.mp fun a b => (by decide +kernel : ∀ a b : Fin 128, srcA a = srcA b → a = b) a b

theorem srcB_bijective : Function.Bijective srcB :=
  Finite.injective_iff_bijective.mp fun a b => (by decide +kernel : ∀ a b : Fin 128, srcB a = srcB b → a = b) a b

theorem laneA_iff : ∀ l, LaneA l ↔ (srcA l).val < 64 := by decide +kernel

theorem srcB_lt : ∀ l, (srcB l).val < 96 ↔ l.val < 96 := by decide +kernel

/-- A head's product over the lanes of the sparse stream. -/
theorem headDot_sparse (q k : Fin 128 → ℝ) (hh : Fin 2) :
    headDot LaneA hh (fun l => q (srcA l)) (fun l => k (srcA l))
      = ∑ i : Fin 64, q ⟨hh.val * 64 + i.val, by omega⟩ * k ⟨hh.val * 64 + i.val, by omega⟩ := by
  have e : headDot LaneA hh (fun l => q (srcA l)) (fun l => k (srcA l))
      = ∑ l : Fin 128, k l * (if (hh = 0 ↔ l.val < 64) then q l else 0) := by
    rw [← (Equiv.ofBijective srcA srcA_bijective).sum_comp]
    unfold headDot
    refine Finset.sum_congr rfl fun l _ => ?_
    simp only [Equiv.ofBijective_apply, laneA_iff]
  rw [e, show (∑ l : Fin 128, k l * (if (hh = 0 ↔ l.val < 64) then q l else 0))
    = ∑ l : Fin (64 + 64), k l * (if (hh = 0 ↔ l.val < 64) then q l else 0) from rfl, Fin.sum_univ_add]
  have hlt : ∀ i : Fin 64, (Fin.castAdd 64 i).val < 64 := fun i => i.2
  have hge : ∀ i : Fin 64, ¬ (Fin.natAdd 64 i).val < 64 := fun i => by simp [Fin.natAdd]
  simp only [hlt, hge, iff_true, iff_false]
  fin_cases hh
  · simp only [Fin.zero_eta, Fin.isValue, if_true, not_true_eq_false, if_false, mul_zero, Finset.sum_const_zero, add_zero]
    refine Finset.sum_congr rfl fun i _ => ?_
    rw [mul_comm]
    congr 2 <;> exact Fin.ext (by simp)
  · simp only [Fin.mk_one, Fin.isValue, one_ne_zero, if_false, not_false_eq_true, if_true, mul_zero, Finset.sum_const_zero, zero_add]
    refine Finset.sum_congr rfl fun i _ => ?_
    rw [mul_comm]
    congr 2 <;> exact Fin.ext (by simp [Fin.natAdd])

/-- A latent head's lanes: its entries in the order of the table, then nothing. -/
def laid (q : Fin 2 → Fin 128 → ℝ) (l : Fin 256) : ℝ :=
  if l.val % 128 < 96 then q ⟨l.val / 128, by omega⟩ (srcB ⟨l.val % 128, by omega⟩) else 0

/-- A head's product over the lanes of the latent stream. -/
theorem headDot_latent (q k : Fin 2 → Fin 128 → ℝ) (hh : Fin 2) :
    headDot LaneB hh (laid q) (laid k)
      = (∑ i : Fin 64, q hh ⟨i.val, by omega⟩ * k hh ⟨i.val, by omega⟩) + ∑ i : Fin 32, q hh ⟨64 + i.val, by omega⟩ * k hh ⟨64 + i.val, by omega⟩ := by
  have e : headDot LaneB hh (laid q) (laid k) = ∑ l : Fin 128, if l.val < 96 then q hh (srcB l) * k hh (srcB l) else 0 := by
    unfold headDot
    rw [show (∑ l : Fin 256, laid k l * (if (hh = 0 ↔ LaneB l) then laid q l else 0))
      = ∑ l : Fin (128 + 128), laid k l * (if (hh = 0 ↔ LaneB l) then laid q l else 0) from rfl, Fin.sum_univ_add]
    have hlt : ∀ i : Fin 128, LaneB (Fin.castAdd 128 i) := fun i => i.2
    have hge : ∀ i : Fin 128, ¬ LaneB (Fin.natAdd 128 i) := fun i => by simp [LaneB, Fin.natAdd]
    have l0 : ∀ (q : Fin 2 → Fin 128 → ℝ) (i : Fin 128), laid q (Fin.castAdd 128 i) = if i.val < 96 then q 0 (srcB i) else 0 := fun q i => by
      have h1 : i.val % 128 = i.val := Nat.mod_eq_of_lt i.2
      have h2 : i.val / 128 = 0 := Nat.div_eq_of_lt i.2
      simp only [laid, Fin.val_castAdd, h1, h2, Fin.zero_eta, Fin.eta]
    have l1 : ∀ (q : Fin 2 → Fin 128 → ℝ) (i : Fin 128), laid q (Fin.natAdd 128 i) = if i.val < 96 then q 1 (srcB i) else 0 := fun q i => by
      have h1 : (128 + i.val) % 128 = i.val := by omega
      have h2 : (128 + i.val) / 128 = 1 := by omega
      simp only [laid, Fin.val_natAdd, h1, h2, Fin.mk_one, Fin.eta]
    simp only [hlt, hge, iff_true, iff_false, l0, l1]
    fin_cases hh
    · simp only [Fin.zero_eta, Fin.isValue, if_true, not_true_eq_false, if_false, mul_zero, Finset.sum_const_zero, add_zero]
      refine Finset.sum_congr rfl fun i _ => ?_
      split_ifs
      · exact mul_comm _ _
      · exact mul_zero _
    · simp only [Fin.mk_one, Fin.isValue, one_ne_zero, if_false, not_false_eq_true, if_true, mul_zero, Finset.sum_const_zero, zero_add]
      refine Finset.sum_congr rfl fun i _ => ?_
      split_ifs
      · exact mul_comm _ _
      · exact mul_zero _
  have e2 : (∑ l : Fin 128, if l.val < 96 then q hh (srcB l) * k hh (srcB l) else 0) = ∑ l : Fin 128, if l.val < 96 then q hh l * k hh l else 0 := by
    refine Eq.trans (Finset.sum_congr rfl fun l _ => ?_)
      ((Equiv.ofBijective srcB srcB_bijective).sum_comp fun l => if l.val < 96 then q hh l * k hh l else 0)
    simp only [Equiv.ofBijective_apply, srcB_lt]
  rw [e, e2, show (∑ l : Fin 128, if l.val < 96 then q hh l * k hh l else 0)
    = ∑ l : Fin (64 + (32 + 32)), if l.val < 96 then q hh l * k hh l else 0 from rfl, Fin.sum_univ_add, Fin.sum_univ_add]
  have h1 : ∀ i : Fin 64, (Fin.castAdd (32 + 32) i).val < 96 := fun i => by simp only [Fin.val_castAdd]; omega
  have h2 : ∀ i : Fin 32, (Fin.natAdd 64 (Fin.castAdd 32 i)).val < 96 := fun i => by simp only [Fin.val_castAdd, Fin.val_natAdd]; omega
  have h3 : ∀ i : Fin 32, ¬ (Fin.natAdd 64 (Fin.natAdd 32 i)).val < 96 := fun i => by simp only [Fin.val_natAdd]; omega
  simp only [h1, h2, h3, if_true, if_false, Finset.sum_const_zero, add_zero]
  rfl

end Cert.Attend

end
-- ==== Proof.Attn.Host.lean ====
/-
  What the host hands the kernel, one entry at a time: the queries and keys dealt out over the lanes, the queries scaled, and the values as they are.
-/
module

public import proofs.«01_k».proof.Proof.Attn.Stub
public import proofs.«01_k».proof.Proof.Attn.Lanes
public import Idealize.ShloMosaic.Lib.Pointwise
public import Idealize.ShloMosaic.Lib.Pipeline.ValueKit
public import Idealize.ShloMosaic.Lib.Pipeline.ReadBack
public import Idealize.ShloMosaic.Lib.StableHlo.ReadAt

@[expose] public section

set_option maxRecDepth 16384

noncomputable section

namespace Cert.Attend

open Idealize.ShloMosaic Idealize.ShloMosaic.TcCoe Idealize.SL.Sem Cert.AttnIdeal Cert.AttnIdeal.Gen
open scoped BigOperators

/-- A gather along the last axis of a rank-3 array. -/
theorem gather_three {α : Type} (x : S32x2048x512.Idx → α) (idx : IVec S512x1 32) (i : Fin 32) (t : Fin 2048) (l : Fin 512) :
    Host.gather gather_S32x2048x512_S512x1_S32x2048x512_01_2_n_n_2_1_3220481 x idx (ix3 i t l)
      = x (ix3 i t ⟨min (idx (ix2 l 0)).toInt.toNat 511, by omega⟩) := by
  unfold Host.gather
  congr 1
  funext a; refine Fin.ext ?_
  fin_cases a
  · show 0 + 0 + i.val = i.val
    omega
  · show 0 + 0 + t.val = t.val
    omega
  · show min (idx (gather_S32x2048x512_S512x1_S32x2048x512_01_2_n_n_2_1_3220481.siIdx (ix3 i t l) ⟨0, by decide⟩)).toInt.toNat 511 + 0 + 0 = _
    rw [show gather_S32x2048x512_S512x1_S32x2048x512_01_2_n_n_2_1_3220481.siIdx (ix3 i t l) ⟨0, by decide⟩ = ix2 l 0 by funext b; fin_cases b <;> rfl]
    rfl

/-- A gather along the last axis of a rank-4 array. -/
theorem gather_four {α : Type} (x : S32x2048x8x96.Idx → α) (idx : IVec S128x1 32) (i : Fin 32) (t : Fin 2048) (h : Fin 8) (l : Fin 128) :
    Host.gather gather_S32x2048x8x96_S128x1_S32x2048x8x128_012_3_n_n_3_1_32204881 x idx (ix4 i t h l)
      = x (ix4 i t h ⟨min (idx (ix2 l 0)).toInt.toNat 95, by omega⟩) := by
  unfold Host.gather
  congr 1
  funext a; refine Fin.ext ?_
  fin_cases a
  · show 0 + 0 + i.val = i.val
    omega
  · show 0 + 0 + t.val = t.val
    omega
  · show 0 + 0 + h.val = h.val
    omega
  · show min (idx (gather_S32x2048x8x96_S128x1_S32x2048x8x128_012_3_n_n_3_1_32204881.siIdx (ix4 i t h l) ⟨0, by decide⟩)).toInt.toNat 95 + 0 + 0 = _
    rw [show gather_S32x2048x8x96_S128x1_S32x2048x8x128_012_3_n_n_3_1_32204881.siIdx (ix4 i t h l) ⟨0, by decide⟩ = ix2 l 0 by funext b; fin_cases b <;> rfl]
    rfl

/-- The sparse stream's table, as the host reads it. -/
def tableA : IVec S512x1 32 :=
  broadcastInDim S512x1 ![0] bcast_S512_S512x1_0
    (select (cmpi CmpIPredicate.slt (fun i => lit0 (S512.rowMajor i)) (broadcastInDim S512 ![] bcast_S_S512 (constantI S_ 32 0#32)))
      (addi (fun i => lit0 (S512.rowMajor i)) (broadcastInDim S512 ![] bcast_S_S512 (constantI S_ 32 512#32))) fun i => lit0 (S512.rowMajor i))

/-- The latent stream's table, as the host reads it. -/
def tableB : IVec S128x1 32 :=
  broadcastInDim S128x1 ![0] bcast_S128_S128x1_0
    (select (cmpi CmpIPredicate.slt (maxsi (fun i => lit1 (S128.rowMajor i)) (broadcastInDim S128 ![] bcast_S_S128 (constantI S_ 32 0#32)))
        (broadcastInDim S128 ![] bcast_S_S128 (constantI S_ 32 0#32)))
      (addi (maxsi (fun i => lit1 (S128.rowMajor i)) (broadcastInDim S128 ![] bcast_S_S128 (constantI S_ 32 0#32)))
        (broadcastInDim S128 ![] bcast_S_S128 (constantI S_ 32 96#32)))
      (maxsi (fun i => lit1 (S128.rowMajor i)) (broadcastInDim S128 ![] bcast_S_S128 (constantI S_ 32 0#32))))

/-- The place in the array that a lane of the sparse stream reads. -/
def placeA (l : Fin 512) : Fin 512 := ⟨l.val / 128 * 128 + (srcA ⟨l.val % 128, by omega⟩).val, by have := (srcA ⟨l.val % 128, by omega⟩).2; omega⟩

theorem tableA_at (l : Fin 512) : min (tableA (ix2 l 0)).toInt.toNat 511 = (placeA l).val :=
  (by decide +kernel : ∀ l : Fin 512, min (tableA (ix2 l 0)).toInt.toNat 511 = (placeA l).val) l

theorem tableB_at (l : Fin 128) (hl : l.val < 96) : min (tableB (ix2 l 0)).toInt.toNat 95 = (srcB l).val :=
  (by decide +kernel : ∀ l : Fin 128, l.val < 96 → min (tableB (ix2 l 0)).toInt.toNat 95 = (srcB l).val) l hl

theorem validB_at (l : Fin 128) : IntOp.cmpi CmpIPredicate.sge (lit1 (S128.rowMajor (ix1 l))) 0#32 = BitVec.ofBool (decide (l.val < 96)) :=
  (by decide +kernel : ∀ l : Fin 128, IntOp.cmpi CmpIPredicate.sge (lit1 (S128.rowMajor (ix1 l))) 0#32 = BitVec.ofBool (decide (l.val < 96))) l

/-- The two parts of a head side by side. -/
theorem parts_at {α : Type} (a : S32x2048x8x64.Idx → α) (b : S32x2048x8x32.Idx → α) (i : Fin 32) (t : Fin 2048) (h : Fin 8) (w : Fin 96) :
    concatenate S32x2048x8x96 3 [⟨S32x2048x8x64, a⟩, ⟨S32x2048x8x32, b⟩] concatenates_S32x2048x8x64_S32x2048x8x32_S32x2048x8x96_d3 (ix4 i t h w)
      = if hw : w.val < 64 then a (ix4 i t h ⟨w.val, hw⟩) else b (ix4 i t h ⟨w.val - 64, by omega⟩) := by
  pointwise

variable (m : (ℓ : Loc nD τ sig) → Buf (Elt Ideal) ℓ) (c : Dev nD)

/-- The sparse stream's queries. -/
def argQ : S32x2048x8x64.Idx → EReal := m ((c : Thread nD τ).loc main_arg0)

/-- The sparse stream's keys. -/
def argK : S32x2048x8x64.Idx → EReal := m ((c : Thread nD τ).loc main_arg1)

/-- The sparse stream's values. -/
def argX : S32x2048x8x64.Idx → EReal := m ((c : Thread nD τ).loc main_arg2)

/-- The latent stream's queries, the part of each head. -/
def argQN : S32x2048x8x64.Idx → EReal := m ((c : Thread nD τ).loc main_arg3)

/-- The latent stream's queries, the turned part. -/
def argQR : S32x2048x8x32.Idx → EReal := m ((c : Thread nD τ).loc main_arg4)

/-- The latent stream's keys, the part of each head. -/
def argKN : S32x2048x8x64.Idx → EReal := m ((c : Thread nD τ).loc main_arg5)

/-- The latent stream's keys, the turned part all heads share. -/
def argKR : S32x2048x32.Idx → EReal := m ((c : Thread nD τ).loc main_arg6)

/-- The latent stream's values. -/
def argY : S32x2048x8x64.Idx → EReal := m ((c : Thread nD τ).loc main_arg7)

theorem v59_at (i : Fin 32) (t : Fin 2048) (l : Fin 512) : V m c main_v59 (ix3 i t l)
    = argX m c (ix4 i t ⟨l.val / 64, by omega⟩ ⟨l.val % 64, by omega⟩) := by
  unfold V; after_reads_at
  rfl

theorem v61_at (i : Fin 32) (t : Fin 2048) (l : Fin 512) : V m c main_v61 (ix3 i t l)
    = argY m c (ix4 i t ⟨l.val / 64, by omega⟩ ⟨l.val % 64, by omega⟩) := by
  unfold V; after_reads_at
  rfl

theorem v25_at (i : Fin 32) (t : Fin 2048) (l : Fin 512) : V m c main_v25 (ix3 i t l)
    = argK m c (ix4 i t ⟨(placeA l).val / 64, by have := (placeA l).2; omega⟩ ⟨(placeA l).val % 64, by omega⟩) := by
  unfold V; after_reads_at
  refine (gather_three _ tableA i t l).trans ?_
  simp only [tableA_at]
  rfl

theorem scaleA_eq : Ideal.div (Ideal.ofBits FTy.f32 1040187392#32) (Ideal.log (Ideal.ofBits FTy.f32 1073741824#32)) = ((1 / 8 / Real.log 2 : ℝ) : EReal) := by
  have h8 : Ideal.ofBits FTy.f32 1040187392#32 = ((1 / 8 : ℝ) : EReal) := by
    simp [Ideal.ofBits, Ideal.ieee]
    rw [← EReal.coe_mul]
    norm_num
  have h2 : Ideal.ofBits FTy.f32 1073741824#32 = ((2 : ℝ) : EReal) := by
    simp [Ideal.ofBits, Ideal.ieee]
    try rw [← EReal.coe_mul]
    try norm_num
  rw [h8, h2, Ideal.log_coe, if_neg (by norm_num), Ideal.div_coe (Real.log_pos (by norm_num)).ne', ← EReal.coe_mul]
  congr 1
  ring

theorem v16_at (i : Fin 32) (t : Fin 2048) (l : Fin 512) : V m c main_v16 (ix3 i t l)
    = argQ m c (ix4 i t ⟨(placeA l).val / 64, by have := (placeA l).2; omega⟩ ⟨(placeA l).val % 64, by omega⟩)
      * ((1 / 8 / Real.log 2 : ℝ) : EReal) := by
  unfold V; after_reads_at
  rw [scaleA_eq]
  refine congrArg (· * ((1 / 8 / Real.log 2 : ℝ) : EReal)) ?_
  refine (gather_three _ tableA i t l).trans ?_
  simp only [tableA_at]
  rfl

theorem scaleB_eq : Ideal.div (Ideal.ofBits FTy.f32 1037108716#32) (Ideal.log (Ideal.ofBits FTy.f32 1073741824#32))
    = ((13698540 / 134217728 / Real.log 2 : ℝ) : EReal) := by
  have h8 : Ideal.ofBits FTy.f32 1037108716#32 = ((13698540 / 134217728 : ℝ) : EReal) := by
    simp [Ideal.ofBits, Ideal.ieee]
    rw [← EReal.coe_mul]
    norm_num
  have h2 : Ideal.ofBits FTy.f32 1073741824#32 = ((2 : ℝ) : EReal) := by
    simp [Ideal.ofBits, Ideal.ieee]
    try rw [← EReal.coe_mul]
    try norm_num
  rw [h8, h2, Ideal.log_coe, if_neg (by norm_num), Ideal.div_coe (Real.log_pos (by norm_num)).ne', ← EReal.coe_mul]
  congr 1
  ring

theorem select_valid {α : Type} (l : Fin 128) (x y : α) :
    Scalar.select (IntOp.cmpi CmpIPredicate.sge (lit1 (S128.rowMajor (ix1 l))) 0#32) x y = if l.val < 96 then x else y := by
  rw [validB_at]
  by_cases h : l.val < 96 <;> simp [h, Scalar.select]

theorem v42_at (i : Fin 32) (t : Fin 2048) (l : Fin 1024) : (V m c main_v42 (ix3 i t l) : EReal)
    = if hl : l.val % 128 < 96 then
        (if hw : (srcB ⟨l.val % 128, by omega⟩).val < 64 then
          argQN m c (ix4 i t ⟨l.val / 128, by omega⟩ ⟨(srcB ⟨l.val % 128, by omega⟩).val, hw⟩)
        else argQR m c (ix4 i t ⟨l.val / 128, by omega⟩
          ⟨(srcB ⟨l.val % 128, by omega⟩).val - 64, by have := (srcB_lt ⟨l.val % 128, by omega⟩).2 hl; omega⟩))
          * ((13698540 / 134217728 / Real.log 2 : ℝ) : EReal)
      else (0 : EReal) := by
  unfold V; after_reads_at
  refine (select_valid ⟨l.val % 128, by omega⟩ _ _).trans ?_
  by_cases hl : l.val % 128 < 96
  · rw [if_pos hl, dif_pos hl]
    refine (gather_four _ tableB i t ⟨l.val / 128, by omega⟩ ⟨l.val % 128, by omega⟩).trans ?_
    simp only [tableB_at ⟨l.val % 128, by omega⟩ hl]
    refine congrArg₂ (· * ·) ((parts_at _ _ i t _ _).trans ?_) scaleB_eq
    split_ifs
    · after_reads_at
      rfl
    · after_reads_at
      rfl
  · rw [if_neg hl, dif_neg hl]
    show Ideal.ofBits .f32 0#32 = 0
    simp [Ideal.ofBits, Ideal.ieee]

theorem v57_at (i : Fin 32) (t : Fin 2048) (l : Fin 1024) : (V m c main_v57 (ix3 i t l) : EReal)
    = if hl : l.val % 128 < 96 then
        (if hw : (srcB ⟨l.val % 128, by omega⟩).val < 64 then
          argKN m c (ix4 i t ⟨l.val / 128, by omega⟩ ⟨(srcB ⟨l.val % 128, by omega⟩).val, hw⟩)
        else argKR m c (ix3 i t
          ⟨(srcB ⟨l.val % 128, by omega⟩).val - 64, by have := (srcB_lt ⟨l.val % 128, by omega⟩).2 hl; omega⟩))
      else (0 : EReal) := by
  unfold V; after_reads_at
  refine (select_valid ⟨l.val % 128, by omega⟩ _ _).trans ?_
  by_cases hl : l.val % 128 < 96
  · rw [if_pos hl, dif_pos hl]
    refine (gather_four _ tableB i t ⟨l.val / 128, by omega⟩ ⟨l.val % 128, by omega⟩).trans ?_
    simp only [tableB_at ⟨l.val % 128, by omega⟩ hl]
    refine (parts_at _ _ i t _ _).trans ?_
    split_ifs
    · after_reads_at
      rfl
    · after_reads_at
      rfl
  · rw [if_neg hl, dif_neg hl]
    show Ideal.ofBits .f32 0#32 = 0
    simp [Ideal.ofBits, Ideal.ieee]

end Cert.Attend

end
-- ==== Proof.Attn.Finite.lean ====
/-
  The precondition read: the queries and keys are reals.
-/
module

public import proofs.«01_k».proof.Defs
public import proofs.«01_k».proof.Proof.Attn.Host

@[expose] public section

noncomputable section

namespace Cert.Attend

open Idealize.ShloMosaic Idealize.ShloMosaic.TcCoe Idealize.SL.Sem

/-- An extended real whose absolute value is below infinity is a real. -/
theorem real_of_finite {x : EReal} (h : Ideal.cmp .olt (max x (-x)) (Ideal.ofBits .f32 0x7F800000#32) = 1#1) : x = (x.toReal : EReal) := by
  have htop : Ideal.ofBits .f32 0x7F800000#32 = ⊤ := by simp [Ideal.ofBits, Ideal.ieee]
  rw [htop] at h
  have hlt : max x (-x) < ⊤ := by
    by_contra hn
    simp [Ideal.cmp, hn] at h
  rw [max_lt_iff] at hlt
  refine (EReal.coe_toReal hlt.1.ne ?_).symm
  rintro rfl
  simp at hlt

variable [Cert.Pre_finite.Facts] (m : (ℓ : Loc Cert.AttnIdeal.nD Cert.AttnIdeal.τ Cert.AttnIdeal.sig) → Buf (Elt Ideal) ℓ) (h : Cert.Pre_AttnIdeal_finite m) (c : Dev Cert.AttnIdeal.nD)
include h

theorem argQ_real (j) : argQ m c j = ((argQ m c j).toReal : EReal) := real_of_finite (congrFun (h c).1 j)
theorem argK_real (j) : argK m c j = ((argK m c j).toReal : EReal) := real_of_finite (congrFun (h c).2.1 j)
theorem argQN_real (j) : argQN m c j = ((argQN m c j).toReal : EReal) := real_of_finite (congrFun (h c).2.2.1 j)
theorem argQR_real (j) : argQR m c j = ((argQR m c j).toReal : EReal) := real_of_finite (congrFun (h c).2.2.2.1 j)
theorem argKN_real (j) : argKN m c j = ((argKN m c j).toReal : EReal) := real_of_finite (congrFun (h c).2.2.2.2.1 j)
theorem argKR_real (j) : argKR m c j = ((argKR m c j).toReal : EReal) := real_of_finite (congrFun (h c).2.2.2.2.2 j)

end Cert.Attend

end
-- ==== Proof.Attn.Stream.lean ====
/-
  What one grid point computes for its two heads, and one tile of it: the tile's result is the attention of its queries.
-/
module

public import proofs.«01_k».proof.Proof.Attn.Out
public import proofs.«01_k».proof.Proof.Attn.Values
public import proofs.«01_k».proof.Proof.Attn.Keys
public import proofs.«01_k».proof.Proof.Attn.Scores
public import proofs.«01_k».proof.Proof.Attn.Rank

@[expose] public section

set_option maxRecDepth 16384

noncomputable section

namespace Cert.Attend

open Idealize.ShloMosaic Idealize.ShloMosaic.TcCoe Idealize.SL.Sem Cert.AttnIdeal Cert.AttnIdeal.Gen
open scoped BigOperators Classical

/-- The head of a value lane. -/
def laneHead (l : Fin 128) : Fin 2 := ⟨l.val / 64, by omega⟩

/-- The attention of query `t`, at value lane `l`. -/
def streamed {W : ℕ} (lane : Fin W → Prop) [DecidablePred lane] (a b : Fin 2048 → Fin W → ℝ) (M : Fin 2 → Fin 2048 → Fin 2048 → Prop)
    (x : Vec Ideal S1x2048x128 .bf16) (t : Fin 2048) (l : Fin 128) : EReal :=
  attend (fun k => headDot lane (laneHead l) (a t) (b k) * Real.log 2) (M (laneHead l) t) (fun k => x (ix3 0 k l))

/-- The keys a query of the sparse stream attends to. -/
def seenA (a b : Fin 2048 → Fin 128 → ℝ) (hh : Fin 2) (t k : Fin 2048) : Prop :=
  (k.val / 256 < t.val / 256 ∧ Chosen (fun n => headDot LaneA hh (a t) (meanR b n)) (t.val / 256) ⟨k.val / 256, by omega⟩) ∨
    (k.val / 256 = t.val / 256 ∧ k.val ≤ t.val)

/-- The keys a query of the latent stream attends to. -/
def seenB (_hh : Fin 2) (t k : Fin 2048) : Prop := k.val ≤ t.val

theorem seen_sparse {keep : IVec S8x512 1} {j : Fin 8} {a b : Fin 2048 → Fin 128 → ℝ}
    (hk : ∀ n q, keep (ix2 n q) = 1#1 ↔ Chosen (fun n => headDot LaneA (headOf q) (a (posOf j q)) (meanR b n)) j.val n) (k : Fin 2048) (r : Fin 512) :
    Seen keep j.val k r ↔ seenA a b (headOf r) (posOf j r) k := by
  have e : (posOf j r).val = 256 * j.val + r.val % 256 := rfl
  have e' : (posOf j r).val / 256 = j.val := by omega
  unfold Seen seenA
  rw [hk, e', e]
  have h1 : k.val < 256 * j.val ↔ k.val / 256 < j.val := by omega
  have h2 : (256 * j.val ≤ k.val ∧ k.val - 256 * j.val ≤ r.val % 256) ↔ (k.val / 256 = j.val ∧ k.val ≤ 256 * j.val + r.val % 256) := by omega
  rw [h1, h2]

theorem seen_latent (j : Fin 8) (k : Fin 2048) (r : Fin 512) :
    Seen (latentKeep (BitVec.ofNat 32 j.val)) j.val k r ↔ seenB (headOf r) (posOf j r) k := by
  have e : (posOf j r).val = 256 * j.val + r.val % 256 := rfl
  have hkeep : ∀ n : Fin 8, latentKeep (BitVec.ofNat 32 j.val) (ix2 n r) = 1#1 ↔ n.val < j.val := by
    intro n
    show IntOp.cmpi CmpIPredicate.slt (row8 (ix2 n r)) (BitVec.ofNat 32 j.val) = 1#1 ↔ _
    rw [row8_apply]
    clear e
    revert n j
    decide
  unfold Seen seenB
  rw [hkeep, e]
  show (k.val < 256 * j.val ∧ k.val / 256 < j.val) ∨ _ ↔ _
  omega

/-- The scores of a tile, past the rows of the means. -/
theorem isScores_of {g0 N : ℕ} {s : FVec Ideal ⟨2, ![N, 512]⟩ .f32} {σ : Fin 2048 → Fin 512 → ℝ}
    (h : ∀ (k : Fin 2048) (hk : g0 + k.val < N) r, s (ix2 ⟨g0 + k.val, hk⟩ r) = (σ k r : EReal)) : IsScores g0 N s σ := h

theorem keyRow_key (b : Fin 2048 → Fin 128 → ℝ) (k : Fin 2048) (h : 16 + k.val < 2064) : keyRow b ⟨16 + k.val, h⟩ = b k := by
  funext l
  unfold keyRow
  have h1 : ¬ 16 + k.val < 8 := by omega
  have h2 : ¬ 16 + k.val < 16 := by omega
  simp only [h1, h2, dif_neg, not_false_eq_true, if_false]
  congr 1
  exact Fin.ext (by show 16 + k.val - 16 = k.val; omega)

theorem keyRow_mean (b : Fin 2048 → Fin 128 → ℝ) (n : Fin 8) (h : n.val < 2064) : keyRow b ⟨n.val, h⟩ = meanR b n := by
  funext l
  unfold keyRow
  have h1 : n.val < 16 := by omega
  simp only [n.isLt, h1, dif_pos]

theorem keyRow_low (b : Fin 2048 → Fin 128 → ℝ) (n : Fin 8) (h : 8 + n.val < 2064) : keyRow b ⟨8 + n.val, h⟩ = fun _ => 0 := by
  funext l
  unfold keyRow
  have h1 : ¬ 8 + n.val < 8 := by omega
  have h2 : 8 + n.val < 16 := by omega
  simp only [h1, h2, dif_neg, not_false_eq_true, if_true, dif_pos]

theorem headDot_zero {W : ℕ} (lane : Fin W → Prop) [DecidablePred lane] (hh : Fin 2) (x : Fin W → ℝ) : headDot lane hh x (fun _ => 0) = 0 := by
  unfold headDot
  simp

section sparse

variable {N : ℕ} {s : FVec Ideal ⟨2, ![N, 512]⟩ .f32} {a b : Fin 2048 → Fin 128 → ℝ} {j : Fin 8}

/-- The scores of the sparse stream. -/
theorem sparse_scores (hN : N ≤ 2064)
    (hs : ∀ (k : Fin N) r, s (ix2 k r) = (headDot LaneA (headOf r) (a (posOf j r)) (keyRow b (Fin.castLE hN k)) : EReal)) :
    IsScores 16 N s (fun k r => headDot LaneA (headOf r) (a (posOf j r)) (b k)) := fun k h r => by
  rw [hs]
  congr 2
  exact keyRow_key b k _

/-- The scores of the sparse stream are real. -/
theorem sparse_below (hN : N ≤ 2064)
    (hs : ∀ (k : Fin N) r, s (ix2 k r) = (headDot LaneA (headOf r) (a (posOf j r)) (keyRow b (Fin.castLE hN k)) : EReal)) : Below s := by
  intro i
  obtain ⟨k, r, rfl⟩ : ∃ k r, i = ix2 k r := ⟨i 0, i 1, by funext t; fin_cases t <;> rfl⟩
  rw [hs]
  exact EReal.coe_lt_top _

/-- The gates of the sparse stream: the means of the keys against the query. -/
theorem sparse_gate (hN : N ≤ 2064) (h16 : 16 ≤ N)
    (hs : ∀ (k : Fin N) r, s (ix2 k r) = (headDot LaneA (headOf r) (a (posOf j r)) (keyRow b (Fin.castLE hN k)) : EReal))
    (h0 : Shape.Slices ⟨2, ![N, 512]⟩ ![0, 0] S8x512) (h8 : Shape.Slices ⟨2, ![N, 512]⟩ ![8, 0] S8x512) (n : Fin 8) (r : Fin 512) :
    gateOf s h0 h8 (ix2 n r) = (headDot LaneA (headOf r) (a (posOf j r)) (meanR b n) : EReal) := by
  have e0 := rows_apply s h0 n r (by omega)
  have e8 := rows_apply s h8 n r (by omega)
  show extractStridedSlice S8x512 ![0, 0] s h0 (ix2 n r) + extractStridedSlice S8x512 ![8, 0] s h8 (ix2 n r) = _
  refine (congrArg₂ (· + ·) e0 e8).trans ?_
  rw [hs, hs]
  have k0 : keyRow b (Fin.castLE hN ⟨0 + n.val, by omega⟩) = meanR b n := by
    refine Eq.trans ?_ (keyRow_mean b n (by omega))
    congr 1
    exact Fin.ext (Nat.zero_add _)
  have k8 : keyRow b (Fin.castLE hN ⟨8 + n.val, by omega⟩) = fun _ => 0 := keyRow_low b n (by omega)
  rw [k0, k8, headDot_zero, EReal.coe_zero, add_zero]

/-- The keys attended to, by the gates. -/
theorem sparse_seen (hN : N ≤ 2064) (h16 : 16 ≤ N)
    (hs : ∀ (k : Fin N) r, s (ix2 k r) = (headDot LaneA (headOf r) (a (posOf j r)) (keyRow b (Fin.castLE hN k)) : EReal))
    (h0 : Shape.Slices ⟨2, ![N, 512]⟩ ![0, 0] S8x512) (h8 : Shape.Slices ⟨2, ![N, 512]⟩ ![8, 0] S8x512) (k : Fin 2048) (r : Fin 512) :
    Seen (keepGate (BitVec.ofNat 32 j.val) (gateOf s h0 h8)) j.val k r ↔ seenA a b (headOf r) (posOf j r) k :=
  seen_sparse (fun n q => keepGate_apply j _ (fun n q => headDot LaneA (headOf q) (a (posOf j q)) (meanR b n)) (fun n q => sparse_gate hN h16 hs h0 h8 n q) n q) k r

end sparse

/-- The scores of the latent stream. -/
theorem latent_scores {N : ℕ} {s : FVec Ideal ⟨2, ![N, 512]⟩ .f32} {a b : Fin 2048 → Fin 256 → ℝ} {j : Fin 8} (hN : N ≤ 2048)
    (hs : ∀ (k : Fin N) r, s (ix2 k r) = (headDot LaneB (headOf r) (a (posOf j r)) (b (Fin.castLE hN k)) : EReal)) :
    IsScores 0 N s (fun k r => headDot LaneB (headOf r) (a (posOf j r)) (b k)) := fun k h r => by
  rw [hs]
  congr 3
  exact Fin.ext (Nat.zero_add _)

/-- The scores of the latent stream are real. -/
theorem latent_below {N : ℕ} {s : FVec Ideal ⟨2, ![N, 512]⟩ .f32} {a b : Fin 2048 → Fin 256 → ℝ} {j : Fin 8} (hN : N ≤ 2048)
    (hs : ∀ (k : Fin N) r, s (ix2 k r) = (headDot LaneB (headOf r) (a (posOf j r)) (b (Fin.castLE hN k)) : EReal)) : Below s := by
  intro i
  obtain ⟨k, r, rfl⟩ : ∃ k r, i = ix2 k r := ⟨i 0, i 1, by funext t; fin_cases t <;> rfl⟩
  rw [hs]
  exact EReal.coe_lt_top _

/-- A tile of the result. -/
theorem tile_value {W : ℕ} {lane : Fin W → Prop} [DecidablePred lane] {a b : Fin 2048 → Fin W → ℝ} {Ms : Fin 2 → Fin 2048 → Fin 2048 → Prop}
    {n : ℕ} (hn : n ≤ 2048) (j : Fin 8) (hj : n = 256 * (j.val + 1)) {acc₀ acc₁ : FVec Ideal S80x256 .f32} {Lv : List (View.Piece (Elt Ideal) S2x80x2048 .bf16)}
    {Lp : List (View.Piece (Elt Ideal) S3x2048x512 .bf16)} {p : Fin 3} {x : Vec Ideal S1x2048x128 .bf16}
    (hV : ∀ hh i k, View.canon Lv (ix3 hh i k) = vtOf x hh i k) {M : Fin 2048 → Fin 512 → Prop}
    (hw : Weights p n Lp (fun k r => headDot lane (headOf r) (a (posOf j r)) (b k)) M)
    (hM : ∀ k r, M k r ↔ Ms (headOf r) (posOf j r) k) (hle : ∀ hh t k, Ms hh t k → k.val ≤ t.val) (hown : ∀ hh t, Ms hh t t)
    (h0 : ∀ i q, acc₀ (ix2 i q) = ∑ k : Fin n, View.canon Lv (ix3 0 i (Fin.castLE hn k)) * View.canon Lp (ix3 p (Fin.castLE hn k) ⟨256 * (0 : Fin 2).val + q.val, by simp; omega⟩))
    (h1 : ∀ i q, acc₁ (ix2 i q) = ∑ k : Fin n, View.canon Lv (ix3 1 i (Fin.castLE hn k)) * View.canon Lp (ix3 p (Fin.castLE hn k) ⟨256 * (1 : Fin 2).val + q.val, by simp; omega⟩))
    (z : Fin 1) (q : Fin 256) (l : Fin 128) :
    tileOut (half acc₀) (half acc₁) (ix3 z q l) = streamed lane a b Ms x ⟨256 * j.val + q.val, by omega⟩ l := by
  have hM' : ∀ k r, n ≤ k.val → ¬ M k r := fun k r hk h => by
    have := hle _ _ _ ((hM k r).mp h)
    have e : (posOf j r).val = 256 * j.val + r.val % 256 := rfl
    omega
  have main : ∀ (hh : Fin 2) (acc : FVec Ideal S80x256 .f32)
      (_ : ∀ i q, acc (ix2 i q) = ∑ k : Fin n, View.canon Lv (ix3 hh i (Fin.castLE hn k)) * View.canon Lp (ix3 p (Fin.castLE hn k) ⟨256 * hh.val + q.val, by omega⟩))
      (d : Fin 64) (_ : l.val = 64 * hh.val + d.val), half acc (ix2 d q) = streamed lane a b Ms x ⟨256 * j.val + q.val, by omega⟩ l := by
    intro hh acc hacc d hl
    have e1 : headOf ⟨256 * hh.val + q.val, by omega⟩ = laneHead l := Fin.ext (by show (256 * hh.val + q.val) / 256 = l.val / 64; omega)
    have e2 : posOf j ⟨256 * hh.val + q.val, by omega⟩ = ⟨256 * j.val + q.val, by omega⟩ := Fin.ext (by show 256 * j.val + (256 * hh.val + q.val) % 256 = 256 * j.val + q.val; omega)
    have el : (⟨64 * hh.val + d.val, by omega⟩ : Fin 128) = l := Fin.ext hl.symm
    refine (half_value hn hacc hw hM' (V := fun d k => x (ix3 0 k ⟨64 * hh.val + d.val, by omega⟩)) (fun d k => ?_) (fun k => ?_) d q
      ⟨256 * j.val + q.val, by omega⟩ ((hM _ _).mpr ?_)).trans ?_
    · rw [hV]; unfold vtOf; exact dif_pos d.isLt
    · rw [hV]; unfold vtOf; exact dif_neg (by decide)
    · rw [e1, e2]; exact hown _ _
    · unfold streamed
      rw [e1, e2, el]
      congr 1
      funext k
      rw [eq_iff_iff, hM, e1, e2]
  rw [tileOut_apply]
  by_cases h : l.val < 64
  · rw [dif_pos h]
    exact main 0 acc₀ h0 ⟨l.val, h⟩ (by simp)
  · rw [dif_neg h]
    exact main 1 acc₁ h1 ⟨l.val - 64, by omega⟩ (by simp; omega)

theorem seenA_le {a b : Fin 2048 → Fin 128 → ℝ} (hh : Fin 2) (t k : Fin 2048) (h : seenA a b hh t k) : k.val ≤ t.val := by
  rcases h with ⟨h, _⟩ | ⟨_, h⟩
  · omega
  · exact h

theorem seenA_own {a b : Fin 2048 → Fin 128 → ℝ} (hh : Fin 2) (t : Fin 2048) : seenA a b hh t t := Or.inr ⟨rfl, le_refl _⟩

theorem seenB_le (hh : Fin 2) (t k : Fin 2048) (h : seenB hh t k) : k.val ≤ t.val := h

theorem seenB_own (hh : Fin 2) (t : Fin 2048) : seenB hh t t := le_refl _

end Cert.Attend
-- ==== Proof.Attn.RowMax.lean ====
/-
  The reference's softmax of a masked row.

  The reference subtracts the greatest score of the row, takes exponentials and divides by their sum. A masked score is −∞, its exponential zero. With
  one key attended to, the greatest score is real and drops out of the quotient (`attend_of_softmax`).
-/
module

public import proofs.«01_k».proof.Proof.Attn.Softmax
public import Idealize.ShloMosaic.Lib.Pointwise

@[expose] public section

noncomputable section

namespace Cert.Attend

open Idealize.ShloMosaic

/-- A reduction by the greater from −∞ stays below +∞ where every entry does. -/
theorem reduceMax_lt_top {s t u : Shape} {axes : List (Fin s.rank)} (x : s.Idx → EReal) (init : u.Idx → EReal) (h : s.ReducesTo axes t)
    (hu : 0 < u.numel) (hi : ∀ i, init i = ⊥) (hx : ∀ i, x i < ⊤) (j : t.Idx) :
    Host.reduce (α := EReal) max x init h hu j < ⊤ := by
  rw [Host.reduce_eq_fold]
  exact Finset.fold_max_lt _ |>.mpr ⟨by rw [hi]; exact bot_lt_top, fun i _ => hx i⟩

/-- It is above every entry that reduces into it. -/
theorem le_reduceMax {s t u : Shape} {axes : List (Fin s.rank)} (x : s.Idx → EReal) (init : u.Idx → EReal) (h : s.ReducesTo axes t)
    (hu : 0 < u.numel) (i : s.Idx) :
    x i ≤ Host.reduce (α := EReal) max x init h hu (h.drop i) := by
  rw [Host.reduce_eq_fold]
  exact Finset.le_fold_max _ |>.mpr (Or.inr ⟨i, by simp, le_rfl⟩)

/-- A reduction by "or" from zero is one exactly where an entry that reduces into it is. -/
theorem reduceOr_eq_one {s t u : Shape} {axes : List (Fin s.rank)} (x : s.Idx → BitVec 1) (init : u.Idx → BitVec 1) (h : s.ReducesTo axes t)
    (hu : 0 < u.numel) (hi : ∀ i, init i = 0#1) (j : t.Idx) :
    Host.reduce IntOp.ori x init h hu j = 1#1 ↔ ∃ i, h.drop i = j ∧ x i = 1#1 := by
  rw [Host.reduce_eq_foldl, hi]
  have key : ∀ (l : List s.Idx) (b : BitVec 1), l.foldl (fun r i => IntOp.ori r (x i)) b = 1#1 ↔ b = 1#1 ∨ ∃ i ∈ l, x i = 1#1 := by
    intro l
    induction l with
    | nil => simp
    | cons a l ih =>
      intro b
      rw [List.foldl_cons, ih]
      have : IntOp.ori b (x a) = 1#1 ↔ b = 1#1 ∨ x a = 1#1 := by
        generalize x a = c; revert b c; decide
      rw [this]; simp [or_assoc]
  rw [key]
  simp only [List.mem_filter, List.mem_map, List.mem_finRange, true_and, decide_eq_true_eq, show ¬ (0#1 = 1#1) by decide, false_or]
  exact ⟨fun ⟨i, h, k⟩ => ⟨i, h.2, k⟩, fun ⟨i, h, k⟩ => ⟨i, ⟨⟨s.rowMajor i, Equiv.symm_apply_apply _ _⟩, h⟩, k⟩⟩

section

variable {ι : Type*} [Fintype ι] (σ : ι → ℝ) (M : ι → Prop) [DecidablePred M] (v : ι → EReal)

/-- The values weighted by the softmax of a masked row. -/
theorem attend_of_softmax {k₀ : ι} (h : M k₀) (s : ι → EReal) (hs : ∀ k, s k = if M k then (σ k : EReal) else ⊥) (top : EReal)
    (ht : top < ⊤) (hle : ∀ k, s k ≤ top) (e : ι → EReal) (he : ∀ k, e k = Ideal.exp (s k - top)) :
    ∑ k, v k * Ideal.div (e k) (∑ k, e k) = attend σ M v := by
  have hb : top ≠ ⊥ := by
    have := hle k₀
    rw [hs, if_pos h] at this
    rintro rfl
    exact absurd (le_bot_iff.mp this) (EReal.coe_ne_bot _)
  lift top to ℝ using ⟨ht.ne, hb⟩ with μ
  refine attend_of_normalised σ M v h (Real.exp_pos (-μ)) e fun k => ?_
  rw [he, hs]
  by_cases hk : M k
  · rw [if_pos hk, if_pos hk, ← EReal.coe_sub, Ideal.exp_coe, ← Real.exp_add]
    congr 2; ring
  · rw [if_neg hk, if_neg hk, EReal.bot_sub]
    simp

end

end Cert.Attend

end
-- ==== Proof.Attn.Latent.lean ====
/-
  The reference's latent stream, one entry at a time.

  For real queries and keys the scores are real, the mask is −∞ beyond the query's own position, and the softmax over the keys is `attend` of the
  scores over the keys not after the query.
-/
module

public import proofs.«01_k».proof.Proof.Gen.AttnRefIdeal.Read
public import proofs.«01_k».proof.Proof.Attn.RowMax
public import Idealize.ShloMosaic.Lib.Pointwise
public import Idealize.ShloMosaic.Lib.WordCmp

@[expose] public section

set_option maxRecDepth 16384

noncomputable section

namespace Cert.Attend

open Idealize.ShloMosaic Idealize.ShloMosaic.WordCmp Cert.AttnRefIdeal Cert.AttnRefIdeal.Gen Cert.AttnRefIdeal.Read

/-- The factor of the latent scores. -/
def rateB : ℝ := 13698540 / 134217728

theorem rateB_eq : (FloatOps.ofBits (F := Ideal) .f32 0x3DD105EC#32) = ((rateB : ℝ) : EReal) := by
  change Ideal.ofBits .f32 0x3DD105EC#32 = _
  simp [Ideal.ofBits, Ideal.ieee, rateB]
  rw [← EReal.coe_mul]
  norm_num

/-- The word of −∞. -/
theorem negInf_eq : (FloatOps.ofBits (F := Ideal) .f32 0xFF800000#32) = (⊥ : EReal) := by
  change Ideal.ofBits .f32 0xFF800000#32 = _
  simp [Ideal.ofBits, Ideal.ieee]

/-- The word of zero. -/
theorem zero_eq : (FloatOps.ofBits (F := Ideal) .f32 0x00000000#32) = (0 : EReal) := by
  change Ideal.ofBits .f32 0x00000000#32 = _
  simp [Ideal.ofBits, Ideal.ieee]

/-- The place of an entry of a row in the row of rows. -/
theorem drop_row (b : Fin 32) (h : Fin 8) (t k : Fin 2048) :
    reducesTo_S32x8x2048x2048_S32x8x2048_d3.drop (ix4 b h t k) = (ix3 b h t : S32x8x2048.Idx) := by
  funext a; fin_cases a <;> rfl

section

variable (x3 : (⟨S32x2048x8x64, .f32⟩ : BufTy).Contents (Elt Ideal)) (x4 : (⟨S32x2048x8x32, .f32⟩ : BufTy).Contents (Elt Ideal))
  (x5 : (⟨S32x2048x8x64, .f32⟩ : BufTy).Contents (Elt Ideal)) (x6 : (⟨S32x2048x32, .f32⟩ : BufTy).Contents (Elt Ideal))
  (x7 : (⟨S32x2048x8x64, .f32⟩ : BufTy).Contents (Elt Ideal))
  (r3 : S32x2048x8x64.Idx → ℝ) (r4 : S32x2048x8x32.Idx → ℝ) (r5 : S32x2048x8x64.Idx → ℝ) (r6 : S32x2048x32.Idx → ℝ)

/-- The latent score of a query and a key: the products of the two parts of their heads, scaled. -/
def scoreB (b : Fin 32) (h : Fin 8) (t k : Fin 2048) : ℝ :=
  ((∑ i, r3 (ix4 b t h i) * r5 (ix4 b k h i)) + ∑ i, r4 (ix4 b t h i) * r6 (ix3 b k i)) * rateB

variable (h3 : ∀ j, x3 j = (r3 j : EReal)) (h4 : ∀ j, x4 j = (r4 j : EReal)) (h5 : ∀ j, x5 j = (r5 j : EReal)) (h6 : ∀ j, x6 j = (r6 j : EReal))
include h3 h4 h5 h6

/-- The scaled scores. -/
theorem v71_at (b : Fin 32) (h : Fin 8) (t k : Fin 2048) :
    val_main_v71 x3 x4 x5 x6 (ix4 b h t k) = (scoreB r3 r4 r5 r6 b h t k : EReal) := by
  rw [val_main_v71_apply, val_main_v70_apply, val_main_cst_8_apply, rateB_eq, val_main_v69_apply, val_main_v68_apply, val_main_v66_apply, val_main_v67_apply]
  have e1 : (∑ i : Fin 64, x3 (lidx_main_v66 (ix4 b h t k) i) * x5 (ridx_main_v66 (ix4 b h t k) i))
      = ((∑ i, r3 (ix4 b t h i) * r5 (ix4 b k h i) : ℝ) : EReal) := by
    rw [coe_sum]
    refine Finset.sum_congr rfl fun i _ => ?_
    rw [h3, h5, EReal.coe_mul, show lidx_main_v66 (ix4 b h t k) i = ix4 b t h i by funext a; fin_cases a <;> rfl,
      show ridx_main_v66 (ix4 b h t k) i = ix4 b k h i by funext a; fin_cases a <;> rfl]
  have e2 : (∑ i : Fin 32, x6 (lidx_main_v67 (idx_main_v68 (ix4 b h t k)) i) * x4 (ridx_main_v67 (idx_main_v68 (ix4 b h t k)) i))
      = ((∑ i, r4 (ix4 b t h i) * r6 (ix3 b k i) : ℝ) : EReal) := by
    rw [coe_sum]
    refine Finset.sum_congr rfl fun i _ => ?_
    rw [h6, h4, EReal.coe_mul, mul_comm, show lidx_main_v67 (idx_main_v68 (ix4 b h t k)) i = ix3 b k i by funext a; fin_cases a <;> rfl,
      show ridx_main_v67 (idx_main_v68 (ix4 b h t k)) i = ix4 b t h i by funext a; fin_cases a <;> rfl]
  rw [e1, e2, scoreB, EReal.coe_mul, EReal.coe_add]
  rfl

/-- The masked scores. -/
theorem v80_at (b : Fin 32) (h : Fin 8) (t k : Fin 2048) :
    val_main_v80 x3 x4 x5 x6 (ix4 b h t k) = if k ≤ t then (scoreB r3 r4 r5 r6 b h t k : EReal) else ⊥ := by
  rw [val_main_v80_apply, v71_at x3 x4 x5 x6 r3 r4 r5 r6 h3 h4 h5 h6, val_main_call3_v2_apply, val_main_call3_v0_apply, val_main_cst_9_apply, negInf_eq,
    val_main_call3_v1_apply, val_main_v79_apply, val_main_v78_apply, val_main_v76_apply, val_main_v77_apply, val_main_v73_apply, val_main_v75_apply,
    val_main_v72_apply, val_main_v74_apply]
  change Scalar.select (IntOp.cmpi .sle (BitVec.ofNat 32 k.val) (BitVec.ofNat 32 t.val)) _ _ = _
  rw [cmpi_sle_ofNat (by have := k.2; omega) (by have := t.2; omega)]
  by_cases hk : k ≤ t
  · rw [if_pos hk, show decide (k.val ≤ t.val) = true by simpa using hk]; rfl
  · rw [if_neg hk, show decide (k.val ≤ t.val) = false by simpa using hk]; rfl

/-- The stream's heads, before they are laid side by side. -/
theorem v92_at (b : Fin 32) (h : Fin 8) (d : Fin 64) (t : Fin 2048) :
    val_main_v92 x3 x4 x5 x6 x7 (ix4 b h d t) = attend (scoreB r3 r4 r5 r6 b h t) (fun k => k ≤ t) fun k => x7 (ix4 b k h d) := by
  have hs := v80_at x3 x4 x5 x6 r3 r4 r5 r6 h3 h4 h5 h6
  set top : EReal := val_main_v83 x3 x4 x5 x6 (ix3 b h t) with htop
  have e83 : top = max ⊥ (val_main_v81 x3 x4 x5 x6 (ix3 b h t)) := by
    rw [htop, val_main_v83_apply, val_main_v82_apply, val_main_cst_11_apply, negInf_eq]; rfl
  have e81 : val_main_v81 x3 x4 x5 x6 (ix3 b h t) = Host.reduce (α := EReal) max (val_main_v80 x3 x4 x5 x6) (val_main_cst_10 (F := Ideal))
      reducesTo_S32x8x2048x2048_S32x8x2048_d3 h_S_ (ix3 b h t) := rfl
  have hinit : ∀ i, val_main_cst_10 (F := Ideal) i = (⊥ : EReal) := fun i => by rw [val_main_cst_10_apply, negInf_eq]
  have e87 : ∀ k, val_main_v87 x3 x4 x5 x6 (ix4 b h t k) = Ideal.exp (val_main_v80 x3 x4 x5 x6 (ix4 b h t k) - top) := fun k => by
    rw [val_main_v87_apply, val_main_v86_apply, val_main_v85_apply, val_main_v84_apply, htop,
      show idx_main_v84 (idx_main_v85 (ix4 b h t k)) = ix3 b h t by funext a; fin_cases a <;> rfl]
    rfl
  rw [val_main_v92_apply]
  rw [← attend_of_softmax (scoreB r3 r4 r5 r6 b h t) (fun k => k ≤ t) (fun k => x7 (ix4 b k h d)) (le_refl t) (fun k => val_main_v80 x3 x4 x5 x6 (ix4 b h t k))
    (hs b h t) top ?_ ?_ (fun k => val_main_v87 x3 x4 x5 x6 (ix4 b h t k)) e87]
  · refine Finset.sum_congr rfl fun k _ => ?_
    rw [show lidx_main_v92 (ix4 b h d t) k = ix4 b k h d by funext a; fin_cases a <;> rfl,
      show ridx_main_v92 (ix4 b h d t) k = ix4 b h t k by funext a; fin_cases a <;> rfl, val_main_v91_apply, val_main_v90_apply, val_main_v89_apply,
      show idx_main_v89 (idx_main_v90 (ix4 b h t k)) = ix3 b h t by funext a; fin_cases a <;> rfl, val_main_v88_apply, val_main_cst_12_apply, zero_eq, zero_add,
      show (fun q => val_main_v87 x3 x4 x5 x6 (idx_main_v88 (ix3 b h t) q)) = fun q => val_main_v87 x3 x4 x5 x6 (ix4 b h t q) from
        funext fun q => congrArg _ (by funext a; fin_cases a <;> rfl)]
    rfl
  · rw [e83, e81]
    refine max_lt bot_lt_top (reduceMax_lt_top _ _ _ _ hinit (fun i => ?_) _)
    obtain ⟨b', h', t', k', rfl⟩ : ∃ b' h' t' k', i = ix4 b' h' t' k' := ⟨i 0, i 1, i 2, i 3, by funext a; fin_cases a <;> rfl⟩
    rw [hs]
    split_ifs
    · exact EReal.coe_lt_top _
    · exact bot_lt_top
  · intro k
    rw [e83, e81, ← drop_row b h t k]
    exact le_max_of_le_right (le_reduceMax _ _ _ _ _)

/-- The stream as the program returns it. -/
theorem v96_at (b : Fin 32) (t : Fin 2048) (l : Fin 512) :
    val_main_v96 x3 x4 x5 x6 x7 (ix3 b t l) = attend (scoreB r3 r4 r5 r6 b ⟨l.val / 64, by omega⟩ t) (fun k => k ≤ t)
      fun k => x7 (ix4 b k ⟨l.val / 64, by omega⟩ ⟨l.val % 64, by omega⟩) := by
  rw [← v92_at x3 x4 x5 x6 x7 r3 r4 r5 r6 h3 h4 h5 h6, val_main_v96_apply, val_main_v94_apply, val_main_v93_apply]
  refine congrArg (val_main_v92 x3 x4 x5 x6 x7) (funext fun a => Fin.ext ?_)
  have hb := b.2; have ht := t.2; have hl := l.2
  fin_cases a
  · show ((b.val * 2048 + t.val) * 512 + l.val) / 1048576 = b.val
    omega
  · show ((b.val * 2048 + t.val) * 512 + l.val) / 64 % 8 = l.val / 64
    omega
  · show ((b.val * 2048 + t.val) * 512 + l.val) % 64 = l.val % 64
    omega
  · show ((b.val * 2048 + t.val) * 512 + l.val) / 512 % 2048 = t.val
    omega

end

end Cert.Attend

end
-- ==== Proof.Attn.Choice.lean ====
/-
  The blocks the reference chooses, one query at a time.

  The gates of the blocks before the query's own are sorted, the first three positions are kept as far as there are blocks, and a key is seen when
  its block is among them, or when it lies in the query's own block and not after it (`v50_at`).
-/
module

public import proofs.«01_k».proof.Proof.Attn.Latent
public import proofs.«01_k».proof.Proof.Attn.Rank

@[expose] public section

set_option maxRecDepth 16384

noncomputable section

namespace Cert.Attend

open Idealize.ShloMosaic Idealize.ShloMosaic.WordCmp Cert.AttnRefIdeal Cert.AttnRefIdeal.Gen Cert.AttnRefIdeal.Read

/-- The block of a position: the floored quotient by the block length. -/
theorem v5_at (q : Fin 2048) : val_main_v5 (F := Ideal) (ix1 q) = BitVec.ofNat 32 (q.val / 256) :=
  (by decide +kernel : ∀ q : Fin 2048, (val_main_v5 (F := Ideal) (ix1 q) : BitVec 32) = BitVec.ofNat 32 (q.val / 256)) q

/-- The positions `top_k` returns: those the stable sort takes its first entries from. -/
theorem topK_positions {s t : Shape} {α : Type} (d : Nat) (hd : d < s.rank) (gt : α → α → BitVec 1) (x : s.Idx → α) (h : s.Slices (fun _ => 0) t)
    (j : t.Idx) (J : s.Idx) (hJ : ∀ a : Fin s.rank, 0 + (j (a.cast h.1.symm)).val = (J a).val) :
    (Host.topK t d gt x h).2 j
      = BitVec.ofNat 32 (sortedFrom (fun k k' => gt (x (J.along ⟨d, hd⟩ k)) (x (J.along ⟨d, hd⟩ k')) == 1#1) (J ⟨d, hd⟩)).val := by
  have e : (fun a : Fin s.rank => (⟨0 + (j (a.cast h.1.symm)).val, by rw [hJ]; exact (J a).2⟩ : Fin (s.size a))) = J := funext fun a => Fin.ext (hJ a)
  rw [← e]
  unfold Host.topK Host.sort2
  simp only [dif_pos hd]
  unfold extractStridedSlice iotaInDim
  simp only [Shape.Idx.along, Function.update_self]

/-- A row of gates with one entry replaced by another entry of the row. -/
theorem along_row (b : Fin 32) (h : Fin 8) (t : Fin 2048) (n k : Fin 8) :
    Shape.Idx.along (s := S32x8x2048x8) (ix4 b h t n) (3 : Fin 4) k = ix4 b h t k := by
  funext a; fin_cases a <;> rfl

/-- The positions of a row of sorted gates. -/
theorem topK_row (y : S32x8x2048x8.Idx → EReal) (b : Fin 32) (h : Fin 8) (t : Fin 2048) (n : Fin 3) (n' : Fin 8) (hn : n'.val = n.val) :
    (Host.topK S32x8x2048x3 3 (FloatOps.cmpfTotal (F := Ideal) (φ := .f32) .gt) y sliceFits_S32x8x2048x8_S32x8x2048x3).2 (ix4 b h t n)
      = BitVec.ofNat 32 (sortedFrom (fun k k' => decide (y (ix4 b h t k') < y (ix4 b h t k))) n').val := by
  have hJ : ∀ a : Fin S32x8x2048x8.rank, 0 + ((ix4 b h t n : S32x8x2048x3.Idx) (a.cast sliceFits_S32x8x2048x8_S32x8x2048x3.1.symm)).val
      = ((ix4 b h t n' : S32x8x2048x8.Idx) a).val := by
    intro a
    rw [Nat.zero_add]
    fin_cases a
    · rfl
    · rfl
    · rfl
    · exact hn.symm
  rw [topK_positions (s := S32x8x2048x8) 3 (by decide) _ y _ _ (ix4 b h t n') hJ]
  have e : (fun k k' : Fin 8 => FloatOps.cmpfTotal (F := Ideal) (φ := .f32) .gt (y (Shape.Idx.along (s := S32x8x2048x8) (ix4 b h t n') (3 : Fin 4) k))
      (y (Shape.Idx.along (s := S32x8x2048x8) (ix4 b h t n') (3 : Fin 4) k')) == 1#1) = fun k k' => decide (y (ix4 b h t k') < y (ix4 b h t k)) := by
    funext k k'
    rw [along_row, along_row]
    change (BitVec.ofBool (decide (y (ix4 b h t k') < y (ix4 b h t k))) == 1#1) = _
    cases decide (y (ix4 b h t k') < y (ix4 b h t k)) <;> rfl
  rw [← e]
  rfl

section

variable (x0 x1 : (⟨S32x2048x8x64, .f32⟩ : BufTy).Contents (Elt Ideal)) (r0 r1 : S32x2048x8x64.Idx → ℝ)

/-- The mean key of a block. -/
def meanK (b : Fin 32) (e h : Fin 8) (i : Fin 64) : ℝ := (∑ k : Fin 256, r1 (ix4 b ⟨e.val * 256 + k.val, by omega⟩ h i)) * (1 / 256)

/-- The gate of a query and a block. -/
def gate (b : Fin 32) (h : Fin 8) (t : Fin 2048) (e : Fin 8) : ℝ := ∑ i, r0 (ix4 b t h i) * meanK r1 b e h i

/-- The keys a query sees. -/
def seen (b : Fin 32) (h : Fin 8) (t k : Fin 2048) : Prop :=
  (k.val / 256 < t.val / 256 ∧ Chosen (gate r0 r1 b h t) (t.val / 256) ⟨k.val / 256, by omega⟩) ∨ (k.val / 256 = t.val / 256 ∧ k ≤ t)

variable (h0 : ∀ j, x0 j = (r0 j : EReal)) (h1 : ∀ j, x1 j = (r1 j : EReal))
include h1

theorem v3_at (b : Fin 32) (e h : Fin 8) (i : Fin 64) : val_main_v3 x1 (ix4 b e h i) = (meanK r1 b e h i : EReal) := by
  rw [val_main_v3_apply, val_main_v2_apply, val_main_cst_0_apply, val_main_v1_apply, val_main_cst_apply, zero_eq, zero_add,
    show (FloatOps.ofBits (F := Ideal) .f32 0x43800000#32) = ((256 : ℝ) : EReal) from by
      change Ideal.ofBits .f32 0x43800000#32 = _
      simp [Ideal.ofBits, Ideal.ieee]
      rw [← EReal.coe_mul]
      norm_num]
  change Ideal.div _ _ = _
  rw [Ideal.div_coe (by norm_num), meanK, EReal.coe_mul, coe_sum]
  congr 1
  refine Finset.sum_congr rfl fun k _ => ?_
  rw [val_main_v0_apply, h1]
  congr 2
  have hb := b.2; have he := e.2; have hh := h.2; have hi := i.2; have hk := k.2
  funext a; refine Fin.ext ?_
  fin_cases a
  · show ((((b.val * 8 + e.val) * 256 + k.val) * 8 + h.val) * 64 + i.val) / 1048576 = b.val
    omega
  · show ((((b.val * 8 + e.val) * 256 + k.val) * 8 + h.val) * 64 + i.val) / 512 % 2048 = e.val * 256 + k.val
    omega
  · show ((((b.val * 8 + e.val) * 256 + k.val) * 8 + h.val) * 64 + i.val) / 64 % 8 = h.val
    omega
  · show ((((b.val * 8 + e.val) * 256 + k.val) * 8 + h.val) * 64 + i.val) % 64 = i.val
    omega

include h0

theorem v7_at (b : Fin 32) (h : Fin 8) (t : Fin 2048) (e : Fin 8) : val_main_v7 x0 x1 (ix4 b h t e) = (gate r0 r1 b h t e : EReal) := by
  rw [val_main_v7_apply, gate, coe_sum]
  refine Finset.sum_congr rfl fun i _ => ?_
  rw [show lidx_main_v7 (ix4 b h t e) i = ix4 b t h i by funext a; fin_cases a <;> rfl,
    show ridx_main_v7 (ix4 b h t e) i = ix4 b e h i by funext a; fin_cases a <;> rfl, v3_at x1 r1 h1, h0, EReal.coe_mul]

/-- The gates, masked to the blocks before the query's own. -/
theorem v14_at (b : Fin 32) (h : Fin 8) (t : Fin 2048) (e : Fin 8) :
    val_main_v14 x0 x1 (ix4 b h t e) = if e.val < t.val / 256 then (gate r0 r1 b h t e : EReal) else ⊥ := by
  rw [val_main_v14_apply, v7_at x0 x1 r0 r1 h0 h1, val_main_call1_v2_apply, val_main_call1_v0_apply, val_main_cst_1_apply, negInf_eq,
    val_main_call1_v1_apply, val_main_v13_apply, val_main_v12_apply, val_main_v10_apply, val_main_v11_apply, val_main_v8_apply, val_main_v9_apply,
    val_main_v6_apply, show idx_main_v9 (idx_main_v11 (idx_main_v13 (idx_main_call1_v1 (ix4 b h t e)))) = ix1 t by funext a; fin_cases a; rfl, v5_at]
  change Scalar.select (IntOp.cmpi .slt (BitVec.ofNat 32 e.val) (BitVec.ofNat 32 (t.val / 256))) _ _ = _
  rw [cmpi_slt_ofNat (by have := e.2; omega) (by have := t.2; omega)]
  by_cases hk : e.val < t.val / 256
  · rw [if_pos hk, show decide (e.val < t.val / 256) = true by simpa using hk]; rfl
  · rw [if_neg hk, show decide (e.val < t.val / 256) = false by simpa using hk]; rfl

omit h0 h1 in
/-- The positions of the sorted gates. -/
theorem indices_at (b : Fin 32) (h : Fin 8) (t : Fin 2048) (n : Fin 3) :
    val_main_indices x0 x1 (ix4 b h t n)
      = BitVec.ofNat 32 (sortedFrom (fun k k' => decide (val_main_v14 x0 x1 (ix4 b h t k') < val_main_v14 x0 x1 (ix4 b h t k))) (⟨n.val, by omega⟩ : Fin 8)).val :=
  topK_row _ b h t n _ rfl

/-- The blocks chosen for a query. -/
theorem v29_at (b : Fin 32) (h : Fin 8) (t : Fin 2048) (e : Fin 8) :
    val_main_v29 x0 x1 (ix4 b h t e) = 1#1 ↔ Chosen (gate r0 r1 b h t) (t.val / 256) e := by
  have h28 : ∀ n : Fin 3, val_main_v28 x0 x1 (ix5 b h t n e) = 1#1 ↔
      sortedFrom (fun k k' => decide (val_main_v14 x0 x1 (ix4 b h t k') < val_main_v14 x0 x1 (ix4 b h t k))) (⟨n.val, by omega⟩ : Fin 8) = e ∧ n.val < t.val / 256 := by
    intro n
    rw [val_main_v28_apply, val_main_v25_apply, val_main_v23_apply, val_main_v21_apply, val_main_v24_apply, val_main_v22_apply, val_main_v6_apply,
      val_main_v27_apply, val_main_v26_apply, val_main_v20_apply, val_main_v18_apply, val_main_v16_apply, val_main_v15_apply, val_main_v19_apply,
      val_main_v17_apply, show idx_main_v21 (idx_main_v23 (ix5 b h t n e)) = ix4 b h t n by funext a; fin_cases a <;> rfl,
      show idx_main_v17 (idx_main_v19 (idx_main_v26 (idx_main_v27 (ix5 b h t n e)))) = ix1 t by funext a; fin_cases a; rfl, v5_at, indices_at]
    generalize sortedFrom (fun k k' => decide (val_main_v14 x0 x1 (ix4 b h t k') < val_main_v14 x0 x1 (ix4 b h t k))) (⟨n.val, by omega⟩ : Fin 8) = s
    change IntOp.andi (IntOp.cmpi .eq (BitVec.ofNat 32 s.val) (BitVec.ofNat 32 e.val)) (IntOp.cmpi .slt (BitVec.ofNat 32 n.val) (BitVec.ofNat 32 (t.val / 256))) = 1#1 ↔ _
    rw [cmpi_slt_ofNat (by have := n.2; omega) (by have := t.2; omega)]
    generalize decide_eq : decide (n.val < t.val / 256) = d
    have hd : n.val < t.val / 256 ↔ d = true := by rw [← decide_eq]; simp
    rw [hd]
    clear hd decide_eq
    revert s e d; decide
  change Host.reduce IntOp.ori (val_main_v28 x0 x1) (val_main_c_2 (F := Ideal)) reducesTo_S32x8x2048x3x8_S32x8x2048x8_d3 h_S_ (ix4 b h t e) = 1#1 ↔ _
  rw [reduceOr_eq_one _ _ _ _ (fun _ => rfl : ∀ i, val_main_c_2 (F := Ideal) i = 0#1), ← chosen_iff (gate r0 r1 b h t) (t.val / 256) (fun a => val_main_v14 x0 x1 (ix4 b h t a))
    (v14_at x0 x1 r0 r1 h0 h1 b h t)]
  constructor
  · rintro ⟨i, hi, hx⟩
    have e' : i = ix5 b h t (i 3) e := by
      funext a
      fin_cases a
      · exact congrFun hi 0
      · exact congrFun hi 1
      · exact congrFun hi 2
      · rfl
      · exact congrFun hi 3
    rw [e'] at hx
    exact ⟨i 3, (h28 (i 3)).mp hx⟩
  · rintro ⟨n, hn⟩
    exact ⟨ix5 b h t n e, by funext a; fin_cases a <;> rfl, (h28 n).mpr hn⟩

/-- The keys seen by a query. -/
theorem v50_at (b : Fin 32) (h : Fin 8) (t k : Fin 2048) : val_main_v50 x0 x1 (ix4 b h t k) = 1#1 ↔ seen r0 r1 b h t k := by
  rw [val_main_v50_apply, val_main_v32_apply, val_main_v31_apply, val_main_v30_apply, val_main_v49_apply, val_main_v48_apply, val_main_v44_apply,
    val_main_v38_apply, val_main_v43_apply, val_main_v36_apply, val_main_v37_apply, val_main_v34_apply, val_main_v35_apply, val_main_v41_apply,
    val_main_v42_apply, val_main_v39_apply, val_main_v40_apply, val_main_v33_apply, val_main_v33_apply]
  have hb := b.2; have hh := h.2; have ht := t.2; have hk := k.2
  rw [show idx_main_v30 (idx_main_v31 (idx_main_v32 (ix4 b h t k))) = ix4 b h t ⟨k.val / 256, by omega⟩ from by
      funext a; refine Fin.ext ?_
      fin_cases a
      · show (((b.val * 8 + h.val) * 2048 + t.val) * 2048 + k.val) / 33554432 = b.val
        omega
      · show (((b.val * 8 + h.val) * 2048 + t.val) * 2048 + k.val) / 4194304 % 8 = h.val
        omega
      · show (((b.val * 8 + h.val) * 2048 + t.val) * 2048 + k.val) / 2048 % 2048 = t.val
        omega
      · show (((b.val * 8 + h.val) * 2048 + t.val) * 2048 + k.val) / 256 % 8 = k.val / 256
        omega,
    show idx_main_v34 (idx_main_v36 (idx_main_v48 (idx_main_v49 (ix4 b h t k)))) = ix1 t by funext a; fin_cases a; rfl,
    show idx_main_v35 (idx_main_v37 (idx_main_v48 (idx_main_v49 (ix4 b h t k)))) = ix1 k by funext a; fin_cases a; rfl, v5_at, v5_at]
  change IntOp.ori _ (IntOp.andi _ (IntOp.cmpi .sle (BitVec.ofNat 32 k.val) (BitVec.ofNat 32 t.val))) = 1#1 ↔ _
  have h29 := v29_at x0 x1 r0 r1 h0 h1 b h t ⟨k.val / 256, by omega⟩
  have hor : ∀ p q r : BitVec 1, IntOp.ori p (IntOp.andi q r) = 1#1 ↔ p = 1#1 ∨ (q = 1#1 ∧ r = 1#1) := by decide
  have heq : ∀ i j : Fin 8, IntOp.cmpi .eq (BitVec.ofNat 32 j.val) (BitVec.ofNat 32 i.val) = 1#1 ↔ i.val = j.val := by decide
  rw [hor, h29, heq ⟨k.val / 256, by omega⟩ ⟨t.val / 256, by omega⟩, cmpi_sle_ofNat (by omega) (by omega), seen]
  refine or_congr ⟨fun h => ⟨h.1, h⟩, fun h => h.2⟩ (and_congr Iff.rfl ?_)
  by_cases hkt : k ≤ t
  · rw [show decide (k.val ≤ t.val) = true by simpa using hkt]; simpa using hkt
  · rw [show decide (k.val ≤ t.val) = false by simpa using hkt]; simpa using hkt

end

end Cert.Attend

end
-- ==== Proof.Attn.Sparse.lean ====
/-
  The reference's sparse stream, one entry at a time: `attend` of the scores over the keys the query sees.
-/
module

public import proofs.«01_k».proof.Proof.Attn.Choice

@[expose] public section

set_option maxRecDepth 16384

noncomputable section

namespace Cert.Attend

open Idealize.ShloMosaic Idealize.ShloMosaic.WordCmp Cert.AttnRefIdeal Cert.AttnRefIdeal.Gen Cert.AttnRefIdeal.Read
open Classical

section

variable (x0 x1 x2 : (⟨S32x2048x8x64, .f32⟩ : BufTy).Contents (Elt Ideal)) (r0 r1 : S32x2048x8x64.Idx → ℝ)

/-- The sparse score of a query and a key. -/
def scoreA (b : Fin 32) (h : Fin 8) (t k : Fin 2048) : ℝ := (∑ i, r0 (ix4 b t h i) * r1 (ix4 b k h i)) * (1 / 8)

variable (h0 : ∀ j, x0 j = (r0 j : EReal)) (h1 : ∀ j, x1 j = (r1 j : EReal))
include h0 h1

/-- The scaled scores. -/
theorem v47_at (b : Fin 32) (h : Fin 8) (t k : Fin 2048) : val_main_v47 x0 x1 (ix4 b h t k) = (scoreA r0 r1 b h t k : EReal) := by
  rw [val_main_v47_apply, val_main_v46_apply, val_main_cst_3_apply,
    show (FloatOps.ofBits (F := Ideal) .f32 0x3E000000#32) = ((1 / 8 : ℝ) : EReal) from by
      change Ideal.ofBits .f32 0x3E000000#32 = _
      simp [Ideal.ofBits, Ideal.ieee]
      rw [← EReal.coe_mul]
      norm_num, val_main_v45_apply, scoreA, EReal.coe_mul, coe_sum]
  refine congrArg (· * ((1 / 8 : ℝ) : EReal)) (Finset.sum_congr rfl fun i _ => ?_)
  rw [h0, h1, EReal.coe_mul, show lidx_main_v45 (ix4 b h t k) i = ix4 b t h i by funext a; fin_cases a <;> rfl,
    show ridx_main_v45 (ix4 b h t k) i = ix4 b k h i by funext a; fin_cases a <;> rfl]

/-- The masked scores. -/
theorem v51_at (b : Fin 32) (h : Fin 8) (t k : Fin 2048) :
    val_main_v51 x0 x1 (ix4 b h t k) = if seen r0 r1 b h t k then (scoreA r0 r1 b h t k : EReal) else ⊥ := by
  rw [val_main_v51_apply, v47_at x0 x1 r0 r1 h0 h1, val_main_call2_v1_apply, val_main_call2_v0_apply, val_main_cst_4_apply, negInf_eq]
  have h50 := v50_at x0 x1 r0 r1 h0 h1 b h t k
  by_cases hk : seen r0 r1 b h t k
  · rw [if_pos hk, h50.mpr hk]; rfl
  · rw [if_neg hk, show val_main_v50 x0 x1 (ix4 b h t k) = 0#1 from by
      have hne := mt h50.mp hk
      generalize val_main_v50 x0 x1 (ix4 b h t k) = w at hne
      revert w; decide]
    rfl

/-- The stream's heads, before they are laid side by side. -/
theorem v63_at (b : Fin 32) (h : Fin 8) (d : Fin 64) (t : Fin 2048) :
    val_main_v63 x0 x1 x2 (ix4 b h d t) = attend (scoreA r0 r1 b h t) (seen r0 r1 b h t) fun k => x2 (ix4 b k h d) := by
  have hs := v51_at x0 x1 r0 r1 h0 h1
  set top : EReal := val_main_v54 x0 x1 (ix3 b h t) with htop
  have e54 : top = max ⊥ (val_main_v52 x0 x1 (ix3 b h t)) := by
    rw [htop, val_main_v54_apply, val_main_v53_apply, val_main_cst_6_apply, negInf_eq]; rfl
  have e52 : val_main_v52 x0 x1 (ix3 b h t) = Host.reduce (α := EReal) max (val_main_v51 x0 x1) (val_main_cst_5 (F := Ideal))
      reducesTo_S32x8x2048x2048_S32x8x2048_d3 h_S_ (ix3 b h t) := rfl
  have hinit : ∀ i, val_main_cst_5 (F := Ideal) i = (⊥ : EReal) := fun i => by rw [val_main_cst_5_apply, negInf_eq]
  have e58 : ∀ k, val_main_v58 x0 x1 (ix4 b h t k) = Ideal.exp (val_main_v51 x0 x1 (ix4 b h t k) - top) := fun k => by
    rw [val_main_v58_apply, val_main_v57_apply, val_main_v56_apply, val_main_v55_apply, htop,
      show idx_main_v55 (idx_main_v56 (ix4 b h t k)) = ix3 b h t by funext a; fin_cases a <;> rfl]
    rfl
  rw [val_main_v63_apply]
  rw [← attend_of_softmax (scoreA r0 r1 b h t) (seen r0 r1 b h t) (fun k => x2 (ix4 b k h d)) (Or.inr ⟨rfl, le_refl t⟩ : seen r0 r1 b h t t)
    (fun k => val_main_v51 x0 x1 (ix4 b h t k)) (hs b h t) top ?_ ?_ (fun k => val_main_v58 x0 x1 (ix4 b h t k)) e58]
  · refine Finset.sum_congr rfl fun k _ => ?_
    rw [show lidx_main_v63 (ix4 b h d t) k = ix4 b k h d by funext a; fin_cases a <;> rfl,
      show ridx_main_v63 (ix4 b h d t) k = ix4 b h t k by funext a; fin_cases a <;> rfl, val_main_v62_apply, val_main_v61_apply, val_main_v60_apply,
      show idx_main_v60 (idx_main_v61 (ix4 b h t k)) = ix3 b h t by funext a; fin_cases a <;> rfl, val_main_v59_apply, val_main_cst_7_apply, zero_eq, zero_add,
      show (fun q => val_main_v58 x0 x1 (idx_main_v59 (ix3 b h t) q)) = fun q => val_main_v58 x0 x1 (ix4 b h t q) from
        funext fun q => congrArg _ (by funext a; fin_cases a <;> rfl)]
    rfl
  · rw [e54, e52]
    refine max_lt bot_lt_top (reduceMax_lt_top _ _ _ _ hinit (fun i => ?_) _)
    obtain ⟨b', h', t', k', rfl⟩ : ∃ b' h' t' k', i = ix4 b' h' t' k' := ⟨i 0, i 1, i 2, i 3, by funext a; fin_cases a <;> rfl⟩
    rw [hs]
    split_ifs
    · exact EReal.coe_lt_top _
    · exact bot_lt_top
  · intro k
    rw [e54, e52, ← drop_row b h t k]
    exact le_max_of_le_right (le_reduceMax _ _ _ _ _)

/-- The stream as the program returns it. -/
theorem v95_at (b : Fin 32) (t : Fin 2048) (l : Fin 512) :
    val_main_v95 x0 x1 x2 (ix3 b t l) = attend (scoreA r0 r1 b ⟨l.val / 64, by omega⟩ t) (seen r0 r1 b ⟨l.val / 64, by omega⟩ t)
      fun k => x2 (ix4 b k ⟨l.val / 64, by omega⟩ ⟨l.val % 64, by omega⟩) := by
  rw [← v63_at x0 x1 x2 r0 r1 h0 h1, val_main_v95_apply, val_main_v65_apply, val_main_v64_apply]
  refine congrArg (val_main_v63 x0 x1 x2) (funext fun a => Fin.ext ?_)
  have hb := b.2; have ht := t.2; have hl := l.2
  fin_cases a
  · show ((b.val * 2048 + t.val) * 512 + l.val) / 1048576 = b.val
    omega
  · show ((b.val * 2048 + t.val) * 512 + l.val) / 64 % 8 = l.val / 64
    omega
  · show ((b.val * 2048 + t.val) * 512 + l.val) % 64 = l.val % 64
    omega
  · show ((b.val * 2048 + t.val) * 512 + l.val) / 512 % 2048 = t.val
    omega

end

end Cert.Attend

end
-- ==== Proof.Attn.Match.lean ====
/-
  The kernel's streams are the reference's: for two heads side by side, the scores over the lanes are the heads' scores, and since the queries' factor is
  positive the blocks of the largest gates are the same.
-/
module

public import proofs.«01_k».proof.Proof.Attn.Lanes
public import proofs.«01_k».proof.Proof.Attn.Stream
public import proofs.«01_k».proof.Proof.Attn.Sparse
public import proofs.«01_k».proof.Proof.Attn.Latent

@[expose] public section

set_option maxRecDepth 16384

noncomputable section

namespace Cert.Attend

open Idealize.ShloMosaic Cert.AttnRefIdeal Cert.AttnRefIdeal.Gen
open scoped BigOperators Classical

/-- Equal scores, equal choices and equal values attend alike. -/
theorem attend_eq {ι : Type*} [Fintype ι] {σ σ' : ι → ℝ} {M M' : ι → Prop} {iM : DecidablePred M} {iM' : DecidablePred M'} {v v' : ι → EReal}
    (hσ : ∀ k, σ k = σ' k) (hM : ∀ k, M k ↔ M' k) (hv : ∀ k, v k = v' k) : attend σ M v = attend σ' M' v' := by
  obtain rfl : σ = σ' := funext hσ
  obtain rfl : M = M' := funext fun k => propext (hM k)
  obtain rfl : v = v' := funext hv
  congr

/-- A positive factor changes no choice. -/
theorem chosen_scale {g g' : Fin 8 → ℝ} {s : ℝ} (hs : 0 < s) (h : ∀ b, g' b = g b * s) (w : ℕ) (b : Fin 8) : Chosen g' w b ↔ Chosen g w b := by
  unfold Chosen
  have e : ∀ a, (a.val < w ∧ (g' b < g' a ∨ (g' a = g' b ∧ a < b))) ↔ (a.val < w ∧ (g b < g a ∨ (g a = g b ∧ a < b))) := fun a => by
    rw [h a, h b, mul_lt_mul_iff_left₀ hs, mul_left_inj' hs.ne']
  simp only [e]

variable (b : Fin 32) (g : Fin 4)

/-- The entries of two heads side by side. -/
def pair (r : S32x2048x8x64.Idx → ℝ) (t : Fin 2048) (j : Fin 128) : ℝ := r (ix4 b t ⟨2 * g.val + j.val / 64, by omega⟩ ⟨j.val % 64, by omega⟩)

theorem pair_at (r : S32x2048x8x64.Idx → ℝ) (t : Fin 2048) (hh : Fin 2) (i : Fin 64) :
    pair b g r t ⟨hh.val * 64 + i.val, by omega⟩ = r (ix4 b t ⟨2 * g.val + hh.val, by omega⟩ i) := by
  have h1 : (hh.val * 64 + i.val) / 64 = hh.val := by omega
  have h2 : (hh.val * 64 + i.val) % 64 = i.val := by omega
  simp only [pair, h1, h2]

/-- The sparse stream's queries over the lanes, with their factor. -/
def queryA (r : S32x2048x8x64.Idx → ℝ) (t : Fin 2048) (l : Fin 128) : ℝ := pair b g r t (srcA l) * (1 / 8 / Real.log 2)

/-- The sparse stream's keys over the lanes. -/
def keyA (r : S32x2048x8x64.Idx → ℝ) (t : Fin 2048) (l : Fin 128) : ℝ := pair b g r t (srcA l)

theorem head_lt (l : Fin 128) : 2 * g.val + (laneHead l).val < 8 := by have := (laneHead l).2; omega

theorem log_two_pos : 0 < Real.log 2 := Real.log_pos (by norm_num)

theorem query_dot (r0 : S32x2048x8x64.Idx → ℝ) (t : Fin 2048) (y : Fin 128 → ℝ) (hh : Fin 2) :
    headDot LaneA hh (queryA b g r0 t) (fun l => y (srcA l))
      = (∑ i : Fin 64, r0 (ix4 b t ⟨2 * g.val + hh.val, by omega⟩ i) * y ⟨hh.val * 64 + i.val, by omega⟩) * (1 / 8 / Real.log 2) := by
  refine (headDot_sparse (fun j => pair b g r0 t j * (1 / 8 / Real.log 2)) y hh).trans ?_
  rw [Finset.sum_mul]
  refine Finset.sum_congr rfl fun i _ => ?_
  rw [pair_at]
  ring

/-- The kernel's sparse stream is the reference's. -/
theorem sparse_eq (r0 r1 : S32x2048x8x64.Idx → ℝ) (x : Fin 2048 → EReal) (v : Vec Ideal Cert.AttnIdeal.S1x2048x128 .bf16) (t : Fin 2048) (l : Fin 128) (h : Fin 8)
    (hh : h.val = 2 * g.val + l.val / 64) (hv : ∀ k, v (ix3 0 k l) = x k) :
    streamed LaneA (queryA b g r0) (keyA b g r1) (seenA (queryA b g r0) (keyA b g r1)) v t l
      = attend (scoreA r0 r1 b h t) (seen r0 r1 b h t) x := by
  obtain rfl : h = ⟨2 * g.val + (laneHead l).val, head_lt g l⟩ := Fin.ext hh
  unfold streamed
  refine attend_eq (fun k => ?_) (fun k => ?_) hv
  · rw [scoreA]
    refine (congrArg (· * Real.log 2) (query_dot b g r0 t (pair b g r1 k) (laneHead l))).trans ?_
    simp only [pair_at]
    rw [mul_assoc, div_mul_cancel₀ _ log_two_pos.ne']
  · have hg : ∀ n, headDot LaneA (laneHead l) (queryA b g r0 t) (meanR (keyA b g r1) n)
        = gate r0 r1 b ⟨2 * g.val + (laneHead l).val, head_lt g l⟩ t n * (1 / 8 / Real.log 2) := fun n => by
      refine (query_dot b g r0 t (fun j => (∑ k : Fin 256, pair b g r1 ⟨256 * n.val + k.val, by omega⟩ j) * (1 / 256)) (laneHead l)).trans ?_
      rw [gate]
      simp only [pair_at, meanK, mul_comm 256]
    unfold seenA seen
    exact or_congr (and_congr_right fun _ => chosen_scale (div_pos (by norm_num) log_two_pos) hg _ _) Iff.rfl

/-- A latent head's entries: its own part, the turned part, then nothing. -/
def wide (p : Fin 64 → ℝ) (w : Fin 32 → ℝ) (j : Fin 128) : ℝ :=
  if h : j.val < 64 then p ⟨j.val, h⟩ else if h' : j.val < 96 then w ⟨j.val - 64, by omega⟩ else 0

theorem wide_own (p : Fin 64 → ℝ) (w : Fin 32 → ℝ) (i : Fin 64) : wide p w ⟨i.val, by omega⟩ = p i := by
  rw [wide, dif_pos i.2]

theorem wide_turned (p : Fin 64 → ℝ) (w : Fin 32 → ℝ) (i : Fin 32) : wide p w ⟨64 + i.val, by omega⟩ = w i := by
  rw [wide, dif_neg (by show ¬ 64 + i.val < 64; omega), dif_pos (by show 64 + i.val < 96; omega)]
  exact congrArg w (Fin.ext (by show 64 + i.val - 64 = i.val; omega))

/-- The latent stream's queries over the lanes, with their factor. -/
def queryB (r3 : S32x2048x8x64.Idx → ℝ) (r4 : S32x2048x8x32.Idx → ℝ) (t : Fin 2048) : Fin 256 → ℝ :=
  laid fun hh j => wide (fun i => r3 (ix4 b t ⟨2 * g.val + hh.val, by omega⟩ i)) (fun i => r4 (ix4 b t ⟨2 * g.val + hh.val, by omega⟩ i)) j
    * (rateB / Real.log 2)

/-- The latent stream's keys over the lanes. -/
def keyB (r5 : S32x2048x8x64.Idx → ℝ) (r6 : S32x2048x32.Idx → ℝ) (t : Fin 2048) : Fin 256 → ℝ :=
  laid fun hh j => wide (fun i => r5 (ix4 b t ⟨2 * g.val + hh.val, by omega⟩ i)) (fun i => r6 (ix3 b t i)) j

/-- The kernel's latent stream is the reference's. -/
theorem latent_eq (r3 : S32x2048x8x64.Idx → ℝ) (r4 : S32x2048x8x32.Idx → ℝ) (r5 : S32x2048x8x64.Idx → ℝ) (r6 : S32x2048x32.Idx → ℝ)
    (x : Fin 2048 → EReal) (v : Vec Ideal Cert.AttnIdeal.S1x2048x128 .bf16) (t : Fin 2048) (l : Fin 128) (h : Fin 8)
    (hh : h.val = 2 * g.val + l.val / 64) (hv : ∀ k, v (ix3 0 k l) = x k) :
    streamed LaneB (queryB b g r3 r4) (keyB b g r5 r6) seenB v t l = attend (scoreB r3 r4 r5 r6 b h t) (fun k => k ≤ t) x := by
  obtain rfl : h = ⟨2 * g.val + (laneHead l).val, head_lt g l⟩ := Fin.ext hh
  unfold streamed
  refine attend_eq (fun k => ?_) (fun k => Iff.rfl) hv
  rw [queryB, keyB, headDot_latent, scoreB]
  simp only [wide_own, wide_turned]
  have e : rateB = rateB / Real.log 2 * Real.log 2 := (div_mul_cancel₀ _ log_two_pos.ne').symm
  rw [e]
  simp only [add_mul, Finset.sum_mul]
  rw [← e]
  refine congrArg₂ (· + ·) (Finset.sum_congr rfl fun i _ => ?_) (Finset.sum_congr rfl fun i _ => ?_)
  all_goals
    rw [mul_right_comm _ (rateB / Real.log 2), mul_assoc _ (rateB / Real.log 2), ← e]

end Cert.Attend

end
-- ==== Proof.Attn.Points.lean ====
/-
  The blocks a grid point reads and writes, and the queries and keys in them.
-/
module

public import proofs.«01_k».proof.Proof.Attn.Host
public import proofs.«01_k».proof.Proof.Attn.Match

@[expose] public section

set_option maxRecDepth 16384

noncomputable section

namespace Cert.Attend

open Idealize.ShloMosaic Idealize.ShloMosaic.TcCoe Idealize.SL.Sem Cert.AttnIdeal Cert.AttnIdeal.Gen
open Idealize.ShloMosaic.Pipeline (Dat)
open scoped BigOperators Classical

/-- The block of each window at a point: the batch is the quotient of the point by four, the pair of heads the remainder. -/
theorem idx : ∀ t : Fin cfg0.N, win0_0.index t = ![t.val / 4, 0, t.val % 4] ∧ win0_1.index t = ![t.val / 4, 0, t.val % 4]
    ∧ win0_2.index t = ![t.val / 4, 0, t.val % 4] ∧ win0_3.index t = ![t.val / 4, 0, t.val % 4] ∧ win0_4.index t = ![t.val / 4, 0, t.val % 4]
    ∧ win0_5.index t = ![t.val / 4, 0, t.val % 4] ∧ win0_6.index t = ![t.val / 4, 0, t.val % 4] ∧ win0_7.index t = ![t.val / 4, 0, t.val % 4] :=
  (by decide +kernel : ∀ t : Fin grid0.N, _)

variable (m : (ℓ : Loc nD τ sig) → Buf (Elt Ideal) ℓ) (c : Dev nD)

/-- The batch of a point. -/
def batch (t : Fin cfg0.N) : Fin 32 := ⟨t.val / 4, by have h : t.val < 128 := N_0 ▸ t.isLt; omega⟩

/-- The pair of heads of a point. -/
def duo (t : Fin cfg0.N) : Fin 4 := ⟨t.val % 4, by omega⟩

/-- A lane of a pair of heads, in the array of all heads. -/
def lane (t : Fin cfg0.N) (l : Fin 128) : Fin 512 := ⟨(duo t).val * 128 + l.val, by omega⟩

/-- The same for the wider lanes of the latent queries and keys. -/
def wideLane (t : Fin cfg0.N) (l : Fin 256) : Fin 1024 := ⟨(duo t).val * 256 + l.val, by omega⟩

section
variable (t : Fin cfg0.N) (k : Fin 2048) (l : Fin 128) (w : Fin 256)
theorem blk0 : iblk m c 0 t (ix3 0 k l) = V m c main_v16 (ix3 (batch t) k (lane t l)) := by
  blk_ext [iblk, idx t, batch, duo, lane]
theorem blk1 : iblk m c 1 t (ix3 0 k l) = V m c main_v25 (ix3 (batch t) k (lane t l)) := by
  blk_ext [iblk, idx t, batch, duo, lane]
theorem blk2 : iblk m c 2 t (ix3 0 k l) = V m c main_v59 (ix3 (batch t) k (lane t l)) := by
  blk_ext [iblk, idx t, batch, duo, lane]
theorem blk3 : iblk m c 3 t (ix3 0 k w) = V m c main_v42 (ix3 (batch t) k (wideLane t w)) := by
  blk_ext [iblk, idx t, batch, duo, wideLane]
theorem blk4 : iblk m c 4 t (ix3 0 k w) = V m c main_v57 (ix3 (batch t) k (wideLane t w)) := by
  blk_ext [iblk, idx t, batch, duo, wideLane]
theorem blk5 : iblk m c 5 t (ix3 0 k l) = V m c main_v61 (ix3 (batch t) k (lane t l)) := by
  blk_ext [iblk, idx t, batch, duo, lane]
theorem blk6 (z : Fin 1) : ((cfg0.win 6).blk t).view.emb (ix3 z k l) = ix3 (batch t) k (lane t l) := by
  blk_ext [idx t, batch, duo, lane]
theorem blk7 (z : Fin 1) : ((cfg0.win 7).blk t).view.emb (ix3 z k l) = ix3 (batch t) k (lane t l) := by
  blk_ext [idx t, batch, duo, lane]
end

/-- The place a sparse lane reads, split into the head and the entry. -/
theorem placeA_lane (t : Fin cfg0.N) (l : Fin 128) : (placeA (lane t l)).val / 64 = 2 * (duo t).val + (srcA l).val / 64
    ∧ (placeA (lane t l)).val % 64 = (srcA l).val % 64 := by
  have h1 : (lane t l).val % 128 = l.val := by show ((duo t).val * 128 + l.val) % 128 = _; omega
  have h2 : (lane t l).val / 128 = (duo t).val := by show ((duo t).val * 128 + l.val) / 128 = _; omega
  have h3 : (placeA (lane t l)).val = (duo t).val * 128 + (srcA l).val := by
    simp only [placeA, h1, h2, Fin.eta]
  rw [h3]
  omega

section
variable (r0 r1 : Cert.AttnRefIdeal.S32x2048x8x64.Idx → ℝ) (h0 : ∀ j, argQ m c j = (r0 j : EReal)) (h1 : ∀ j, argK m c j = (r1 j : EReal))
include h0 in
theorem query_at (t : Fin cfg0.N) (k : Fin 2048) (l : Fin 128) : iblk m c 0 t (ix3 0 k l) = (queryA (batch t) (duo t) r0 k l : EReal) := by
  refine (blk0 m c t k l).trans ((v16_at m c _ _ _).trans ?_)
  rw [h0, ← EReal.coe_mul, queryA, pair]
  simp only [placeA_lane]

include h1 in
theorem key_at (t : Fin cfg0.N) (k : Fin 2048) (l : Fin 128) : iblk m c 1 t (ix3 0 k l) = (keyA (batch t) (duo t) r1 k l : EReal) := by
  refine (blk1 m c t k l).trans ((v25_at m c _ _ _).trans ?_)
  rw [h1, keyA, pair]
  simp only [placeA_lane]

end

/-- A latent lane's head and entry, in the array of all heads. -/
theorem wideLane_at (t : Fin cfg0.N) (l : Fin 256) : (wideLane t l).val / 128 = 2 * (duo t).val + l.val / 128 ∧ (wideLane t l).val % 128 = l.val % 128 := by
  have h : (wideLane t l).val = (duo t).val * 256 + l.val := rfl
  rw [h]
  omega

section
variable (r3 r5 : Cert.AttnRefIdeal.S32x2048x8x64.Idx → ℝ) (r4 : Cert.AttnRefIdeal.S32x2048x8x32.Idx → ℝ) (r6 : Cert.AttnRefIdeal.S32x2048x32.Idx → ℝ)
  (h3 : ∀ j, argQN m c j = (r3 j : EReal)) (h4 : ∀ j, argQR m c j = (r4 j : EReal))
  (h5 : ∀ j, argKN m c j = (r5 j : EReal)) (h6 : ∀ j, argKR m c j = (r6 j : EReal))
include h3 h4 in
theorem queryB_at (t : Fin cfg0.N) (k : Fin 2048) (l : Fin 256) : iblk m c 3 t (ix3 0 k l) = (queryB (batch t) (duo t) r3 r4 k l : EReal) := by
  refine (blk3 m c t k l).trans ((v42_at m c _ _ _).trans ?_)
  simp only [h3, h4, wideLane_at, queryB, laid, wide, rateB]
  by_cases hl : l.val % 128 < 96
  · have hb := (srcB_lt ⟨l.val % 128, by omega⟩).2 hl
    rw [dif_pos hl, if_pos hl, EReal.coe_mul]
    by_cases hw : (srcB ⟨l.val % 128, by omega⟩).val < 64
    · rw [dif_pos hw, dif_pos hw]
    · rw [dif_neg hw, dif_neg hw, dif_pos hb]
  · rw [dif_neg hl, if_neg hl, EReal.coe_zero]

include h5 h6 in
theorem keyB_at (t : Fin cfg0.N) (k : Fin 2048) (l : Fin 256) : iblk m c 4 t (ix3 0 k l) = (keyB (batch t) (duo t) r5 r6 k l : EReal) := by
  refine (blk4 m c t k l).trans ((v57_at m c _ _ _).trans ?_)
  simp only [h5, h6, wideLane_at, keyB, laid, wide]
  by_cases hl : l.val % 128 < 96
  · have hb := (srcB_lt ⟨l.val % 128, by omega⟩).2 hl
    rw [dif_pos hl, if_pos hl]
    by_cases hw : (srcB ⟨l.val % 128, by omega⟩).val < 64
    · rw [dif_pos hw, dif_pos hw]
    · rw [dif_neg hw, dif_neg hw, dif_pos hb]
  · rw [dif_neg hl, if_neg hl, EReal.coe_zero]

end

end Cert.Attend

end
-- ==== Proof.Attn.Reads.lean ====
/-
  The products of a tile, from the buffers of values and of weights: the sums of the products over the keys.
-/
module

public import proofs.«01_k».proof.Proof.Attn.Out

@[expose] public section

set_option maxRecDepth 16384

noncomputable section

namespace Cert.Attend

open Idealize.ShloMosaic Idealize.ShloMosaic.TcCoe Idealize.SL.Sem Cert.AttnIdeal Cert.AttnIdeal.Gen
open scoped BigOperators

/-- A tile over 256 keys. -/
theorem acc256_read {v : View sig Kind.tc Space.vmem S2x80x2048 .bf16} {u : View sig Kind.tc Space.vmem S3x2048x512 .bf16}
    (L : List (View.Piece (Elt Ideal) S2x80x2048 .bf16)) (K : List (View.Piece (Elt Ideal) S3x2048x512 .bf16)) (p : Fin 3) (hh : Fin 2)
    (hL : ∀ a, (![hh.val, 0, 0] : Fin 3 → ℕ) a + (⟨3, ![1, 80, 256]⟩ : Shape).size a ≤ S2x80x2048.size a)
    (hK : ∀ a, (![p.val, 0, 256 * hh.val] : Fin 3 → ℕ) a + (⟨3, ![1, 256, 256]⟩ : Shape).size a ≤ S3x2048x512.size a) (i : Fin 80) (q : Fin 256) :
    acc256 (v.readCov L (Rect.unit (s := S2x80x2048) ![hh.val, 0, 0] (Shape.size ⟨3, ![1, 80, 256]⟩) hL).toLoadRect)
        (u.readCov K (Rect.unit (s := S3x2048x512) ![p.val, 0, 256 * hh.val] (Shape.size ⟨3, ![1, 256, 256]⟩) hK).toLoadRect) (ix2 i q)
      = ∑ k : Fin 256, View.canon L (ix3 hh i (Fin.castLE (by decide : 256 ≤ 2048) k))
          * View.canon K (ix3 p (Fin.castLE (by decide : 256 ≤ 2048) k) ⟨256 * hh.val + q.val, by omega⟩) :=
  (acc256_apply _ _ i q).trans (Finset.sum_congr rfl fun k _ =>
    congrArg₂ (· * ·) (readCov_vt (by decide) v L hh hL 0 i k) (readCov_p (by decide) u K p hh hK 0 k q))

/-- A tile over 512 keys. -/
theorem acc512_read {v : View sig Kind.tc Space.vmem S2x80x2048 .bf16} {u : View sig Kind.tc Space.vmem S3x2048x512 .bf16}
    (L : List (View.Piece (Elt Ideal) S2x80x2048 .bf16)) (K : List (View.Piece (Elt Ideal) S3x2048x512 .bf16)) (p : Fin 3) (hh : Fin 2)
    (hL : ∀ a, (![hh.val, 0, 0] : Fin 3 → ℕ) a + (⟨3, ![1, 80, 512]⟩ : Shape).size a ≤ S2x80x2048.size a)
    (hK : ∀ a, (![p.val, 0, 256 * hh.val] : Fin 3 → ℕ) a + (⟨3, ![1, 512, 256]⟩ : Shape).size a ≤ S3x2048x512.size a) (i : Fin 80) (q : Fin 256) :
    acc512 (v.readCov L (Rect.unit (s := S2x80x2048) ![hh.val, 0, 0] (Shape.size ⟨3, ![1, 80, 512]⟩) hL).toLoadRect)
        (u.readCov K (Rect.unit (s := S3x2048x512) ![p.val, 0, 256 * hh.val] (Shape.size ⟨3, ![1, 512, 256]⟩) hK).toLoadRect) (ix2 i q)
      = ∑ k : Fin 512, View.canon L (ix3 hh i (Fin.castLE (by decide : 512 ≤ 2048) k))
          * View.canon K (ix3 p (Fin.castLE (by decide : 512 ≤ 2048) k) ⟨256 * hh.val + q.val, by omega⟩) :=
  (acc512_apply _ _ i q).trans (Finset.sum_congr rfl fun k _ =>
    congrArg₂ (· * ·) (readCov_vt (by decide) v L hh hL 0 i k) (readCov_p (by decide) u K p hh hK 0 k q))

/-- A tile over 768 keys. -/
theorem acc768_read {v : View sig Kind.tc Space.vmem S2x80x2048 .bf16} {u : View sig Kind.tc Space.vmem S3x2048x512 .bf16}
    (L : List (View.Piece (Elt Ideal) S2x80x2048 .bf16)) (K : List (View.Piece (Elt Ideal) S3x2048x512 .bf16)) (p : Fin 3) (hh : Fin 2)
    (hL : ∀ a, (![hh.val, 0, 0] : Fin 3 → ℕ) a + (⟨3, ![1, 80, 768]⟩ : Shape).size a ≤ S2x80x2048.size a)
    (hK : ∀ a, (![p.val, 0, 256 * hh.val] : Fin 3 → ℕ) a + (⟨3, ![1, 768, 256]⟩ : Shape).size a ≤ S3x2048x512.size a) (i : Fin 80) (q : Fin 256) :
    acc768 (v.readCov L (Rect.unit (s := S2x80x2048) ![hh.val, 0, 0] (Shape.size ⟨3, ![1, 80, 768]⟩) hL).toLoadRect)
        (u.readCov K (Rect.unit (s := S3x2048x512) ![p.val, 0, 256 * hh.val] (Shape.size ⟨3, ![1, 768, 256]⟩) hK).toLoadRect) (ix2 i q)
      = ∑ k : Fin 768, View.canon L (ix3 hh i (Fin.castLE (by decide : 768 ≤ 2048) k))
          * View.canon K (ix3 p (Fin.castLE (by decide : 768 ≤ 2048) k) ⟨256 * hh.val + q.val, by omega⟩) :=
  (acc768_apply _ _ i q).trans (Finset.sum_congr rfl fun k _ =>
    congrArg₂ (· * ·) (readCov_vt (by decide) v L hh hL 0 i k) (readCov_p (by decide) u K p hh hK 0 k q))

/-- A tile over 1024 keys. -/
theorem acc1024_read {v : View sig Kind.tc Space.vmem S2x80x2048 .bf16} {u : View sig Kind.tc Space.vmem S3x2048x512 .bf16}
    (L : List (View.Piece (Elt Ideal) S2x80x2048 .bf16)) (K : List (View.Piece (Elt Ideal) S3x2048x512 .bf16)) (p : Fin 3) (hh : Fin 2)
    (hL : ∀ a, (![hh.val, 0, 0] : Fin 3 → ℕ) a + (⟨3, ![1, 80, 1024]⟩ : Shape).size a ≤ S2x80x2048.size a)
    (hK : ∀ a, (![p.val, 0, 256 * hh.val] : Fin 3 → ℕ) a + (⟨3, ![1, 1024, 256]⟩ : Shape).size a ≤ S3x2048x512.size a) (i : Fin 80) (q : Fin 256) :
    acc1024 (v.readCov L (Rect.unit (s := S2x80x2048) ![hh.val, 0, 0] (Shape.size ⟨3, ![1, 80, 1024]⟩) hL).toLoadRect)
        (u.readCov K (Rect.unit (s := S3x2048x512) ![p.val, 0, 256 * hh.val] (Shape.size ⟨3, ![1, 1024, 256]⟩) hK).toLoadRect) (ix2 i q)
      = ∑ k : Fin 1024, View.canon L (ix3 hh i (Fin.castLE (by decide : 1024 ≤ 2048) k))
          * View.canon K (ix3 p (Fin.castLE (by decide : 1024 ≤ 2048) k) ⟨256 * hh.val + q.val, by omega⟩) :=
  (acc1024_apply _ _ i q).trans (Finset.sum_congr rfl fun k _ =>
    congrArg₂ (· * ·) (readCov_vt (by decide) v L hh hL 0 i k) (readCov_p (by decide) u K p hh hK 0 k q))

/-- A tile over 1280 keys. -/
theorem acc1280_read {v : View sig Kind.tc Space.vmem S2x80x2048 .bf16} {u : View sig Kind.tc Space.vmem S3x2048x512 .bf16}
    (L : List (View.Piece (Elt Ideal) S2x80x2048 .bf16)) (K : List (View.Piece (Elt Ideal) S3x2048x512 .bf16)) (p : Fin 3) (hh : Fin 2)
    (hL : ∀ a, (![hh.val, 0, 0] : Fin 3 → ℕ) a + (⟨3, ![1, 80, 1280]⟩ : Shape).size a ≤ S2x80x2048.size a)
    (hK : ∀ a, (![p.val, 0, 256 * hh.val] : Fin 3 → ℕ) a + (⟨3, ![1, 1280, 256]⟩ : Shape).size a ≤ S3x2048x512.size a) (i : Fin 80) (q : Fin 256) :
    acc1280 (v.readCov L (Rect.unit (s := S2x80x2048) ![hh.val, 0, 0] (Shape.size ⟨3, ![1, 80, 1280]⟩) hL).toLoadRect)
        (u.readCov K (Rect.unit (s := S3x2048x512) ![p.val, 0, 256 * hh.val] (Shape.size ⟨3, ![1, 1280, 256]⟩) hK).toLoadRect) (ix2 i q)
      = ∑ k : Fin 1280, View.canon L (ix3 hh i (Fin.castLE (by decide : 1280 ≤ 2048) k))
          * View.canon K (ix3 p (Fin.castLE (by decide : 1280 ≤ 2048) k) ⟨256 * hh.val + q.val, by omega⟩) :=
  (acc1280_apply _ _ i q).trans (Finset.sum_congr rfl fun k _ =>
    congrArg₂ (· * ·) (readCov_vt (by decide) v L hh hL 0 i k) (readCov_p (by decide) u K p hh hK 0 k q))

/-- A tile over 1536 keys. -/
theorem acc1536_read {v : View sig Kind.tc Space.vmem S2x80x2048 .bf16} {u : View sig Kind.tc Space.vmem S3x2048x512 .bf16}
    (L : List (View.Piece (Elt Ideal) S2x80x2048 .bf16)) (K : List (View.Piece (Elt Ideal) S3x2048x512 .bf16)) (p : Fin 3) (hh : Fin 2)
    (hL : ∀ a, (![hh.val, 0, 0] : Fin 3 → ℕ) a + (⟨3, ![1, 80, 1536]⟩ : Shape).size a ≤ S2x80x2048.size a)
    (hK : ∀ a, (![p.val, 0, 256 * hh.val] : Fin 3 → ℕ) a + (⟨3, ![1, 1536, 256]⟩ : Shape).size a ≤ S3x2048x512.size a) (i : Fin 80) (q : Fin 256) :
    acc1536 (v.readCov L (Rect.unit (s := S2x80x2048) ![hh.val, 0, 0] (Shape.size ⟨3, ![1, 80, 1536]⟩) hL).toLoadRect)
        (u.readCov K (Rect.unit (s := S3x2048x512) ![p.val, 0, 256 * hh.val] (Shape.size ⟨3, ![1, 1536, 256]⟩) hK).toLoadRect) (ix2 i q)
      = ∑ k : Fin 1536, View.canon L (ix3 hh i (Fin.castLE (by decide : 1536 ≤ 2048) k))
          * View.canon K (ix3 p (Fin.castLE (by decide : 1536 ≤ 2048) k) ⟨256 * hh.val + q.val, by omega⟩) :=
  (acc1536_apply _ _ i q).trans (Finset.sum_congr rfl fun k _ =>
    congrArg₂ (· * ·) (readCov_vt (by decide) v L hh hL 0 i k) (readCov_p (by decide) u K p hh hK 0 k q))

/-- A tile over 1792 keys. -/
theorem acc1792_read {v : View sig Kind.tc Space.vmem S2x80x2048 .bf16} {u : View sig Kind.tc Space.vmem S3x2048x512 .bf16}
    (L : List (View.Piece (Elt Ideal) S2x80x2048 .bf16)) (K : List (View.Piece (Elt Ideal) S3x2048x512 .bf16)) (p : Fin 3) (hh : Fin 2)
    (hL : ∀ a, (![hh.val, 0, 0] : Fin 3 → ℕ) a + (⟨3, ![1, 80, 1792]⟩ : Shape).size a ≤ S2x80x2048.size a)
    (hK : ∀ a, (![p.val, 0, 256 * hh.val] : Fin 3 → ℕ) a + (⟨3, ![1, 1792, 256]⟩ : Shape).size a ≤ S3x2048x512.size a) (i : Fin 80) (q : Fin 256) :
    acc1792 (v.readCov L (Rect.unit (s := S2x80x2048) ![hh.val, 0, 0] (Shape.size ⟨3, ![1, 80, 1792]⟩) hL).toLoadRect)
        (u.readCov K (Rect.unit (s := S3x2048x512) ![p.val, 0, 256 * hh.val] (Shape.size ⟨3, ![1, 1792, 256]⟩) hK).toLoadRect) (ix2 i q)
      = ∑ k : Fin 1792, View.canon L (ix3 hh i (Fin.castLE (by decide : 1792 ≤ 2048) k))
          * View.canon K (ix3 p (Fin.castLE (by decide : 1792 ≤ 2048) k) ⟨256 * hh.val + q.val, by omega⟩) :=
  (acc1792_apply _ _ i q).trans (Finset.sum_congr rfl fun k _ =>
    congrArg₂ (· * ·) (readCov_vt (by decide) v L hh hL 0 i k) (readCov_p (by decide) u K p hh hK 0 k q))

/-- A tile over 2048 keys. -/
theorem acc2048_read {v : View sig Kind.tc Space.vmem S2x80x2048 .bf16} {u : View sig Kind.tc Space.vmem S3x2048x512 .bf16}
    (L : List (View.Piece (Elt Ideal) S2x80x2048 .bf16)) (K : List (View.Piece (Elt Ideal) S3x2048x512 .bf16)) (p : Fin 3) (hh : Fin 2)
    (hL : ∀ a, (![hh.val, 0, 0] : Fin 3 → ℕ) a + (⟨3, ![1, 80, 2048]⟩ : Shape).size a ≤ S2x80x2048.size a)
    (hK : ∀ a, (![p.val, 0, 256 * hh.val] : Fin 3 → ℕ) a + (⟨3, ![1, 2048, 256]⟩ : Shape).size a ≤ S3x2048x512.size a) (i : Fin 80) (q : Fin 256) :
    acc2048 (v.readCov L (Rect.unit (s := S2x80x2048) ![hh.val, 0, 0] (Shape.size ⟨3, ![1, 80, 2048]⟩) hL).toLoadRect)
        (u.readCov K (Rect.unit (s := S3x2048x512) ![p.val, 0, 256 * hh.val] (Shape.size ⟨3, ![1, 2048, 256]⟩) hK).toLoadRect) (ix2 i q)
      = ∑ k : Fin 2048, View.canon L (ix3 hh i (Fin.castLE (by decide : 2048 ≤ 2048) k))
          * View.canon K (ix3 p (Fin.castLE (by decide : 2048 ≤ 2048) k) ⟨256 * hh.val + q.val, by omega⟩) :=
  (acc2048_apply _ _ i q).trans (Finset.sum_congr rfl fun k _ =>
    congrArg₂ (· * ·) (readCov_vt (by decide) v L hh hL 0 i k) (readCov_p (by decide) u K p hh hK 0 k q))

end Cert.Attend
-- ==== Proof.Attn.WeightsA.lean ====
module

public import proofs.«01_k».proof.Proof.Attn.Tile
public import proofs.«01_k».proof.Proof.Gen.AttnIdeal.Frame

@[expose] public section

/-!
The weights a tile of queries keeps of its keys: the block-sparse (MoBA) stream, one theorem for each of the eight tiles.
-/

set_option maxRecDepth 16384

noncomputable section

namespace Cert.Attend

open Idealize.ShloMosaic Idealize.ShloMosaic.TcCoe Idealize.SL.Sem Cert.AttnIdeal Cert.AttnIdeal.Gen
open scoped BigOperators
open Cert.AttnIdeal.Gen.kernelRun0_A.sl

variable (c : Dev nD) (a2 : Memref sig .tc .vmem S1x2048x128 .bf16) (h2 : a2.IsWhole)
  (a3 : Memref sig .tc .vmem S1x2048x128 .bf16) (h3 : a3.IsWhole) (a10 : Memref sig .tc .vmem S2064x128 .bf16)
  (x0 x1 : Vec Ideal S1x2048x128 .bf16)

/-- The weights of tile 0. -/
theorem weightsA0 {σ : Fin 2048 → Fin 512 → ℝ} (hs : IsScores 16 272 (r_1 c a2 h2 a3 h3 a10 x0 x1) σ) :
    Weights 0 256 (HS2_24 c a2 h2 a3 h3 a10 x0 x1) σ (Seen (keepGate 0#32 (gateOf (r_1 c a2 h2 a3 h3 a10 x0 x1) slices_S272x512_o0_0_S8x512 slices_S272x512_o8_0_S8x512)) 0) := by
  have hj : (0 : ℕ) < 8 := by norm_num
  obtain ⟨μ, hμ⟩ := rowMax_reals (off := 0) hs slices_S272x512_o16_0_S256x512 (by norm_num) (by norm_num) (keepGate 0#32 (gateOf (r_1 c a2 h2 a3 h3 a10 x0 x1) slices_S272x512_o0_0_S8x512 slices_S272x512_o8_0_S8x512)) (below_mask S8x512)
  refine weights_of μ fun k q hk => ?_
  refine canon_skip (buf := 1) (by decide) ?_
  refine canon_skip (buf := 1) (by decide) ?_
  refine canon_block (buf := 0) (off := 0) _ rfl (own hs hμ (seen_own (j := 0)) (by norm_num) (hsl := slices_S272x512_o16_0_S256x512) rfl rfl) (fun k q hk => ?_) k q hk
  exact absurd hk (Nat.not_lt_zero _)

/-- The weights of tile 1. -/
theorem weightsA1 {σ : Fin 2048 → Fin 512 → ℝ} (hs : IsScores 16 528 (r_3 c a2 h2 a3 h3 a10 x0 x1) σ) (hb : Below (r_3 c a2 h2 a3 h3 a10 x0 x1)) :
    Weights 1 512 (HS2_48 c a2 h2 a3 h3 a10 x0 x1) σ (Seen (keepGate 1#32 (gateOf (r_3 c a2 h2 a3 h3 a10 x0 x1) slices_S528x512_o0_0_S8x512 slices_S528x512_o8_0_S8x512)) 1) := by
  have hj : (1 : ℕ) < 8 := by norm_num
  obtain ⟨μ, hμ⟩ := rowMax_reals (off := 256) hs slices_S528x512_o272_0_S256x512 (by norm_num) (by norm_num) (keepGate 1#32 (gateOf (r_3 c a2 h2 a3 h3 a10 x0 x1) slices_S528x512_o0_0_S8x512 slices_S528x512_o8_0_S8x512)) (below_maxStep (n := 0#32) (below_slice slices_S528x512_o16_0_S256x512 hb) (below_mask S8x512))
  refine weights_of μ fun k q hk => ?_
  refine canon_skip (buf := 2) (by decide) ?_
  refine canon_skip (buf := 2) (by decide) ?_
  refine canon_skip (buf := 2) (by decide) ?_
  refine canon_block (buf := 1) (off := 256) _ rfl (own hs hμ (seen_own (j := 1)) (by norm_num) (hsl := slices_S528x512_o272_0_S256x512) rfl rfl) (fun k q hk => ?_) k q hk
  refine canon_block (buf := 1) (off := 0) _ rfl (past hs hμ (n := 0) (by decide) (seen_past (n := 0) (by decide) hj) (by norm_num)
    (hsl := slices_S528x512_o16_0_S256x512) (hn := slices_S8x512_o0_0_S1x512) rfl rfl) (fun k q hk => ?_) k q hk
  exact absurd hk (Nat.not_lt_zero _)

/-- The weights of tile 2. -/
theorem weightsA2 {σ : Fin 2048 → Fin 512 → ℝ} (hs : IsScores 16 784 (r_8 c a2 h2 a3 h3 a10 x0 x1) σ) (hb : Below (r_8 c a2 h2 a3 h3 a10 x0 x1)) :
    Weights 2 768 (HS2_80 c a2 h2 a3 h3 a10 x0 x1) σ (Seen (keepGate 2#32 (gateOf (r_8 c a2 h2 a3 h3 a10 x0 x1) slices_S784x512_o0_0_S8x512 slices_S784x512_o8_0_S8x512)) 2) := by
  have hj : (2 : ℕ) < 8 := by norm_num
  obtain ⟨μ, hμ⟩ := rowMax_reals (off := 512) hs slices_S784x512_o528_0_S256x512 (by norm_num) (by norm_num) (keepGate 2#32 (gateOf (r_8 c a2 h2 a3 h3 a10 x0 x1) slices_S784x512_o0_0_S8x512 slices_S784x512_o8_0_S8x512)) (below_maxStep (n := 1#32) (below_slice slices_S784x512_o272_0_S256x512 hb) (below_maxStep (n := 0#32) (below_slice slices_S784x512_o16_0_S256x512 hb) (below_mask S8x512)))
  refine weights_of μ fun k q hk => ?_
  refine canon_skip (buf := 0) (by decide) ?_
  refine canon_skip (buf := 0) (by decide) ?_
  refine canon_skip (buf := 0) (by decide) ?_
  refine canon_skip (buf := 0) (by decide) ?_
  refine canon_block (buf := 2) (off := 512) _ rfl (own hs hμ (seen_own (j := 2)) (by norm_num) (hsl := slices_S784x512_o528_0_S256x512) rfl rfl) (fun k q hk => ?_) k q hk
  refine canon_block (buf := 2) (off := 256) _ rfl (past hs hμ (n := 1) (by decide) (seen_past (n := 1) (by decide) hj) (by norm_num)
    (hsl := slices_S784x512_o272_0_S256x512) (hn := slices_S8x512_o1_0_S1x512) rfl rfl) (fun k q hk => ?_) k q hk
  refine canon_block (buf := 2) (off := 0) _ rfl (past hs hμ (n := 0) (by decide) (seen_past (n := 0) (by decide) hj) (by norm_num)
    (hsl := slices_S784x512_o16_0_S256x512) (hn := slices_S8x512_o0_0_S1x512) rfl rfl) (fun k q hk => ?_) k q hk
  exact absurd hk (Nat.not_lt_zero _)

/-- The weights of tile 3. -/
theorem weightsA3 {σ : Fin 2048 → Fin 512 → ℝ} (hs : IsScores 16 1040 (r_15 c a2 h2 a3 h3 a10 x0 x1) σ) (hb : Below (r_15 c a2 h2 a3 h3 a10 x0 x1)) :
    Weights 0 1024 (HS2_120 c a2 h2 a3 h3 a10 x0 x1) σ (Seen (keepGate 3#32 (gateOf (r_15 c a2 h2 a3 h3 a10 x0 x1) slices_S1040x512_o0_0_S8x512 slices_S1040x512_o8_0_S8x512)) 3) := by
  have hj : (3 : ℕ) < 8 := by norm_num
  obtain ⟨μ, hμ⟩ := rowMax_reals (off := 768) hs slices_S1040x512_o784_0_S256x512 (by norm_num) (by norm_num) (keepGate 3#32 (gateOf (r_15 c a2 h2 a3 h3 a10 x0 x1) slices_S1040x512_o0_0_S8x512 slices_S1040x512_o8_0_S8x512)) (below_maxStep (n := 2#32) (below_slice slices_S1040x512_o528_0_S256x512 hb) (below_maxStep (n := 1#32) (below_slice slices_S1040x512_o272_0_S256x512 hb) (below_maxStep (n := 0#32) (below_slice slices_S1040x512_o16_0_S256x512 hb) (below_mask S8x512))))
  refine weights_of μ fun k q hk => ?_
  refine canon_skip (buf := 1) (by decide) ?_
  refine canon_skip (buf := 1) (by decide) ?_
  refine canon_skip (buf := 1) (by decide) ?_
  refine canon_skip (buf := 1) (by decide) ?_
  refine canon_skip (buf := 1) (by decide) ?_
  refine canon_block (buf := 0) (off := 768) _ rfl (own hs hμ (seen_own (j := 3)) (by norm_num) (hsl := slices_S1040x512_o784_0_S256x512) rfl rfl) (fun k q hk => ?_) k q hk
  refine canon_block (buf := 0) (off := 512) _ rfl (past hs hμ (n := 2) (by decide) (seen_past (n := 2) (by decide) hj) (by norm_num)
    (hsl := slices_S1040x512_o528_0_S256x512) (hn := slices_S8x512_o2_0_S1x512) rfl rfl) (fun k q hk => ?_) k q hk
  refine canon_block (buf := 0) (off := 256) _ rfl (past hs hμ (n := 1) (by decide) (seen_past (n := 1) (by decide) hj) (by norm_num)
    (hsl := slices_S1040x512_o272_0_S256x512) (hn := slices_S8x512_o1_0_S1x512) rfl rfl) (fun k q hk => ?_) k q hk
  refine canon_block (buf := 0) (off := 0) _ rfl (past hs hμ (n := 0) (by decide) (seen_past (n := 0) (by decide) hj) (by norm_num)
    (hsl := slices_S1040x512_o16_0_S256x512) (hn := slices_S8x512_o0_0_S1x512) rfl rfl) (fun k q hk => ?_) k q hk
  exact absurd hk (Nat.not_lt_zero _)

/-- The weights of tile 4. -/
theorem weightsA4 {σ : Fin 2048 → Fin 512 → ℝ} (hs : IsScores 16 1296 (r_20 c a2 h2 a3 h3 a10 x0 x1) σ) (hb : Below (r_20 c a2 h2 a3 h3 a10 x0 x1)) :
    Weights 1 1280 (HS2_168 c a2 h2 a3 h3 a10 x0 x1) σ (Seen (keepGate 4#32 (gateOf (r_20 c a2 h2 a3 h3 a10 x0 x1) slices_S1296x512_o0_0_S8x512 slices_S1296x512_o8_0_S8x512)) 4) := by
  have hj : (4 : ℕ) < 8 := by norm_num
  obtain ⟨μ, hμ⟩ := rowMax_reals (off := 1024) hs slices_S1296x512_o1040_0_S256x512 (by norm_num) (by norm_num) (keepGate 4#32 (gateOf (r_20 c a2 h2 a3 h3 a10 x0 x1) slices_S1296x512_o0_0_S8x512 slices_S1296x512_o8_0_S8x512)) (below_maxStep (n := 3#32) (below_slice slices_S1296x512_o784_0_S256x512 hb) (below_maxStep (n := 2#32) (below_slice slices_S1296x512_o528_0_S256x512 hb) (below_maxStep (n := 1#32) (below_slice slices_S1296x512_o272_0_S256x512 hb) (below_maxStep (n := 0#32) (below_slice slices_S1296x512_o16_0_S256x512 hb) (below_mask S8x512)))))
  refine weights_of μ fun k q hk => ?_
  refine canon_skip (buf := 2) (by decide) ?_
  refine canon_skip (buf := 2) (by decide) ?_
  refine canon_skip (buf := 2) (by decide) ?_
  refine canon_skip (buf := 2) (by decide) ?_
  refine canon_skip (buf := 2) (by decide) ?_
  refine canon_skip (buf := 2) (by decide) ?_
  refine canon_block (buf := 1) (off := 1024) _ rfl (own hs hμ (seen_own (j := 4)) (by norm_num) (hsl := slices_S1296x512_o1040_0_S256x512) rfl rfl) (fun k q hk => ?_) k q hk
  refine canon_block (buf := 1) (off := 768) _ rfl (past hs hμ (n := 3) (by decide) (seen_past (n := 3) (by decide) hj) (by norm_num)
    (hsl := slices_S1296x512_o784_0_S256x512) (hn := slices_S8x512_o3_0_S1x512) rfl rfl) (fun k q hk => ?_) k q hk
  refine canon_block (buf := 1) (off := 512) _ rfl (past hs hμ (n := 2) (by decide) (seen_past (n := 2) (by decide) hj) (by norm_num)
    (hsl := slices_S1296x512_o528_0_S256x512) (hn := slices_S8x512_o2_0_S1x512) rfl rfl) (fun k q hk => ?_) k q hk
  refine canon_block (buf := 1) (off := 256) _ rfl (past hs hμ (n := 1) (by decide) (seen_past (n := 1) (by decide) hj) (by norm_num)
    (hsl := slices_S1296x512_o272_0_S256x512) (hn := slices_S8x512_o1_0_S1x512) rfl rfl) (fun k q hk => ?_) k q hk
  refine canon_block (buf := 1) (off := 0) _ rfl (past hs hμ (n := 0) (by decide) (seen_past (n := 0) (by decide) hj) (by norm_num)
    (hsl := slices_S1296x512_o16_0_S256x512) (hn := slices_S8x512_o0_0_S1x512) rfl rfl) (fun k q hk => ?_) k q hk
  exact absurd hk (Nat.not_lt_zero _)

/-- The weights of tile 5. -/
theorem weightsA5 {σ : Fin 2048 → Fin 512 → ℝ} (hs : IsScores 16 1552 (r_25 c a2 h2 a3 h3 a10 x0 x1) σ) (hb : Below (r_25 c a2 h2 a3 h3 a10 x0 x1)) :
    Weights 2 1536 (HS2_224 c a2 h2 a3 h3 a10 x0 x1) σ (Seen (keepGate 5#32 (gateOf (r_25 c a2 h2 a3 h3 a10 x0 x1) slices_S1552x512_o0_0_S8x512 slices_S1552x512_o8_0_S8x512)) 5) := by
  have hj : (5 : ℕ) < 8 := by norm_num
  obtain ⟨μ, hμ⟩ := rowMax_reals (off := 1280) hs slices_S1552x512_o1296_0_S256x512 (by norm_num) (by norm_num) (keepGate 5#32 (gateOf (r_25 c a2 h2 a3 h3 a10 x0 x1) slices_S1552x512_o0_0_S8x512 slices_S1552x512_o8_0_S8x512)) (below_maxStep (n := 4#32) (below_slice slices_S1552x512_o1040_0_S256x512 hb) (below_maxStep (n := 3#32) (below_slice slices_S1552x512_o784_0_S256x512 hb) (below_maxStep (n := 2#32) (below_slice slices_S1552x512_o528_0_S256x512 hb) (below_maxStep (n := 1#32) (below_slice slices_S1552x512_o272_0_S256x512 hb) (below_maxStep (n := 0#32) (below_slice slices_S1552x512_o16_0_S256x512 hb) (below_mask S8x512))))))
  refine weights_of μ fun k q hk => ?_
  refine canon_skip (buf := 0) (by decide) ?_
  refine canon_skip (buf := 0) (by decide) ?_
  refine canon_skip (buf := 0) (by decide) ?_
  refine canon_skip (buf := 0) (by decide) ?_
  refine canon_skip (buf := 0) (by decide) ?_
  refine canon_skip (buf := 0) (by decide) ?_
  refine canon_skip (buf := 0) (by decide) ?_
  refine canon_block (buf := 2) (off := 1280) _ rfl (own hs hμ (seen_own (j := 5)) (by norm_num) (hsl := slices_S1552x512_o1296_0_S256x512) rfl rfl) (fun k q hk => ?_) k q hk
  refine canon_block (buf := 2) (off := 1024) _ rfl (past hs hμ (n := 4) (by decide) (seen_past (n := 4) (by decide) hj) (by norm_num)
    (hsl := slices_S1552x512_o1040_0_S256x512) (hn := slices_S8x512_o4_0_S1x512) rfl rfl) (fun k q hk => ?_) k q hk
  refine canon_block (buf := 2) (off := 768) _ rfl (past hs hμ (n := 3) (by decide) (seen_past (n := 3) (by decide) hj) (by norm_num)
    (hsl := slices_S1552x512_o784_0_S256x512) (hn := slices_S8x512_o3_0_S1x512) rfl rfl) (fun k q hk => ?_) k q hk
  refine canon_block (buf := 2) (off := 512) _ rfl (past hs hμ (n := 2) (by decide) (seen_past (n := 2) (by decide) hj) (by norm_num)
    (hsl := slices_S1552x512_o528_0_S256x512) (hn := slices_S8x512_o2_0_S1x512) rfl rfl) (fun k q hk => ?_) k q hk
  refine canon_block (buf := 2) (off := 256) _ rfl (past hs hμ (n := 1) (by decide) (seen_past (n := 1) (by decide) hj) (by norm_num)
    (hsl := slices_S1552x512_o272_0_S256x512) (hn := slices_S8x512_o1_0_S1x512) rfl rfl) (fun k q hk => ?_) k q hk
  refine canon_block (buf := 2) (off := 0) _ rfl (past hs hμ (n := 0) (by decide) (seen_past (n := 0) (by decide) hj) (by norm_num)
    (hsl := slices_S1552x512_o16_0_S256x512) (hn := slices_S8x512_o0_0_S1x512) rfl rfl) (fun k q hk => ?_) k q hk
  exact absurd hk (Nat.not_lt_zero _)

/-- The weights of tile 6. -/
theorem weightsA6 {σ : Fin 2048 → Fin 512 → ℝ} (hs : IsScores 16 1808 (r_31 c a2 h2 a3 h3 a10 x0 x1) σ) (hb : Below (r_31 c a2 h2 a3 h3 a10 x0 x1)) :
    Weights 0 1792 (HS2_288 c a2 h2 a3 h3 a10 x0 x1) σ (Seen (keepGate 6#32 (gateOf (r_31 c a2 h2 a3 h3 a10 x0 x1) slices_S1808x512_o0_0_S8x512 slices_S1808x512_o8_0_S8x512)) 6) := by
  have hj : (6 : ℕ) < 8 := by norm_num
  obtain ⟨μ, hμ⟩ := rowMax_reals (off := 1536) hs slices_S1808x512_o1552_0_S256x512 (by norm_num) (by norm_num) (keepGate 6#32 (gateOf (r_31 c a2 h2 a3 h3 a10 x0 x1) slices_S1808x512_o0_0_S8x512 slices_S1808x512_o8_0_S8x512)) (below_maxStep (n := 5#32) (below_slice slices_S1808x512_o1296_0_S256x512 hb) (below_maxStep (n := 4#32) (below_slice slices_S1808x512_o1040_0_S256x512 hb) (below_maxStep (n := 3#32) (below_slice slices_S1808x512_o784_0_S256x512 hb) (below_maxStep (n := 2#32) (below_slice slices_S1808x512_o528_0_S256x512 hb) (below_maxStep (n := 1#32) (below_slice slices_S1808x512_o272_0_S256x512 hb) (below_maxStep (n := 0#32) (below_slice slices_S1808x512_o16_0_S256x512 hb) (below_mask S8x512)))))))
  refine weights_of μ fun k q hk => ?_
  refine canon_skip (buf := 1) (by decide) ?_
  refine canon_skip (buf := 1) (by decide) ?_
  refine canon_skip (buf := 1) (by decide) ?_
  refine canon_skip (buf := 1) (by decide) ?_
  refine canon_skip (buf := 1) (by decide) ?_
  refine canon_skip (buf := 1) (by decide) ?_
  refine canon_skip (buf := 1) (by decide) ?_
  refine canon_skip (buf := 1) (by decide) ?_
  refine canon_block (buf := 0) (off := 1536) _ rfl (own hs hμ (seen_own (j := 6)) (by norm_num) (hsl := slices_S1808x512_o1552_0_S256x512) rfl rfl) (fun k q hk => ?_) k q hk
  refine canon_block (buf := 0) (off := 1280) _ rfl (past hs hμ (n := 5) (by decide) (seen_past (n := 5) (by decide) hj) (by norm_num)
    (hsl := slices_S1808x512_o1296_0_S256x512) (hn := slices_S8x512_o5_0_S1x512) rfl rfl) (fun k q hk => ?_) k q hk
  refine canon_block (buf := 0) (off := 1024) _ rfl (past hs hμ (n := 4) (by decide) (seen_past (n := 4) (by decide) hj) (by norm_num)
    (hsl := slices_S1808x512_o1040_0_S256x512) (hn := slices_S8x512_o4_0_S1x512) rfl rfl) (fun k q hk => ?_) k q hk
  refine canon_block (buf := 0) (off := 768) _ rfl (past hs hμ (n := 3) (by decide) (seen_past (n := 3) (by decide) hj) (by norm_num)
    (hsl := slices_S1808x512_o784_0_S256x512) (hn := slices_S8x512_o3_0_S1x512) rfl rfl) (fun k q hk => ?_) k q hk
  refine canon_block (buf := 0) (off := 512) _ rfl (past hs hμ (n := 2) (by decide) (seen_past (n := 2) (by decide) hj) (by norm_num)
    (hsl := slices_S1808x512_o528_0_S256x512) (hn := slices_S8x512_o2_0_S1x512) rfl rfl) (fun k q hk => ?_) k q hk
  refine canon_block (buf := 0) (off := 256) _ rfl (past hs hμ (n := 1) (by decide) (seen_past (n := 1) (by decide) hj) (by norm_num)
    (hsl := slices_S1808x512_o272_0_S256x512) (hn := slices_S8x512_o1_0_S1x512) rfl rfl) (fun k q hk => ?_) k q hk
  refine canon_block (buf := 0) (off := 0) _ rfl (past hs hμ (n := 0) (by decide) (seen_past (n := 0) (by decide) hj) (by norm_num)
    (hsl := slices_S1808x512_o16_0_S256x512) (hn := slices_S8x512_o0_0_S1x512) rfl rfl) (fun k q hk => ?_) k q hk
  exact absurd hk (Nat.not_lt_zero _)

/-- The weights of tile 7. -/
theorem weightsA7 {σ : Fin 2048 → Fin 512 → ℝ} (hs : IsScores 16 2064 (r_39 c a2 h2 a3 h3 a10 x0 x1) σ) (hb : Below (r_39 c a2 h2 a3 h3 a10 x0 x1)) :
    Weights 1 2048 (HS2_288 c a2 h2 a3 h3 a10 x0 x1) σ (Seen (keepGate 7#32 (gateOf (r_39 c a2 h2 a3 h3 a10 x0 x1) slices_S2064x512_o0_0_S8x512 slices_S2064x512_o8_0_S8x512)) 7) := by
  have hj : (7 : ℕ) < 8 := by norm_num
  obtain ⟨μ, hμ⟩ := rowMax_reals (off := 1792) hs slices_S2064x512_o1808_0_S256x512 (by norm_num) (by norm_num) (keepGate 7#32 (gateOf (r_39 c a2 h2 a3 h3 a10 x0 x1) slices_S2064x512_o0_0_S8x512 slices_S2064x512_o8_0_S8x512)) (below_maxStep (n := 6#32) (below_slice slices_S2064x512_o1552_0_S256x512 hb) (below_maxStep (n := 5#32) (below_slice slices_S2064x512_o1296_0_S256x512 hb) (below_maxStep (n := 4#32) (below_slice slices_S2064x512_o1040_0_S256x512 hb) (below_maxStep (n := 3#32) (below_slice slices_S2064x512_o784_0_S256x512 hb) (below_maxStep (n := 2#32) (below_slice slices_S2064x512_o528_0_S256x512 hb) (below_maxStep (n := 1#32) (below_slice slices_S2064x512_o272_0_S256x512 hb) (below_maxStep (n := 0#32) (below_slice slices_S2064x512_o16_0_S256x512 hb) (below_mask S8x512))))))))
  refine weights_of μ fun k q hk => ?_
  refine canon_block (buf := 1) (off := 1792) _ rfl (own hs hμ (seen_own (j := 7)) (by norm_num) (hsl := slices_S2064x512_o1808_0_S256x512) rfl rfl) (fun k q hk => ?_) k q hk
  refine canon_block (buf := 1) (off := 1536) _ rfl (past hs hμ (n := 6) (by decide) (seen_past (n := 6) (by decide) hj) (by norm_num)
    (hsl := slices_S2064x512_o1552_0_S256x512) (hn := slices_S8x512_o6_0_S1x512) rfl rfl) (fun k q hk => ?_) k q hk
  refine canon_block (buf := 1) (off := 1280) _ rfl (past hs hμ (n := 5) (by decide) (seen_past (n := 5) (by decide) hj) (by norm_num)
    (hsl := slices_S2064x512_o1296_0_S256x512) (hn := slices_S8x512_o5_0_S1x512) rfl rfl) (fun k q hk => ?_) k q hk
  refine canon_block (buf := 1) (off := 1024) _ rfl (past hs hμ (n := 4) (by decide) (seen_past (n := 4) (by decide) hj) (by norm_num)
    (hsl := slices_S2064x512_o1040_0_S256x512) (hn := slices_S8x512_o4_0_S1x512) rfl rfl) (fun k q hk => ?_) k q hk
  refine canon_block (buf := 1) (off := 768) _ rfl (past hs hμ (n := 3) (by decide) (seen_past (n := 3) (by decide) hj) (by norm_num)
    (hsl := slices_S2064x512_o784_0_S256x512) (hn := slices_S8x512_o3_0_S1x512) rfl rfl) (fun k q hk => ?_) k q hk
  refine canon_block (buf := 1) (off := 512) _ rfl (past hs hμ (n := 2) (by decide) (seen_past (n := 2) (by decide) hj) (by norm_num)
    (hsl := slices_S2064x512_o528_0_S256x512) (hn := slices_S8x512_o2_0_S1x512) rfl rfl) (fun k q hk => ?_) k q hk
  refine canon_block (buf := 1) (off := 256) _ rfl (past hs hμ (n := 1) (by decide) (seen_past (n := 1) (by decide) hj) (by norm_num)
    (hsl := slices_S2064x512_o272_0_S256x512) (hn := slices_S8x512_o1_0_S1x512) rfl rfl) (fun k q hk => ?_) k q hk
  refine canon_block (buf := 1) (off := 0) _ rfl (past hs hμ (n := 0) (by decide) (seen_past (n := 0) (by decide) hj) (by norm_num)
    (hsl := slices_S2064x512_o16_0_S256x512) (hn := slices_S8x512_o0_0_S1x512) rfl rfl) (fun k q hk => ?_) k q hk
  exact absurd hk (Nat.not_lt_zero _)

end Cert.Attend
-- ==== Proof.Attn.TilesA.lean ====
/-
  The tiles of the block-sparse stream: each writes the attention of its 256 queries.
-/
module

public import proofs.«01_k».proof.Proof.Attn.Stream
public import proofs.«01_k».proof.Proof.Attn.Reads
public import proofs.«01_k».proof.Proof.Attn.WeightsA

@[expose] public section

set_option maxRecDepth 16384

noncomputable section

namespace Cert.Attend

open Idealize.ShloMosaic Idealize.ShloMosaic.TcCoe Idealize.SL.Sem Cert.AttnIdeal Cert.AttnIdeal.Gen
open scoped BigOperators
open Cert.AttnIdeal.Gen.kernelRun0_A.sl

variable (c : Dev nD) (a2 : Memref sig .tc .vmem S1x2048x128 .bf16) (h2 : a2.IsWhole) (a3 : Memref sig .tc .vmem S1x2048x128 .bf16) (h3 : a3.IsWhole) (a4 : Memref sig .tc .vmem S1x2048x128 .bf16) (h4 : a4.IsWhole)
  (a10 : Memref sig .tc .vmem S2064x128 .bf16) (a11 : Memref sig .tc .vmem S2x80x2048 .bf16) (a12 : Memref sig .tc .vmem S3x2048x512 .bf16)
  {x0 x1 x2 : FVec Ideal S1x2048x128 .bf16} {a b : Fin 2048 → Fin 128 → ℝ}

/-- Tile 0. -/
theorem tileA0 (ha : ∀ k l, x0 (ix3 0 k l) = (a k l : EReal)) (hb : ∀ k l, x1 (ix3 0 k l) = (b k l : EReal)) (z : Fin 1) (q : Fin 256) (l : Fin 128) :
    (v1796 c a2 h2 a3 h3 a4 h4 a10 a11 a12 x0 x1 x2 : FVec Ideal S1x256x128 .bf16) (ix3 z q l) = streamed LaneA a b (seenA a b) x2 ⟨256 * ((0 : Fin 8)).val + q.val, by omega⟩ l := by
  have hs := fun k r => scoresA0 c a2 h2 a3 h3 a10 ha hb k r
  change tileOut (half (acc256 (a11.view.readCov (HS1_18 (F := Ideal) c a4 h4 x2) (Rect.unit (s := S2x80x2048) ![0, 0, 0] (Shape.size ⟨3, ![1, 80, 256]⟩) inb_S2x80x2048_S1x80x256_0_0_0).toLoadRect)
      (a12.view.readCov (HS2_24 (F := Ideal) c a2 h2 a3 h3 a10 x0 x1) (Rect.unit (s := S3x2048x512) ![0, 0, 0] (Shape.size ⟨3, ![1, 256, 256]⟩) inb_S3x2048x512_S1x256x256_0_0_0).toLoadRect)))
    (half (acc256 (a11.view.readCov (HS1_18 (F := Ideal) c a4 h4 x2) (Rect.unit (s := S2x80x2048) ![1, 0, 0] (Shape.size ⟨3, ![1, 80, 256]⟩) inb_S2x80x2048_S1x80x256_1_0_0).toLoadRect)
      (a12.view.readCov (HS2_24 (F := Ideal) c a2 h2 a3 h3 a10 x0 x1) (Rect.unit (s := S3x2048x512) ![0, 0, 256] (Shape.size ⟨3, ![1, 256, 256]⟩) inb_S3x2048x512_S1x256x256_0_0_256).toLoadRect))) (ix3 z q l) = _
  exact tile_value (by decide) 0 rfl (canonVA c a4 h4 x2) (weightsA0 c a2 h2 a3 h3 a10 x0 x1 (sparse_scores _ hs))
    (sparse_seen _ (by decide) hs slices_S272x512_o0_0_S8x512 slices_S272x512_o8_0_S8x512) seenA_le seenA_own
    (acc256_read _ _ 0 0 _ _) (acc256_read _ _ 0 1 _ _) z q l

/-- Tile 1. -/
theorem tileA1 (ha : ∀ k l, x0 (ix3 0 k l) = (a k l : EReal)) (hb : ∀ k l, x1 (ix3 0 k l) = (b k l : EReal)) (z : Fin 1) (q : Fin 256) (l : Fin 128) :
    (v2433 c a2 h2 a3 h3 a4 h4 a10 a11 a12 x0 x1 x2 : FVec Ideal S1x256x128 .bf16) (ix3 z q l) = streamed LaneA a b (seenA a b) x2 ⟨256 * ((1 : Fin 8)).val + q.val, by omega⟩ l := by
  have hs := fun k r => scoresA1 c a2 h2 a3 h3 a10 ha hb k r
  change tileOut (half (acc512 (a11.view.readCov (HS1_18 (F := Ideal) c a4 h4 x2) (Rect.unit (s := S2x80x2048) ![0, 0, 0] (Shape.size ⟨3, ![1, 80, 512]⟩) inb_S2x80x2048_S1x80x512_0_0_0).toLoadRect)
      (a12.view.readCov (HS2_48 (F := Ideal) c a2 h2 a3 h3 a10 x0 x1) (Rect.unit (s := S3x2048x512) ![1, 0, 0] (Shape.size ⟨3, ![1, 512, 256]⟩) inb_S3x2048x512_S1x512x256_1_0_0).toLoadRect)))
    (half (acc512 (a11.view.readCov (HS1_18 (F := Ideal) c a4 h4 x2) (Rect.unit (s := S2x80x2048) ![1, 0, 0] (Shape.size ⟨3, ![1, 80, 512]⟩) inb_S2x80x2048_S1x80x512_1_0_0).toLoadRect)
      (a12.view.readCov (HS2_48 (F := Ideal) c a2 h2 a3 h3 a10 x0 x1) (Rect.unit (s := S3x2048x512) ![1, 0, 256] (Shape.size ⟨3, ![1, 512, 256]⟩) inb_S3x2048x512_S1x512x256_1_0_256).toLoadRect))) (ix3 z q l) = _
  exact tile_value (by decide) 1 rfl (canonVA c a4 h4 x2) (weightsA1 c a2 h2 a3 h3 a10 x0 x1 (sparse_scores _ hs) (sparse_below _ hs))
    (sparse_seen _ (by decide) hs slices_S528x512_o0_0_S8x512 slices_S528x512_o8_0_S8x512) seenA_le seenA_own
    (acc512_read _ _ 1 0 _ _) (acc512_read _ _ 1 1 _ _) z q l

/-- Tile 2. -/
theorem tileA2 (ha : ∀ k l, x0 (ix3 0 k l) = (a k l : EReal)) (hb : ∀ k l, x1 (ix3 0 k l) = (b k l : EReal)) (z : Fin 1) (q : Fin 256) (l : Fin 128) :
    (v3202 c a2 h2 a3 h3 a4 h4 a10 a11 a12 x0 x1 x2 : FVec Ideal S1x256x128 .bf16) (ix3 z q l) = streamed LaneA a b (seenA a b) x2 ⟨256 * ((2 : Fin 8)).val + q.val, by omega⟩ l := by
  have hs := fun k r => scoresA2 c a2 h2 a3 h3 a10 ha hb k r
  change tileOut (half (acc768 (a11.view.readCov (HS1_18 (F := Ideal) c a4 h4 x2) (Rect.unit (s := S2x80x2048) ![0, 0, 0] (Shape.size ⟨3, ![1, 80, 768]⟩) inb_S2x80x2048_S1x80x768_0_0_0).toLoadRect)
      (a12.view.readCov (HS2_80 (F := Ideal) c a2 h2 a3 h3 a10 x0 x1) (Rect.unit (s := S3x2048x512) ![2, 0, 0] (Shape.size ⟨3, ![1, 768, 256]⟩) inb_S3x2048x512_S1x768x256_2_0_0).toLoadRect)))
    (half (acc768 (a11.view.readCov (HS1_18 (F := Ideal) c a4 h4 x2) (Rect.unit (s := S2x80x2048) ![1, 0, 0] (Shape.size ⟨3, ![1, 80, 768]⟩) inb_S2x80x2048_S1x80x768_1_0_0).toLoadRect)
      (a12.view.readCov (HS2_80 (F := Ideal) c a2 h2 a3 h3 a10 x0 x1) (Rect.unit (s := S3x2048x512) ![2, 0, 256] (Shape.size ⟨3, ![1, 768, 256]⟩) inb_S3x2048x512_S1x768x256_2_0_256).toLoadRect))) (ix3 z q l) = _
  exact tile_value (by decide) 2 rfl (canonVA c a4 h4 x2) (weightsA2 c a2 h2 a3 h3 a10 x0 x1 (sparse_scores _ hs) (sparse_below _ hs))
    (sparse_seen _ (by decide) hs slices_S784x512_o0_0_S8x512 slices_S784x512_o8_0_S8x512) seenA_le seenA_own
    (acc768_read _ _ 2 0 _ _) (acc768_read _ _ 2 1 _ _) z q l

/-- Tile 3. -/
theorem tileA3 (ha : ∀ k l, x0 (ix3 0 k l) = (a k l : EReal)) (hb : ∀ k l, x1 (ix3 0 k l) = (b k l : EReal)) (z : Fin 1) (q : Fin 256) (l : Fin 128) :
    (v4103 c a2 h2 a3 h3 a4 h4 a10 a11 a12 x0 x1 x2 : FVec Ideal S1x256x128 .bf16) (ix3 z q l) = streamed LaneA a b (seenA a b) x2 ⟨256 * ((3 : Fin 8)).val + q.val, by omega⟩ l := by
  have hs := fun k r => scoresA3 c a2 h2 a3 h3 a10 ha hb k r
  change tileOut (half (acc1024 (a11.view.readCov (HS1_18 (F := Ideal) c a4 h4 x2) (Rect.unit (s := S2x80x2048) ![0, 0, 0] (Shape.size ⟨3, ![1, 80, 1024]⟩) inb_S2x80x2048_S1x80x1024_0_0_0).toLoadRect)
      (a12.view.readCov (HS2_120 (F := Ideal) c a2 h2 a3 h3 a10 x0 x1) (Rect.unit (s := S3x2048x512) ![0, 0, 0] (Shape.size ⟨3, ![1, 1024, 256]⟩) inb_S3x2048x512_S1x1024x256_0_0_0).toLoadRect)))
    (half (acc1024 (a11.view.readCov (HS1_18 (F := Ideal) c a4 h4 x2) (Rect.unit (s := S2x80x2048) ![1, 0, 0] (Shape.size ⟨3, ![1, 80, 1024]⟩) inb_S2x80x2048_S1x80x1024_1_0_0).toLoadRect)
      (a12.view.readCov (HS2_120 (F := Ideal) c a2 h2 a3 h3 a10 x0 x1) (Rect.unit (s := S3x2048x512) ![0, 0, 256] (Shape.size ⟨3, ![1, 1024, 256]⟩) inb_S3x2048x512_S1x1024x256_0_0_256).toLoadRect))) (ix3 z q l) = _
  exact tile_value (by decide) 3 rfl (canonVA c a4 h4 x2) (weightsA3 c a2 h2 a3 h3 a10 x0 x1 (sparse_scores _ hs) (sparse_below _ hs))
    (sparse_seen _ (by decide) hs slices_S1040x512_o0_0_S8x512 slices_S1040x512_o8_0_S8x512) seenA_le seenA_own
    (acc1024_read _ _ 0 0 _ _) (acc1024_read _ _ 0 1 _ _) z q l

/-- Tile 4. -/
theorem tileA4 (ha : ∀ k l, x0 (ix3 0 k l) = (a k l : EReal)) (hb : ∀ k l, x1 (ix3 0 k l) = (b k l : EReal)) (z : Fin 1) (q : Fin 256) (l : Fin 128) :
    (v5136 c a2 h2 a3 h3 a4 h4 a10 a11 a12 x0 x1 x2 : FVec Ideal S1x256x128 .bf16) (ix3 z q l) = streamed LaneA a b (seenA a b) x2 ⟨256 * ((4 : Fin 8)).val + q.val, by omega⟩ l := by
  have hs := fun k r => scoresA4 c a2 h2 a3 h3 a10 ha hb k r
  change tileOut (half (acc1280 (a11.view.readCov (HS1_18 (F := Ideal) c a4 h4 x2) (Rect.unit (s := S2x80x2048) ![0, 0, 0] (Shape.size ⟨3, ![1, 80, 1280]⟩) inb_S2x80x2048_S1x80x1280_0_0_0).toLoadRect)
      (a12.view.readCov (HS2_168 (F := Ideal) c a2 h2 a3 h3 a10 x0 x1) (Rect.unit (s := S3x2048x512) ![1, 0, 0] (Shape.size ⟨3, ![1, 1280, 256]⟩) inb_S3x2048x512_S1x1280x256_1_0_0).toLoadRect)))
    (half (acc1280 (a11.view.readCov (HS1_18 (F := Ideal) c a4 h4 x2) (Rect.unit (s := S2x80x2048) ![1, 0, 0] (Shape.size ⟨3, ![1, 80, 1280]⟩) inb_S2x80x2048_S1x80x1280_1_0_0).toLoadRect)
      (a12.view.readCov (HS2_168 (F := Ideal) c a2 h2 a3 h3 a10 x0 x1) (Rect.unit (s := S3x2048x512) ![1, 0, 256] (Shape.size ⟨3, ![1, 1280, 256]⟩) inb_S3x2048x512_S1x1280x256_1_0_256).toLoadRect))) (ix3 z q l) = _
  exact tile_value (by decide) 4 rfl (canonVA c a4 h4 x2) (weightsA4 c a2 h2 a3 h3 a10 x0 x1 (sparse_scores _ hs) (sparse_below _ hs))
    (sparse_seen _ (by decide) hs slices_S1296x512_o0_0_S8x512 slices_S1296x512_o8_0_S8x512) seenA_le seenA_own
    (acc1280_read _ _ 1 0 _ _) (acc1280_read _ _ 1 1 _ _) z q l

/-- Tile 5. -/
theorem tileA5 (ha : ∀ k l, x0 (ix3 0 k l) = (a k l : EReal)) (hb : ∀ k l, x1 (ix3 0 k l) = (b k l : EReal)) (z : Fin 1) (q : Fin 256) (l : Fin 128) :
    (v6301 c a2 h2 a3 h3 a4 h4 a10 a11 a12 x0 x1 x2 : FVec Ideal S1x256x128 .bf16) (ix3 z q l) = streamed LaneA a b (seenA a b) x2 ⟨256 * ((5 : Fin 8)).val + q.val, by omega⟩ l := by
  have hs := fun k r => scoresA5 c a2 h2 a3 h3 a10 ha hb k r
  change tileOut (half (acc1536 (a11.view.readCov (HS1_18 (F := Ideal) c a4 h4 x2) (Rect.unit (s := S2x80x2048) ![0, 0, 0] (Shape.size ⟨3, ![1, 80, 1536]⟩) inb_S2x80x2048_S1x80x1536_0_0_0).toLoadRect)
      (a12.view.readCov (HS2_224 (F := Ideal) c a2 h2 a3 h3 a10 x0 x1) (Rect.unit (s := S3x2048x512) ![2, 0, 0] (Shape.size ⟨3, ![1, 1536, 256]⟩) inb_S3x2048x512_S1x1536x256_2_0_0).toLoadRect)))
    (half (acc1536 (a11.view.readCov (HS1_18 (F := Ideal) c a4 h4 x2) (Rect.unit (s := S2x80x2048) ![1, 0, 0] (Shape.size ⟨3, ![1, 80, 1536]⟩) inb_S2x80x2048_S1x80x1536_1_0_0).toLoadRect)
      (a12.view.readCov (HS2_224 (F := Ideal) c a2 h2 a3 h3 a10 x0 x1) (Rect.unit (s := S3x2048x512) ![2, 0, 256] (Shape.size ⟨3, ![1, 1536, 256]⟩) inb_S3x2048x512_S1x1536x256_2_0_256).toLoadRect))) (ix3 z q l) = _
  exact tile_value (by decide) 5 rfl (canonVA c a4 h4 x2) (weightsA5 c a2 h2 a3 h3 a10 x0 x1 (sparse_scores _ hs) (sparse_below _ hs))
    (sparse_seen _ (by decide) hs slices_S1552x512_o0_0_S8x512 slices_S1552x512_o8_0_S8x512) seenA_le seenA_own
    (acc1536_read _ _ 2 0 _ _) (acc1536_read _ _ 2 1 _ _) z q l

/-- Tile 6. -/
theorem tileA6 (ha : ∀ k l, x0 (ix3 0 k l) = (a k l : EReal)) (hb : ∀ k l, x1 (ix3 0 k l) = (b k l : EReal)) (z : Fin 1) (q : Fin 256) (l : Fin 128) :
    (k0_pay1162 (v_1 c a4 h4 a11 x2) (v7577 c a2 h2 a3 h3 a10 a12 x0 x1) (v7584 c a4 h4 a11 x2) (v7586 c a2 h2 a3 h3 a10 a12 x0 x1) : FVec Ideal S1x256x128 .bf16) (ix3 z q l) = streamed LaneA a b (seenA a b) x2 ⟨256 * ((6 : Fin 8)).val + q.val, by omega⟩ l := by
  have hs := fun k r => scoresA6 c a2 h2 a3 h3 a10 ha hb k r
  change tileOut (half (acc1792 (a11.view.readCov (HS1_18 (F := Ideal) c a4 h4 x2) (Rect.unit (s := S2x80x2048) ![0, 0, 0] (Shape.size ⟨3, ![1, 80, 1792]⟩) inb_S2x80x2048_S1x80x1792_0_0_0).toLoadRect)
      (a12.view.readCov (HS2_288 (F := Ideal) c a2 h2 a3 h3 a10 x0 x1) (Rect.unit (s := S3x2048x512) ![0, 0, 0] (Shape.size ⟨3, ![1, 1792, 256]⟩) inb_S3x2048x512_S1x1792x256_0_0_0).toLoadRect)))
    (half (acc1792 (a11.view.readCov (HS1_18 (F := Ideal) c a4 h4 x2) (Rect.unit (s := S2x80x2048) ![1, 0, 0] (Shape.size ⟨3, ![1, 80, 1792]⟩) inb_S2x80x2048_S1x80x1792_1_0_0).toLoadRect)
      (a12.view.readCov (HS2_288 (F := Ideal) c a2 h2 a3 h3 a10 x0 x1) (Rect.unit (s := S3x2048x512) ![0, 0, 256] (Shape.size ⟨3, ![1, 1792, 256]⟩) inb_S3x2048x512_S1x1792x256_0_0_256).toLoadRect))) (ix3 z q l) = _
  exact tile_value (by decide) 6 rfl (canonVA c a4 h4 x2) (weightsA6 c a2 h2 a3 h3 a10 x0 x1 (sparse_scores _ hs) (sparse_below _ hs))
    (sparse_seen _ (by decide) hs slices_S1808x512_o0_0_S8x512 slices_S1808x512_o8_0_S8x512) seenA_le seenA_own
    (acc1792_read _ _ 0 0 _ _) (acc1792_read _ _ 0 1 _ _) z q l

/-- Tile 7. -/
theorem tileA7 (ha : ∀ k l, x0 (ix3 0 k l) = (a k l : EReal)) (hb : ∀ k l, x1 (ix3 0 k l) = (b k l : EReal)) (z : Fin 1) (q : Fin 256) (l : Fin 128) :
    (k0_pay1 (r_160 c a2 h2 a3 h3 a4 h4 a10 a11 a12 x0 x1 x2) : FVec Ideal S1x256x128 .bf16) (ix3 z q l) = streamed LaneA a b (seenA a b) x2 ⟨256 * ((7 : Fin 8)).val + q.val, by omega⟩ l := by
  have hs := fun k r => scoresA7 c a2 h2 a3 h3 a10 ha hb k r
  change tileOut (half (acc2048 (a11.view.readCov (HS1_18 (F := Ideal) c a4 h4 x2) (Rect.unit (s := S2x80x2048) ![0, 0, 0] (Shape.size ⟨3, ![1, 80, 2048]⟩) inb_S2x80x2048_S1x80x2048_0_0_0).toLoadRect)
      (a12.view.readCov (HS2_288 (F := Ideal) c a2 h2 a3 h3 a10 x0 x1) (Rect.unit (s := S3x2048x512) ![1, 0, 0] (Shape.size ⟨3, ![1, 2048, 256]⟩) inb_S3x2048x512_S1x2048x256_1_0_0).toLoadRect)))
    (half (acc2048 (a11.view.readCov (HS1_18 (F := Ideal) c a4 h4 x2) (Rect.unit (s := S2x80x2048) ![1, 0, 0] (Shape.size ⟨3, ![1, 80, 2048]⟩) inb_S2x80x2048_S1x80x2048_1_0_0).toLoadRect)
      (a12.view.readCov (HS2_288 (F := Ideal) c a2 h2 a3 h3 a10 x0 x1) (Rect.unit (s := S3x2048x512) ![1, 0, 256] (Shape.size ⟨3, ![1, 2048, 256]⟩) inb_S3x2048x512_S1x2048x256_1_0_256).toLoadRect))) (ix3 z q l) = _
  exact tile_value (by decide) 7 rfl (canonVA c a4 h4 x2) (weightsA7 c a2 h2 a3 h3 a10 x0 x1 (sparse_scores _ hs) (sparse_below _ hs))
    (sparse_seen _ (by decide) hs slices_S2064x512_o0_0_S8x512 slices_S2064x512_o8_0_S8x512) seenA_le seenA_own
    (acc2048_read _ _ 1 0 _ _) (acc2048_read _ _ 1 1 _ _) z q l

end Cert.Attend
-- ==== Proof.Attn.WeightsB.lean ====
module

public import proofs.«01_k».proof.Proof.Attn.Tile
public import proofs.«01_k».proof.Proof.Gen.AttnIdeal.Frame

@[expose] public section

/-!
The weights a tile of queries keeps of its keys: the latent (MLA) stream, one theorem for each of the eight tiles.
-/

set_option maxRecDepth 16384

noncomputable section

namespace Cert.Attend

open Idealize.ShloMosaic Idealize.ShloMosaic.TcCoe Idealize.SL.Sem Cert.AttnIdeal Cert.AttnIdeal.Gen
open scoped BigOperators
open Cert.AttnIdeal.Gen.kernelRun0_A.sl

variable (c : Dev nD) (a5 : Memref sig .tc .vmem S1x2048x256 .bf16) (h5 : a5.IsWhole)
  (a6 : Memref sig .tc .vmem S1x2048x256 .bf16) (h6 : a6.IsWhole) (x3 x4 : Vec Ideal S1x2048x256 .bf16)

/-- The weights of tile 0. -/
theorem weightsB0 {σ : Fin 2048 → Fin 512 → ℝ} (hs : IsScores 0 256 (r_2 c a5 h5 a6 h6 x3 x4) σ) :
    Weights 0 256 (HS4_24 c a5 h5 a6 h6 x3 x4) σ (Seen (latentKeep 0#32) 0) := by
  have hj : (0 : ℕ) < 8 := by norm_num
  obtain ⟨μ, hμ⟩ := rowMax_reals (off := 0) hs whole_slices (by norm_num) (by norm_num) (latentKeep 0#32) (below_mask S8x512)
  rw [slice_whole] at hμ
  refine weights_of μ fun k q hk => ?_
  refine canon_skip (buf := 1) (by decide) ?_
  refine canon_skip (buf := 1) (by decide) ?_
  refine canon_block (buf := 0) (off := 0) _ rfl (own hs hμ (seen_own (j := 0)) (by norm_num) (hsl := whole_slices) (congrArg diag (slice_whole _).symm) rfl) (fun k q hk => ?_) k q hk
  exact absurd hk (Nat.not_lt_zero _)

/-- The weights of tile 1. -/
theorem weightsB1 {σ : Fin 2048 → Fin 512 → ℝ} (hs : IsScores 0 512 (r_6 c a5 h5 a6 h6 x3 x4) σ) (hb : Below (r_6 c a5 h5 a6 h6 x3 x4)) :
    Weights 1 512 (HS4_48 c a5 h5 a6 h6 x3 x4) σ (Seen (latentKeep 1#32) 1) := by
  have hj : (1 : ℕ) < 8 := by norm_num
  obtain ⟨μ, hμ⟩ := rowMax_reals (off := 256) hs slices_S512x512_o256_0_S256x512 (by norm_num) (by norm_num) (latentKeep 1#32) (below_maxStep (n := 0#32) (below_slice slices_S512x512_o0_0_S256x512 hb) (below_mask S8x512))
  refine weights_of μ fun k q hk => ?_
  refine canon_skip (buf := 2) (by decide) ?_
  refine canon_skip (buf := 2) (by decide) ?_
  refine canon_skip (buf := 2) (by decide) ?_
  refine canon_block (buf := 1) (off := 256) _ rfl (own hs hμ (seen_own (j := 1)) (by norm_num) (hsl := slices_S512x512_o256_0_S256x512) rfl rfl) (fun k q hk => ?_) k q hk
  refine canon_block (buf := 1) (off := 0) _ rfl (past hs hμ (n := 0) (by decide) (seen_past (n := 0) (by decide) hj) (by norm_num)
    (hsl := slices_S512x512_o0_0_S256x512) (hn := slices_S8x512_o0_0_S1x512) rfl rfl) (fun k q hk => ?_) k q hk
  exact absurd hk (Nat.not_lt_zero _)

/-- The weights of tile 2. -/
theorem weightsB2 {σ : Fin 2048 → Fin 512 → ℝ} (hs : IsScores 0 768 (r_11 c a5 h5 a6 h6 x3 x4) σ) (hb : Below (r_11 c a5 h5 a6 h6 x3 x4)) :
    Weights 2 768 (HS4_80 c a5 h5 a6 h6 x3 x4) σ (Seen (latentKeep 2#32) 2) := by
  have hj : (2 : ℕ) < 8 := by norm_num
  obtain ⟨μ, hμ⟩ := rowMax_reals (off := 512) hs slices_S768x512_o512_0_S256x512 (by norm_num) (by norm_num) (latentKeep 2#32) (below_maxStep (n := 1#32) (below_slice slices_S768x512_o256_0_S256x512 hb) (below_maxStep (n := 0#32) (below_slice slices_S768x512_o0_0_S256x512 hb) (below_mask S8x512)))
  refine weights_of μ fun k q hk => ?_
  refine canon_skip (buf := 0) (by decide) ?_
  refine canon_skip (buf := 0) (by decide) ?_
  refine canon_skip (buf := 0) (by decide) ?_
  refine canon_skip (buf := 0) (by decide) ?_
  refine canon_block (buf := 2) (off := 512) _ rfl (own hs hμ (seen_own (j := 2)) (by norm_num) (hsl := slices_S768x512_o512_0_S256x512) rfl rfl) (fun k q hk => ?_) k q hk
  refine canon_block (buf := 2) (off := 256) _ rfl (past hs hμ (n := 1) (by decide) (seen_past (n := 1) (by decide) hj) (by norm_num)
    (hsl := slices_S768x512_o256_0_S256x512) (hn := slices_S8x512_o1_0_S1x512) rfl rfl) (fun k q hk => ?_) k q hk
  refine canon_block (buf := 2) (off := 0) _ rfl (past hs hμ (n := 0) (by decide) (seen_past (n := 0) (by decide) hj) (by norm_num)
    (hsl := slices_S768x512_o0_0_S256x512) (hn := slices_S8x512_o0_0_S1x512) rfl rfl) (fun k q hk => ?_) k q hk
  exact absurd hk (Nat.not_lt_zero _)

/-- The weights of tile 3. -/
theorem weightsB3 {σ : Fin 2048 → Fin 512 → ℝ} (hs : IsScores 0 1024 (r_18 c a5 h5 a6 h6 x3 x4) σ) (hb : Below (r_18 c a5 h5 a6 h6 x3 x4)) :
    Weights 0 1024 (HS4_120 c a5 h5 a6 h6 x3 x4) σ (Seen (latentKeep 3#32) 3) := by
  have hj : (3 : ℕ) < 8 := by norm_num
  obtain ⟨μ, hμ⟩ := rowMax_reals (off := 768) hs slices_S1024x512_o768_0_S256x512 (by norm_num) (by norm_num) (latentKeep 3#32) (below_maxStep (n := 2#32) (below_slice slices_S1024x512_o512_0_S256x512 hb) (below_maxStep (n := 1#32) (below_slice slices_S1024x512_o256_0_S256x512 hb) (below_maxStep (n := 0#32) (below_slice slices_S1024x512_o0_0_S256x512 hb) (below_mask S8x512))))
  refine weights_of μ fun k q hk => ?_
  refine canon_skip (buf := 1) (by decide) ?_
  refine canon_skip (buf := 1) (by decide) ?_
  refine canon_skip (buf := 1) (by decide) ?_
  refine canon_skip (buf := 1) (by decide) ?_
  refine canon_skip (buf := 1) (by decide) ?_
  refine canon_block (buf := 0) (off := 768) _ rfl (own hs hμ (seen_own (j := 3)) (by norm_num) (hsl := slices_S1024x512_o768_0_S256x512) rfl rfl) (fun k q hk => ?_) k q hk
  refine canon_block (buf := 0) (off := 512) _ rfl (past hs hμ (n := 2) (by decide) (seen_past (n := 2) (by decide) hj) (by norm_num)
    (hsl := slices_S1024x512_o512_0_S256x512) (hn := slices_S8x512_o2_0_S1x512) rfl rfl) (fun k q hk => ?_) k q hk
  refine canon_block (buf := 0) (off := 256) _ rfl (past hs hμ (n := 1) (by decide) (seen_past (n := 1) (by decide) hj) (by norm_num)
    (hsl := slices_S1024x512_o256_0_S256x512) (hn := slices_S8x512_o1_0_S1x512) rfl rfl) (fun k q hk => ?_) k q hk
  refine canon_block (buf := 0) (off := 0) _ rfl (past hs hμ (n := 0) (by decide) (seen_past (n := 0) (by decide) hj) (by norm_num)
    (hsl := slices_S1024x512_o0_0_S256x512) (hn := slices_S8x512_o0_0_S1x512) rfl rfl) (fun k q hk => ?_) k q hk
  exact absurd hk (Nat.not_lt_zero _)

/-- The weights of tile 4. -/
theorem weightsB4 {σ : Fin 2048 → Fin 512 → ℝ} (hs : IsScores 0 1280 (r_23 c a5 h5 a6 h6 x3 x4) σ) (hb : Below (r_23 c a5 h5 a6 h6 x3 x4)) :
    Weights 1 1280 (HS4_168 c a5 h5 a6 h6 x3 x4) σ (Seen (latentKeep 4#32) 4) := by
  have hj : (4 : ℕ) < 8 := by norm_num
  obtain ⟨μ, hμ⟩ := rowMax_reals (off := 1024) hs slices_S1280x512_o1024_0_S256x512 (by norm_num) (by norm_num) (latentKeep 4#32) (below_maxStep (n := 3#32) (below_slice slices_S1280x512_o768_0_S256x512 hb) (below_maxStep (n := 2#32) (below_slice slices_S1280x512_o512_0_S256x512 hb) (below_maxStep (n := 1#32) (below_slice slices_S1280x512_o256_0_S256x512 hb) (below_maxStep (n := 0#32) (below_slice slices_S1280x512_o0_0_S256x512 hb) (below_mask S8x512)))))
  refine weights_of μ fun k q hk => ?_
  refine canon_skip (buf := 2) (by decide) ?_
  refine canon_skip (buf := 2) (by decide) ?_
  refine canon_skip (buf := 2) (by decide) ?_
  refine canon_skip (buf := 2) (by decide) ?_
  refine canon_skip (buf := 2) (by decide) ?_
  refine canon_skip (buf := 2) (by decide) ?_
  refine canon_block (buf := 1) (off := 1024) _ rfl (own hs hμ (seen_own (j := 4)) (by norm_num) (hsl := slices_S1280x512_o1024_0_S256x512) rfl rfl) (fun k q hk => ?_) k q hk
  refine canon_block (buf := 1) (off := 768) _ rfl (past hs hμ (n := 3) (by decide) (seen_past (n := 3) (by decide) hj) (by norm_num)
    (hsl := slices_S1280x512_o768_0_S256x512) (hn := slices_S8x512_o3_0_S1x512) rfl rfl) (fun k q hk => ?_) k q hk
  refine canon_block (buf := 1) (off := 512) _ rfl (past hs hμ (n := 2) (by decide) (seen_past (n := 2) (by decide) hj) (by norm_num)
    (hsl := slices_S1280x512_o512_0_S256x512) (hn := slices_S8x512_o2_0_S1x512) rfl rfl) (fun k q hk => ?_) k q hk
  refine canon_block (buf := 1) (off := 256) _ rfl (past hs hμ (n := 1) (by decide) (seen_past (n := 1) (by decide) hj) (by norm_num)
    (hsl := slices_S1280x512_o256_0_S256x512) (hn := slices_S8x512_o1_0_S1x512) rfl rfl) (fun k q hk => ?_) k q hk
  refine canon_block (buf := 1) (off := 0) _ rfl (past hs hμ (n := 0) (by decide) (seen_past (n := 0) (by decide) hj) (by norm_num)
    (hsl := slices_S1280x512_o0_0_S256x512) (hn := slices_S8x512_o0_0_S1x512) rfl rfl) (fun k q hk => ?_) k q hk
  exact absurd hk (Nat.not_lt_zero _)

/-- The weights of tile 5. -/
theorem weightsB5 {σ : Fin 2048 → Fin 512 → ℝ} (hs : IsScores 0 1536 (r_27 c a5 h5 a6 h6 x3 x4) σ) (hb : Below (r_27 c a5 h5 a6 h6 x3 x4)) :
    Weights 2 1536 (HS4_224 c a5 h5 a6 h6 x3 x4) σ (Seen (latentKeep 5#32) 5) := by
  have hj : (5 : ℕ) < 8 := by norm_num
  obtain ⟨μ, hμ⟩ := rowMax_reals (off := 1280) hs slices_S1536x512_o1280_0_S256x512 (by norm_num) (by norm_num) (latentKeep 5#32) (below_maxStep (n := 4#32) (below_slice slices_S1536x512_o1024_0_S256x512 hb) (below_maxStep (n := 3#32) (below_slice slices_S1536x512_o768_0_S256x512 hb) (below_maxStep (n := 2#32) (below_slice slices_S1536x512_o512_0_S256x512 hb) (below_maxStep (n := 1#32) (below_slice slices_S1536x512_o256_0_S256x512 hb) (below_maxStep (n := 0#32) (below_slice slices_S1536x512_o0_0_S256x512 hb) (below_mask S8x512))))))
  refine weights_of μ fun k q hk => ?_
  refine canon_skip (buf := 0) (by decide) ?_
  refine canon_skip (buf := 0) (by decide) ?_
  refine canon_skip (buf := 0) (by decide) ?_
  refine canon_skip (buf := 0) (by decide) ?_
  refine canon_skip (buf := 0) (by decide) ?_
  refine canon_skip (buf := 0) (by decide) ?_
  refine canon_skip (buf := 0) (by decide) ?_
  refine canon_block (buf := 2) (off := 1280) _ rfl (own hs hμ (seen_own (j := 5)) (by norm_num) (hsl := slices_S1536x512_o1280_0_S256x512) rfl rfl) (fun k q hk => ?_) k q hk
  refine canon_block (buf := 2) (off := 1024) _ rfl (past hs hμ (n := 4) (by decide) (seen_past (n := 4) (by decide) hj) (by norm_num)
    (hsl := slices_S1536x512_o1024_0_S256x512) (hn := slices_S8x512_o4_0_S1x512) rfl rfl) (fun k q hk => ?_) k q hk
  refine canon_block (buf := 2) (off := 768) _ rfl (past hs hμ (n := 3) (by decide) (seen_past (n := 3) (by decide) hj) (by norm_num)
    (hsl := slices_S1536x512_o768_0_S256x512) (hn := slices_S8x512_o3_0_S1x512) rfl rfl) (fun k q hk => ?_) k q hk
  refine canon_block (buf := 2) (off := 512) _ rfl (past hs hμ (n := 2) (by decide) (seen_past (n := 2) (by decide) hj) (by norm_num)
    (hsl := slices_S1536x512_o512_0_S256x512) (hn := slices_S8x512_o2_0_S1x512) rfl rfl) (fun k q hk => ?_) k q hk
  refine canon_block (buf := 2) (off := 256) _ rfl (past hs hμ (n := 1) (by decide) (seen_past (n := 1) (by decide) hj) (by norm_num)
    (hsl := slices_S1536x512_o256_0_S256x512) (hn := slices_S8x512_o1_0_S1x512) rfl rfl) (fun k q hk => ?_) k q hk
  refine canon_block (buf := 2) (off := 0) _ rfl (past hs hμ (n := 0) (by decide) (seen_past (n := 0) (by decide) hj) (by norm_num)
    (hsl := slices_S1536x512_o0_0_S256x512) (hn := slices_S8x512_o0_0_S1x512) rfl rfl) (fun k q hk => ?_) k q hk
  exact absurd hk (Nat.not_lt_zero _)

/-- The weights of tile 6. -/
theorem weightsB6 {σ : Fin 2048 → Fin 512 → ℝ} (hs : IsScores 0 1792 (r_35 c a5 h5 a6 h6 x3 x4) σ) (hb : Below (r_35 c a5 h5 a6 h6 x3 x4)) :
    Weights 0 1792 (HS4_288 c a5 h5 a6 h6 x3 x4) σ (Seen (latentKeep 6#32) 6) := by
  have hj : (6 : ℕ) < 8 := by norm_num
  obtain ⟨μ, hμ⟩ := rowMax_reals (off := 1536) hs slices_S1792x512_o1536_0_S256x512 (by norm_num) (by norm_num) (latentKeep 6#32) (below_maxStep (n := 5#32) (below_slice slices_S1792x512_o1280_0_S256x512 hb) (below_maxStep (n := 4#32) (below_slice slices_S1792x512_o1024_0_S256x512 hb) (below_maxStep (n := 3#32) (below_slice slices_S1792x512_o768_0_S256x512 hb) (below_maxStep (n := 2#32) (below_slice slices_S1792x512_o512_0_S256x512 hb) (below_maxStep (n := 1#32) (below_slice slices_S1792x512_o256_0_S256x512 hb) (below_maxStep (n := 0#32) (below_slice slices_S1792x512_o0_0_S256x512 hb) (below_mask S8x512)))))))
  refine weights_of μ fun k q hk => ?_
  refine canon_skip (buf := 1) (by decide) ?_
  refine canon_skip (buf := 1) (by decide) ?_
  refine canon_skip (buf := 1) (by decide) ?_
  refine canon_skip (buf := 1) (by decide) ?_
  refine canon_skip (buf := 1) (by decide) ?_
  refine canon_skip (buf := 1) (by decide) ?_
  refine canon_skip (buf := 1) (by decide) ?_
  refine canon_skip (buf := 1) (by decide) ?_
  refine canon_block (buf := 0) (off := 1536) _ rfl (own hs hμ (seen_own (j := 6)) (by norm_num) (hsl := slices_S1792x512_o1536_0_S256x512) rfl rfl) (fun k q hk => ?_) k q hk
  refine canon_block (buf := 0) (off := 1280) _ rfl (past hs hμ (n := 5) (by decide) (seen_past (n := 5) (by decide) hj) (by norm_num)
    (hsl := slices_S1792x512_o1280_0_S256x512) (hn := slices_S8x512_o5_0_S1x512) rfl rfl) (fun k q hk => ?_) k q hk
  refine canon_block (buf := 0) (off := 1024) _ rfl (past hs hμ (n := 4) (by decide) (seen_past (n := 4) (by decide) hj) (by norm_num)
    (hsl := slices_S1792x512_o1024_0_S256x512) (hn := slices_S8x512_o4_0_S1x512) rfl rfl) (fun k q hk => ?_) k q hk
  refine canon_block (buf := 0) (off := 768) _ rfl (past hs hμ (n := 3) (by decide) (seen_past (n := 3) (by decide) hj) (by norm_num)
    (hsl := slices_S1792x512_o768_0_S256x512) (hn := slices_S8x512_o3_0_S1x512) rfl rfl) (fun k q hk => ?_) k q hk
  refine canon_block (buf := 0) (off := 512) _ rfl (past hs hμ (n := 2) (by decide) (seen_past (n := 2) (by decide) hj) (by norm_num)
    (hsl := slices_S1792x512_o512_0_S256x512) (hn := slices_S8x512_o2_0_S1x512) rfl rfl) (fun k q hk => ?_) k q hk
  refine canon_block (buf := 0) (off := 256) _ rfl (past hs hμ (n := 1) (by decide) (seen_past (n := 1) (by decide) hj) (by norm_num)
    (hsl := slices_S1792x512_o256_0_S256x512) (hn := slices_S8x512_o1_0_S1x512) rfl rfl) (fun k q hk => ?_) k q hk
  refine canon_block (buf := 0) (off := 0) _ rfl (past hs hμ (n := 0) (by decide) (seen_past (n := 0) (by decide) hj) (by norm_num)
    (hsl := slices_S1792x512_o0_0_S256x512) (hn := slices_S8x512_o0_0_S1x512) rfl rfl) (fun k q hk => ?_) k q hk
  exact absurd hk (Nat.not_lt_zero _)

/-- The weights of tile 7. -/
theorem weightsB7 {σ : Fin 2048 → Fin 512 → ℝ} (hs : IsScores 0 2048 (r_42 c a5 h5 a6 h6 x3 x4) σ) (hb : Below (r_42 c a5 h5 a6 h6 x3 x4)) :
    Weights 1 2048 (HS4_288 c a5 h5 a6 h6 x3 x4) σ (Seen (latentKeep 7#32) 7) := by
  have hj : (7 : ℕ) < 8 := by norm_num
  obtain ⟨μ, hμ⟩ := rowMax_reals (off := 1792) hs slices_S2048x512_o1792_0_S256x512 (by norm_num) (by norm_num) (latentKeep 7#32) (below_maxStep (n := 6#32) (below_slice slices_S2048x512_o1536_0_S256x512 hb) (below_maxStep (n := 5#32) (below_slice slices_S2048x512_o1280_0_S256x512 hb) (below_maxStep (n := 4#32) (below_slice slices_S2048x512_o1024_0_S256x512 hb) (below_maxStep (n := 3#32) (below_slice slices_S2048x512_o768_0_S256x512 hb) (below_maxStep (n := 2#32) (below_slice slices_S2048x512_o512_0_S256x512 hb) (below_maxStep (n := 1#32) (below_slice slices_S2048x512_o256_0_S256x512 hb) (below_maxStep (n := 0#32) (below_slice slices_S2048x512_o0_0_S256x512 hb) (below_mask S8x512))))))))
  refine weights_of μ fun k q hk => ?_
  refine canon_block (buf := 1) (off := 1792) _ rfl (own hs hμ (seen_own (j := 7)) (by norm_num) (hsl := slices_S2048x512_o1792_0_S256x512) rfl rfl) (fun k q hk => ?_) k q hk
  refine canon_block (buf := 1) (off := 1536) _ rfl (past hs hμ (n := 6) (by decide) (seen_past (n := 6) (by decide) hj) (by norm_num)
    (hsl := slices_S2048x512_o1536_0_S256x512) (hn := slices_S8x512_o6_0_S1x512) rfl rfl) (fun k q hk => ?_) k q hk
  refine canon_block (buf := 1) (off := 1280) _ rfl (past hs hμ (n := 5) (by decide) (seen_past (n := 5) (by decide) hj) (by norm_num)
    (hsl := slices_S2048x512_o1280_0_S256x512) (hn := slices_S8x512_o5_0_S1x512) rfl rfl) (fun k q hk => ?_) k q hk
  refine canon_block (buf := 1) (off := 1024) _ rfl (past hs hμ (n := 4) (by decide) (seen_past (n := 4) (by decide) hj) (by norm_num)
    (hsl := slices_S2048x512_o1024_0_S256x512) (hn := slices_S8x512_o4_0_S1x512) rfl rfl) (fun k q hk => ?_) k q hk
  refine canon_block (buf := 1) (off := 768) _ rfl (past hs hμ (n := 3) (by decide) (seen_past (n := 3) (by decide) hj) (by norm_num)
    (hsl := slices_S2048x512_o768_0_S256x512) (hn := slices_S8x512_o3_0_S1x512) rfl rfl) (fun k q hk => ?_) k q hk
  refine canon_block (buf := 1) (off := 512) _ rfl (past hs hμ (n := 2) (by decide) (seen_past (n := 2) (by decide) hj) (by norm_num)
    (hsl := slices_S2048x512_o512_0_S256x512) (hn := slices_S8x512_o2_0_S1x512) rfl rfl) (fun k q hk => ?_) k q hk
  refine canon_block (buf := 1) (off := 256) _ rfl (past hs hμ (n := 1) (by decide) (seen_past (n := 1) (by decide) hj) (by norm_num)
    (hsl := slices_S2048x512_o256_0_S256x512) (hn := slices_S8x512_o1_0_S1x512) rfl rfl) (fun k q hk => ?_) k q hk
  refine canon_block (buf := 1) (off := 0) _ rfl (past hs hμ (n := 0) (by decide) (seen_past (n := 0) (by decide) hj) (by norm_num)
    (hsl := slices_S2048x512_o0_0_S256x512) (hn := slices_S8x512_o0_0_S1x512) rfl rfl) (fun k q hk => ?_) k q hk
  exact absurd hk (Nat.not_lt_zero _)

end Cert.Attend
-- ==== Proof.Attn.TilesB.lean ====
/-
  The tiles of the latent stream: each writes the attention of its 256 queries.
-/
module

public import proofs.«01_k».proof.Proof.Attn.Stream
public import proofs.«01_k».proof.Proof.Attn.Reads
public import proofs.«01_k».proof.Proof.Attn.WeightsB

@[expose] public section

set_option maxRecDepth 16384

noncomputable section

namespace Cert.Attend

open Idealize.ShloMosaic Idealize.ShloMosaic.TcCoe Idealize.SL.Sem Cert.AttnIdeal Cert.AttnIdeal.Gen
open scoped BigOperators
open Cert.AttnIdeal.Gen.kernelRun0_A.sl

variable (c : Dev nD) (a5 : Memref sig .tc .vmem S1x2048x256 .bf16) (h5 : a5.IsWhole) (a6 : Memref sig .tc .vmem S1x2048x256 .bf16) (h6 : a6.IsWhole) (a7 : Memref sig .tc .vmem S1x2048x128 .bf16) (h7 : a7.IsWhole)
  (a13 : Memref sig .tc .vmem S2x80x2048 .bf16) (a14 : Memref sig .tc .vmem S3x2048x512 .bf16)
  {x3 x4 : FVec Ideal S1x2048x256 .bf16} {x5 : FVec Ideal S1x2048x128 .bf16} {a b : Fin 2048 → Fin 256 → ℝ}

/-- Tile 0. -/
theorem tileB0 (ha : ∀ k l, x3 (ix3 0 k l) = (a k l : EReal)) (hb : ∀ k l, x4 (ix3 0 k l) = (b k l : EReal)) (z : Fin 1) (q : Fin 256) (l : Fin 128) :
    (v1820 c a5 h5 a6 h6 a7 h7 a13 a14 x3 x4 x5 : FVec Ideal S1x256x128 .bf16) (ix3 z q l) = streamed LaneB a b seenB x5 ⟨256 * ((0 : Fin 8)).val + q.val, by omega⟩ l := by
  have hs := fun k r => scoresB0 c a5 h5 a6 h6 ha hb k r
  change tileOut (half (acc256 (a13.view.readCov (HS3_18 (F := Ideal) c a7 h7 x5) (Rect.unit (s := S2x80x2048) ![0, 0, 0] (Shape.size ⟨3, ![1, 80, 256]⟩) inb_S2x80x2048_S1x80x256_0_0_0).toLoadRect)
      (a14.view.readCov (HS4_24 (F := Ideal) c a5 h5 a6 h6 x3 x4) (Rect.unit (s := S3x2048x512) ![0, 0, 0] (Shape.size ⟨3, ![1, 256, 256]⟩) inb_S3x2048x512_S1x256x256_0_0_0).toLoadRect)))
    (half (acc256 (a13.view.readCov (HS3_18 (F := Ideal) c a7 h7 x5) (Rect.unit (s := S2x80x2048) ![1, 0, 0] (Shape.size ⟨3, ![1, 80, 256]⟩) inb_S2x80x2048_S1x80x256_1_0_0).toLoadRect)
      (a14.view.readCov (HS4_24 (F := Ideal) c a5 h5 a6 h6 x3 x4) (Rect.unit (s := S3x2048x512) ![0, 0, 256] (Shape.size ⟨3, ![1, 256, 256]⟩) inb_S3x2048x512_S1x256x256_0_0_256).toLoadRect))) (ix3 z q l) = _
  exact tile_value (by decide) 0 rfl (canonVB c a7 h7 x5) (weightsB0 c a5 h5 a6 h6 x3 x4 (latent_scores _ hs))
    (seen_latent 0) seenB_le seenB_own
    (acc256_read _ _ 0 0 _ _) (acc256_read _ _ 0 1 _ _) z q l

/-- Tile 1. -/
theorem tileB1 (ha : ∀ k l, x3 (ix3 0 k l) = (a k l : EReal)) (hb : ∀ k l, x4 (ix3 0 k l) = (b k l : EReal)) (z : Fin 1) (q : Fin 256) (l : Fin 128) :
    (v2457 c a5 h5 a6 h6 a7 h7 a13 a14 x3 x4 x5 : FVec Ideal S1x256x128 .bf16) (ix3 z q l) = streamed LaneB a b seenB x5 ⟨256 * ((1 : Fin 8)).val + q.val, by omega⟩ l := by
  have hs := fun k r => scoresB1 c a5 h5 a6 h6 ha hb k r
  change tileOut (half (acc512 (a13.view.readCov (HS3_18 (F := Ideal) c a7 h7 x5) (Rect.unit (s := S2x80x2048) ![0, 0, 0] (Shape.size ⟨3, ![1, 80, 512]⟩) inb_S2x80x2048_S1x80x512_0_0_0).toLoadRect)
      (a14.view.readCov (HS4_48 (F := Ideal) c a5 h5 a6 h6 x3 x4) (Rect.unit (s := S3x2048x512) ![1, 0, 0] (Shape.size ⟨3, ![1, 512, 256]⟩) inb_S3x2048x512_S1x512x256_1_0_0).toLoadRect)))
    (half (acc512 (a13.view.readCov (HS3_18 (F := Ideal) c a7 h7 x5) (Rect.unit (s := S2x80x2048) ![1, 0, 0] (Shape.size ⟨3, ![1, 80, 512]⟩) inb_S2x80x2048_S1x80x512_1_0_0).toLoadRect)
      (a14.view.readCov (HS4_48 (F := Ideal) c a5 h5 a6 h6 x3 x4) (Rect.unit (s := S3x2048x512) ![1, 0, 256] (Shape.size ⟨3, ![1, 512, 256]⟩) inb_S3x2048x512_S1x512x256_1_0_256).toLoadRect))) (ix3 z q l) = _
  exact tile_value (by decide) 1 rfl (canonVB c a7 h7 x5) (weightsB1 c a5 h5 a6 h6 x3 x4 (latent_scores _ hs) (latent_below _ hs))
    (seen_latent 1) seenB_le seenB_own
    (acc512_read _ _ 1 0 _ _) (acc512_read _ _ 1 1 _ _) z q l

/-- Tile 2. -/
theorem tileB2 (ha : ∀ k l, x3 (ix3 0 k l) = (a k l : EReal)) (hb : ∀ k l, x4 (ix3 0 k l) = (b k l : EReal)) (z : Fin 1) (q : Fin 256) (l : Fin 128) :
    (v3226 c a5 h5 a6 h6 a7 h7 a13 a14 x3 x4 x5 : FVec Ideal S1x256x128 .bf16) (ix3 z q l) = streamed LaneB a b seenB x5 ⟨256 * ((2 : Fin 8)).val + q.val, by omega⟩ l := by
  have hs := fun k r => scoresB2 c a5 h5 a6 h6 ha hb k r
  change tileOut (half (acc768 (a13.view.readCov (HS3_18 (F := Ideal) c a7 h7 x5) (Rect.unit (s := S2x80x2048) ![0, 0, 0] (Shape.size ⟨3, ![1, 80, 768]⟩) inb_S2x80x2048_S1x80x768_0_0_0).toLoadRect)
      (a14.view.readCov (HS4_80 (F := Ideal) c a5 h5 a6 h6 x3 x4) (Rect.unit (s := S3x2048x512) ![2, 0, 0] (Shape.size ⟨3, ![1, 768, 256]⟩) inb_S3x2048x512_S1x768x256_2_0_0).toLoadRect)))
    (half (acc768 (a13.view.readCov (HS3_18 (F := Ideal) c a7 h7 x5) (Rect.unit (s := S2x80x2048) ![1, 0, 0] (Shape.size ⟨3, ![1, 80, 768]⟩) inb_S2x80x2048_S1x80x768_1_0_0).toLoadRect)
      (a14.view.readCov (HS4_80 (F := Ideal) c a5 h5 a6 h6 x3 x4) (Rect.unit (s := S3x2048x512) ![2, 0, 256] (Shape.size ⟨3, ![1, 768, 256]⟩) inb_S3x2048x512_S1x768x256_2_0_256).toLoadRect))) (ix3 z q l) = _
  exact tile_value (by decide) 2 rfl (canonVB c a7 h7 x5) (weightsB2 c a5 h5 a6 h6 x3 x4 (latent_scores _ hs) (latent_below _ hs))
    (seen_latent 2) seenB_le seenB_own
    (acc768_read _ _ 2 0 _ _) (acc768_read _ _ 2 1 _ _) z q l

/-- Tile 3. -/
theorem tileB3 (ha : ∀ k l, x3 (ix3 0 k l) = (a k l : EReal)) (hb : ∀ k l, x4 (ix3 0 k l) = (b k l : EReal)) (z : Fin 1) (q : Fin 256) (l : Fin 128) :
    (v4127 c a5 h5 a6 h6 a7 h7 a13 a14 x3 x4 x5 : FVec Ideal S1x256x128 .bf16) (ix3 z q l) = streamed LaneB a b seenB x5 ⟨256 * ((3 : Fin 8)).val + q.val, by omega⟩ l := by
  have hs := fun k r => scoresB3 c a5 h5 a6 h6 ha hb k r
  change tileOut (half (acc1024 (a13.view.readCov (HS3_18 (F := Ideal) c a7 h7 x5) (Rect.unit (s := S2x80x2048) ![0, 0, 0] (Shape.size ⟨3, ![1, 80, 1024]⟩) inb_S2x80x2048_S1x80x1024_0_0_0).toLoadRect)
      (a14.view.readCov (HS4_120 (F := Ideal) c a5 h5 a6 h6 x3 x4) (Rect.unit (s := S3x2048x512) ![0, 0, 0] (Shape.size ⟨3, ![1, 1024, 256]⟩) inb_S3x2048x512_S1x1024x256_0_0_0).toLoadRect)))
    (half (acc1024 (a13.view.readCov (HS3_18 (F := Ideal) c a7 h7 x5) (Rect.unit (s := S2x80x2048) ![1, 0, 0] (Shape.size ⟨3, ![1, 80, 1024]⟩) inb_S2x80x2048_S1x80x1024_1_0_0).toLoadRect)
      (a14.view.readCov (HS4_120 (F := Ideal) c a5 h5 a6 h6 x3 x4) (Rect.unit (s := S3x2048x512) ![0, 0, 256] (Shape.size ⟨3, ![1, 1024, 256]⟩) inb_S3x2048x512_S1x1024x256_0_0_256).toLoadRect))) (ix3 z q l) = _
  exact tile_value (by decide) 3 rfl (canonVB c a7 h7 x5) (weightsB3 c a5 h5 a6 h6 x3 x4 (latent_scores _ hs) (latent_below _ hs))
    (seen_latent 3) seenB_le seenB_own
    (acc1024_read _ _ 0 0 _ _) (acc1024_read _ _ 0 1 _ _) z q l

/-- Tile 4. -/
theorem tileB4 (ha : ∀ k l, x3 (ix3 0 k l) = (a k l : EReal)) (hb : ∀ k l, x4 (ix3 0 k l) = (b k l : EReal)) (z : Fin 1) (q : Fin 256) (l : Fin 128) :
    (v5160 c a5 h5 a6 h6 a7 h7 a13 a14 x3 x4 x5 : FVec Ideal S1x256x128 .bf16) (ix3 z q l) = streamed LaneB a b seenB x5 ⟨256 * ((4 : Fin 8)).val + q.val, by omega⟩ l := by
  have hs := fun k r => scoresB4 c a5 h5 a6 h6 ha hb k r
  change tileOut (half (acc1280 (a13.view.readCov (HS3_18 (F := Ideal) c a7 h7 x5) (Rect.unit (s := S2x80x2048) ![0, 0, 0] (Shape.size ⟨3, ![1, 80, 1280]⟩) inb_S2x80x2048_S1x80x1280_0_0_0).toLoadRect)
      (a14.view.readCov (HS4_168 (F := Ideal) c a5 h5 a6 h6 x3 x4) (Rect.unit (s := S3x2048x512) ![1, 0, 0] (Shape.size ⟨3, ![1, 1280, 256]⟩) inb_S3x2048x512_S1x1280x256_1_0_0).toLoadRect)))
    (half (acc1280 (a13.view.readCov (HS3_18 (F := Ideal) c a7 h7 x5) (Rect.unit (s := S2x80x2048) ![1, 0, 0] (Shape.size ⟨3, ![1, 80, 1280]⟩) inb_S2x80x2048_S1x80x1280_1_0_0).toLoadRect)
      (a14.view.readCov (HS4_168 (F := Ideal) c a5 h5 a6 h6 x3 x4) (Rect.unit (s := S3x2048x512) ![1, 0, 256] (Shape.size ⟨3, ![1, 1280, 256]⟩) inb_S3x2048x512_S1x1280x256_1_0_256).toLoadRect))) (ix3 z q l) = _
  exact tile_value (by decide) 4 rfl (canonVB c a7 h7 x5) (weightsB4 c a5 h5 a6 h6 x3 x4 (latent_scores _ hs) (latent_below _ hs))
    (seen_latent 4) seenB_le seenB_own
    (acc1280_read _ _ 1 0 _ _) (acc1280_read _ _ 1 1 _ _) z q l

/-- Tile 5. -/
theorem tileB5 (ha : ∀ k l, x3 (ix3 0 k l) = (a k l : EReal)) (hb : ∀ k l, x4 (ix3 0 k l) = (b k l : EReal)) (z : Fin 1) (q : Fin 256) (l : Fin 128) :
    (v6325 c a5 h5 a6 h6 a7 h7 a13 a14 x3 x4 x5 : FVec Ideal S1x256x128 .bf16) (ix3 z q l) = streamed LaneB a b seenB x5 ⟨256 * ((5 : Fin 8)).val + q.val, by omega⟩ l := by
  have hs := fun k r => scoresB5 c a5 h5 a6 h6 ha hb k r
  change tileOut (half (acc1536 (a13.view.readCov (HS3_18 (F := Ideal) c a7 h7 x5) (Rect.unit (s := S2x80x2048) ![0, 0, 0] (Shape.size ⟨3, ![1, 80, 1536]⟩) inb_S2x80x2048_S1x80x1536_0_0_0).toLoadRect)
      (a14.view.readCov (HS4_224 (F := Ideal) c a5 h5 a6 h6 x3 x4) (Rect.unit (s := S3x2048x512) ![2, 0, 0] (Shape.size ⟨3, ![1, 1536, 256]⟩) inb_S3x2048x512_S1x1536x256_2_0_0).toLoadRect)))
    (half (acc1536 (a13.view.readCov (HS3_18 (F := Ideal) c a7 h7 x5) (Rect.unit (s := S2x80x2048) ![1, 0, 0] (Shape.size ⟨3, ![1, 80, 1536]⟩) inb_S2x80x2048_S1x80x1536_1_0_0).toLoadRect)
      (a14.view.readCov (HS4_224 (F := Ideal) c a5 h5 a6 h6 x3 x4) (Rect.unit (s := S3x2048x512) ![2, 0, 256] (Shape.size ⟨3, ![1, 1536, 256]⟩) inb_S3x2048x512_S1x1536x256_2_0_256).toLoadRect))) (ix3 z q l) = _
  exact tile_value (by decide) 5 rfl (canonVB c a7 h7 x5) (weightsB5 c a5 h5 a6 h6 x3 x4 (latent_scores _ hs) (latent_below _ hs))
    (seen_latent 5) seenB_le seenB_own
    (acc1536_read _ _ 2 0 _ _) (acc1536_read _ _ 2 1 _ _) z q l

/-- Tile 6. -/
theorem tileB6 (ha : ∀ k l, x3 (ix3 0 k l) = (a k l : EReal)) (hb : ∀ k l, x4 (ix3 0 k l) = (b k l : EReal)) (z : Fin 1) (q : Fin 256) (l : Fin 128) :
    (k0_pay1165 (r_158 c a5 h5 a6 h6 a7 h7 a13 a14 x3 x4 x5) (r_159 c a7 h7 a13 x5) (v7610 c a5 h5 a6 h6 a14 x3 x4) : FVec Ideal S1x256x128 .bf16) (ix3 z q l) = streamed LaneB a b seenB x5 ⟨256 * ((6 : Fin 8)).val + q.val, by omega⟩ l := by
  have hs := fun k r => scoresB6 c a5 h5 a6 h6 ha hb k r
  change tileOut (half (acc1792 (a13.view.readCov (HS3_18 (F := Ideal) c a7 h7 x5) (Rect.unit (s := S2x80x2048) ![0, 0, 0] (Shape.size ⟨3, ![1, 80, 1792]⟩) inb_S2x80x2048_S1x80x1792_0_0_0).toLoadRect)
      (a14.view.readCov (HS4_288 (F := Ideal) c a5 h5 a6 h6 x3 x4) (Rect.unit (s := S3x2048x512) ![0, 0, 0] (Shape.size ⟨3, ![1, 1792, 256]⟩) inb_S3x2048x512_S1x1792x256_0_0_0).toLoadRect)))
    (half (acc1792 (a13.view.readCov (HS3_18 (F := Ideal) c a7 h7 x5) (Rect.unit (s := S2x80x2048) ![1, 0, 0] (Shape.size ⟨3, ![1, 80, 1792]⟩) inb_S2x80x2048_S1x80x1792_1_0_0).toLoadRect)
      (a14.view.readCov (HS4_288 (F := Ideal) c a5 h5 a6 h6 x3 x4) (Rect.unit (s := S3x2048x512) ![0, 0, 256] (Shape.size ⟨3, ![1, 1792, 256]⟩) inb_S3x2048x512_S1x1792x256_0_0_256).toLoadRect))) (ix3 z q l) = _
  exact tile_value (by decide) 6 rfl (canonVB c a7 h7 x5) (weightsB6 c a5 h5 a6 h6 x3 x4 (latent_scores _ hs) (latent_below _ hs))
    (seen_latent 6) seenB_le seenB_own
    (acc1792_read _ _ 0 0 _ _) (acc1792_read _ _ 0 1 _ _) z q l

/-- Tile 7. -/
theorem tileB7 (ha : ∀ k l, x3 (ix3 0 k l) = (a k l : EReal)) (hb : ∀ k l, x4 (ix3 0 k l) = (b k l : EReal)) (z : Fin 1) (q : Fin 256) (l : Fin 128) :
    (k0_pay2 (v7647 c a7 h7 a13 x5) (v7649 c a5 h5 a6 h6 a14 x3 x4) (v7656 c a7 h7 a13 x5) (v7658 c a5 h5 a6 h6 a14 x3 x4) : FVec Ideal S1x256x128 .bf16) (ix3 z q l) = streamed LaneB a b seenB x5 ⟨256 * ((7 : Fin 8)).val + q.val, by omega⟩ l := by
  have hs := fun k r => scoresB7 c a5 h5 a6 h6 ha hb k r
  change tileOut (half (acc2048 (a13.view.readCov (HS3_18 (F := Ideal) c a7 h7 x5) (Rect.unit (s := S2x80x2048) ![0, 0, 0] (Shape.size ⟨3, ![1, 80, 2048]⟩) inb_S2x80x2048_S1x80x2048_0_0_0).toLoadRect)
      (a14.view.readCov (HS4_288 (F := Ideal) c a5 h5 a6 h6 x3 x4) (Rect.unit (s := S3x2048x512) ![1, 0, 0] (Shape.size ⟨3, ![1, 2048, 256]⟩) inb_S3x2048x512_S1x2048x256_1_0_0).toLoadRect)))
    (half (acc2048 (a13.view.readCov (HS3_18 (F := Ideal) c a7 h7 x5) (Rect.unit (s := S2x80x2048) ![1, 0, 0] (Shape.size ⟨3, ![1, 80, 2048]⟩) inb_S2x80x2048_S1x80x2048_1_0_0).toLoadRect)
      (a14.view.readCov (HS4_288 (F := Ideal) c a5 h5 a6 h6 x3 x4) (Rect.unit (s := S3x2048x512) ![1, 0, 256] (Shape.size ⟨3, ![1, 2048, 256]⟩) inb_S3x2048x512_S1x2048x256_1_0_256).toLoadRect))) (ix3 z q l) = _
  exact tile_value (by decide) 7 rfl (canonVB c a7 h7 x5) (weightsB7 c a5 h5 a6 h6 x3 x4 (latent_scores _ hs) (latent_below _ hs))
    (seen_latent 7) seenB_le seenB_own
    (acc2048_read _ _ 1 0 _ _) (acc2048_read _ _ 1 1 _ _) z q l

end Cert.Attend
-- ==== Proof.Attn.Block.lean ====
/-
  What one grid point leaves in its two result blocks: the attention of its two heads, for every query.
-/
module

public import proofs.«01_k».proof.Proof.Attn.TilesA
public import proofs.«01_k».proof.Proof.Attn.TilesB

@[expose] public section

set_option maxRecDepth 16384

noncomputable section

namespace Cert.Attend

open Idealize.ShloMosaic Idealize.ShloMosaic.TcCoe Idealize.SL.Sem Cert.AttnIdeal Cert.AttnIdeal.Gen
open scoped BigOperators

variable (c : Dev nD) (i : grid0.Coords) (arg2 : Memref sig .tc .vmem S1x2048x128 .bf16) (harg2 : arg2.IsWhole) (arg3 : Memref sig .tc .vmem S1x2048x128 .bf16) (harg3 : arg3.IsWhole) (arg4 : Memref sig .tc .vmem S1x2048x128 .bf16) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S2064x128 .bf16) (harg10 : arg10.IsWhole) (arg11 : Memref sig .tc .vmem S2x80x2048 .bf16) (harg11 : arg11.IsWhole) (arg12 : Memref sig .tc .vmem S3x2048x512 .bf16) (harg12 : arg12.IsWhole) (arg13 : Memref sig .tc .vmem S2x80x2048 .bf16) (harg13 : arg13.IsWhole) (arg14 : Memref sig .tc .vmem S3x2048x512 .bf16) (harg14 : arg14.IsWhole)
    (x0 : Vec Ideal S1x2048x128 .bf16) (x1 : Vec Ideal S1x2048x128 .bf16) (x2 : Vec Ideal S1x2048x128 .bf16) (x3 : Vec Ideal S1x2048x256 .bf16) (x4 : Vec Ideal S1x2048x256 .bf16) (x5 : Vec Ideal S1x2048x128 .bf16)

/-- The block of the block-sparse stream. -/
theorem out_6 {a b : Fin 2048 → Fin 128 → ℝ} (ha : ∀ k l, x0 (ix3 0 k l) = (a k l : EReal)) (hb : ∀ k l, x1 (ix3 0 k l) = (b k l : EReal)) (z : Fin 1) (t : Fin 2048) (l : Fin 128) :
    out0_A_6 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 z t l) = streamed LaneA a b (seenA a b) x2 t l := by
  unfold out0_A_6
  refine (congrFun (View.read_writes_junk_eq_canon _ _) _).trans ?_
  refine View.canon_append_of_piecesOf (fun y => streamed LaneA a b (seenA a b) x2 (y 1) (y 2)) [] [_, _, _, _, _, _, _, _] ⟨?_, ?_, ?_, ?_, ?_, ?_, ?_, ?_, trivial⟩ (ix3 z t l)
    (cover0_A_6 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 z t l))
  · intro y
    idx_vars y
    refine (tileA7 _ _ _ _ _ _ _ _ _ _ ha hb y0 y1 y2).trans (congrArg₂ (streamed LaneA a b (seenA a b) x2) (Fin.ext ?_) (Fin.ext ?_))
    · show 1792 + y1.val = 1792 + 1 * y1.val; omega
    · show y2.val = 0 + 1 * y2.val; omega
  · intro y
    idx_vars y
    refine (tileA6 _ _ _ _ _ _ _ _ _ _ ha hb y0 y1 y2).trans (congrArg₂ (streamed LaneA a b (seenA a b) x2) (Fin.ext ?_) (Fin.ext ?_))
    · show 1536 + y1.val = 1536 + 1 * y1.val; omega
    · show y2.val = 0 + 1 * y2.val; omega
  · intro y
    idx_vars y
    refine (tileA5 _ _ _ _ _ _ _ _ _ _ ha hb y0 y1 y2).trans (congrArg₂ (streamed LaneA a b (seenA a b) x2) (Fin.ext ?_) (Fin.ext ?_))
    · show 1280 + y1.val = 1280 + 1 * y1.val; omega
    · show y2.val = 0 + 1 * y2.val; omega
  · intro y
    idx_vars y
    refine (tileA4 _ _ _ _ _ _ _ _ _ _ ha hb y0 y1 y2).trans (congrArg₂ (streamed LaneA a b (seenA a b) x2) (Fin.ext ?_) (Fin.ext ?_))
    · show 1024 + y1.val = 1024 + 1 * y1.val; omega
    · show y2.val = 0 + 1 * y2.val; omega
  · intro y
    idx_vars y
    refine (tileA3 _ _ _ _ _ _ _ _ _ _ ha hb y0 y1 y2).trans (congrArg₂ (streamed LaneA a b (seenA a b) x2) (Fin.ext ?_) (Fin.ext ?_))
    · show 768 + y1.val = 768 + 1 * y1.val; omega
    · show y2.val = 0 + 1 * y2.val; omega
  · intro y
    idx_vars y
    refine (tileA2 _ _ _ _ _ _ _ _ _ _ ha hb y0 y1 y2).trans (congrArg₂ (streamed LaneA a b (seenA a b) x2) (Fin.ext ?_) (Fin.ext ?_))
    · show 512 + y1.val = 512 + 1 * y1.val; omega
    · show y2.val = 0 + 1 * y2.val; omega
  · intro y
    idx_vars y
    refine (tileA1 _ _ _ _ _ _ _ _ _ _ ha hb y0 y1 y2).trans (congrArg₂ (streamed LaneA a b (seenA a b) x2) (Fin.ext ?_) (Fin.ext ?_))
    · show 256 + y1.val = 256 + 1 * y1.val; omega
    · show y2.val = 0 + 1 * y2.val; omega
  · intro y
    idx_vars y
    refine (tileA0 _ _ _ _ _ _ _ _ _ _ ha hb y0 y1 y2).trans (congrArg₂ (streamed LaneA a b (seenA a b) x2) (Fin.ext ?_) (Fin.ext ?_))
    · show 0 + y1.val = 0 + 1 * y1.val; omega
    · show y2.val = 0 + 1 * y2.val; omega

/-- The block of the latent stream. -/
theorem out_7 {a b : Fin 2048 → Fin 256 → ℝ} (ha : ∀ k l, x3 (ix3 0 k l) = (a k l : EReal)) (hb : ∀ k l, x4 (ix3 0 k l) = (b k l : EReal)) (z : Fin 1) (t : Fin 2048) (l : Fin 128) :
    out0_A_7 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 z t l) = streamed LaneB a b seenB x5 t l := by
  unfold out0_A_7
  refine (congrFun (View.read_writes_junk_eq_canon _ _) _).trans ?_
  refine View.canon_append_of_piecesOf (fun y => streamed LaneB a b seenB x5 (y 1) (y 2)) [] [_, _, _, _, _, _, _, _] ⟨?_, ?_, ?_, ?_, ?_, ?_, ?_, ?_, trivial⟩ (ix3 z t l)
    (cover0_A_7 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 (ix3 z t l))
  · intro y
    idx_vars y
    refine (tileB7 _ _ _ _ _ _ _ _ _ ha hb y0 y1 y2).trans (congrArg₂ (streamed LaneB a b seenB x5) (Fin.ext ?_) (Fin.ext ?_))
    · show 1792 + y1.val = 1792 + 1 * y1.val; omega
    · show y2.val = 0 + 1 * y2.val; omega
  · intro y
    idx_vars y
    refine (tileB6 _ _ _ _ _ _ _ _ _ ha hb y0 y1 y2).trans (congrArg₂ (streamed LaneB a b seenB x5) (Fin.ext ?_) (Fin.ext ?_))
    · show 1536 + y1.val = 1536 + 1 * y1.val; omega
    · show y2.val = 0 + 1 * y2.val; omega
  · intro y
    idx_vars y
    refine (tileB5 _ _ _ _ _ _ _ _ _ ha hb y0 y1 y2).trans (congrArg₂ (streamed LaneB a b seenB x5) (Fin.ext ?_) (Fin.ext ?_))
    · show 1280 + y1.val = 1280 + 1 * y1.val; omega
    · show y2.val = 0 + 1 * y2.val; omega
  · intro y
    idx_vars y
    refine (tileB4 _ _ _ _ _ _ _ _ _ ha hb y0 y1 y2).trans (congrArg₂ (streamed LaneB a b seenB x5) (Fin.ext ?_) (Fin.ext ?_))
    · show 1024 + y1.val = 1024 + 1 * y1.val; omega
    · show y2.val = 0 + 1 * y2.val; omega
  · intro y
    idx_vars y
    refine (tileB3 _ _ _ _ _ _ _ _ _ ha hb y0 y1 y2).trans (congrArg₂ (streamed LaneB a b seenB x5) (Fin.ext ?_) (Fin.ext ?_))
    · show 768 + y1.val = 768 + 1 * y1.val; omega
    · show y2.val = 0 + 1 * y2.val; omega
  · intro y
    idx_vars y
    refine (tileB2 _ _ _ _ _ _ _ _ _ ha hb y0 y1 y2).trans (congrArg₂ (streamed LaneB a b seenB x5) (Fin.ext ?_) (Fin.ext ?_))
    · show 512 + y1.val = 512 + 1 * y1.val; omega
    · show y2.val = 0 + 1 * y2.val; omega
  · intro y
    idx_vars y
    refine (tileB1 _ _ _ _ _ _ _ _ _ ha hb y0 y1 y2).trans (congrArg₂ (streamed LaneB a b seenB x5) (Fin.ext ?_) (Fin.ext ?_))
    · show 256 + y1.val = 256 + 1 * y1.val; omega
    · show y2.val = 0 + 1 * y2.val; omega
  · intro y
    idx_vars y
    refine (tileB0 _ _ _ _ _ _ _ _ _ ha hb y0 y1 y2).trans (congrArg₂ (streamed LaneB a b seenB x5) (Fin.ext ?_) (Fin.ext ?_))
    · show 0 + y1.val = 0 + 1 * y1.val; omega
    · show y2.val = 0 + 1 * y2.val; omega

end Cert.Attend
-- ==== Proof.Attn.SparseResult.lean ====
/-
  The sparse result of the run: the reference's, entry by entry.
-/
module

public import proofs.«01_k».proof.Proof.Attn.Points
public import proofs.«01_k».proof.Proof.Attn.Block

@[expose] public section

set_option maxRecDepth 16384

noncomputable section

namespace Cert.Attend

open Idealize.ShloMosaic Idealize.ShloMosaic.TcCoe Idealize.SL.Sem Cert.AttnIdeal Cert.AttnIdeal.Gen
open Idealize.ShloMosaic.Pipeline (Dat)
open Cert.AttnRefIdeal.Read (val_main_v95 val_main_v96)
open scoped BigOperators Classical

variable (m : (ℓ : Loc nD τ sig) → Buf (Elt Ideal) ℓ) (c : Dev nD)

variable (r0 r1 : Cert.AttnRefIdeal.S32x2048x8x64.Idx → ℝ) (h0 : ∀ j, argQ m c j = (r0 j : EReal)) (h1 : ∀ j, argK m c j = (r1 j : EReal))
include h0 h1

/-- What a point leaves in its block of the sparse result. -/
theorem point_sparse (t : Fin cfg0.N) (z : Fin 1) (k : Fin 2048) (l : Fin 128) : (outsAt0 m c t).1 (ix3 z k l)
    = val_main_v95 (argQ m c) (argK m c) (argX m c) (ix3 (batch t) k (lane t l)) := by
  refine Eq.trans ?_ (v95_at _ _ _ r0 r1 h0 h1 (batch t) k (lane t l)).symm
  refine Eq.trans ?_ (sparse_eq (batch t) (duo t) r0 r1 _ (iblk m c 2 t) k l _ (by show ((duo t).val * 128 + l.val) / 64 = _; omega)
    fun k => (blk2 m c t k l).trans (v59_at m c _ _ _))
  unfold outsAt0
  dsimp only
  refine out_6 _ _ _ _ _ _ _ _ _ _ _ _ _ _ _ _ _ _ _ _ _ _ _ _ _ _ _ _ _ _ _ _ _ _ (ha := query_at m c r0 h0 t) (hb := key_at m c r1 h1 t) z k l

/-- The sparse result. -/
theorem arrAt_sparse : (dats m 0 c).arrAt 6 cfg0.N = val_main_v95 (argQ m c) (argK m c) (argX m c) := by
  refine (dats m 0 c).arrAt_eq_of_covers 6 _ (by decide +kernel) fun t hf y => ?_
  blk_simp
  rw [after0_6]
  idx_vars y
  exact (point_sparse m c r0 r1 h0 h1 t y0 y1 y2).trans (congrArg (val_main_v95 _ _ _) (blk6 t y1 y2 y0)).symm

end Cert.Attend

end
-- ==== Proof.Attn.LatentResult.lean ====
/-
  The latent result of the run: the reference's, entry by entry.
-/
module

public import proofs.«01_k».proof.Proof.Attn.Points
public import proofs.«01_k».proof.Proof.Attn.Block

@[expose] public section

set_option maxRecDepth 16384

noncomputable section

namespace Cert.Attend

open Idealize.ShloMosaic Idealize.ShloMosaic.TcCoe Idealize.SL.Sem Cert.AttnIdeal Cert.AttnIdeal.Gen
open Idealize.ShloMosaic.Pipeline (Dat)
open Cert.AttnRefIdeal.Read (val_main_v95 val_main_v96)
open scoped BigOperators Classical

variable (m : (ℓ : Loc nD τ sig) → Buf (Elt Ideal) ℓ) (c : Dev nD)

variable (r3 r5 : Cert.AttnRefIdeal.S32x2048x8x64.Idx → ℝ) (r4 : Cert.AttnRefIdeal.S32x2048x8x32.Idx → ℝ) (r6 : Cert.AttnRefIdeal.S32x2048x32.Idx → ℝ)
  (h3 : ∀ j, argQN m c j = (r3 j : EReal)) (h4 : ∀ j, argQR m c j = (r4 j : EReal))
  (h5 : ∀ j, argKN m c j = (r5 j : EReal)) (h6 : ∀ j, argKR m c j = (r6 j : EReal))
include h3 h4 h5 h6

/-- What a point leaves in its block of the latent result. -/
theorem point_latent (t : Fin cfg0.N) (z : Fin 1) (k : Fin 2048) (l : Fin 128) : (outsAt0 m c t).2 (ix3 z k l)
    = val_main_v96 (argQN m c) (argQR m c) (argKN m c) (argKR m c) (argY m c) (ix3 (batch t) k (lane t l)) := by
  refine Eq.trans ?_ (v96_at _ _ _ _ _ r3 r4 r5 r6 h3 h4 h5 h6 (batch t) k (lane t l)).symm
  refine Eq.trans ?_ (latent_eq (batch t) (duo t) r3 r4 r5 r6 _ (iblk m c 5 t) k l _ (by show ((duo t).val * 128 + l.val) / 64 = _; omega)
    fun k => (blk5 m c t k l).trans (v61_at m c _ _ _))
  unfold outsAt0
  dsimp only
  refine out_7 _ _ _ _ _ _ _ _ _ _ _ _ _ _ _ _ _ _ _ _ _ _ _ _ _ _ _ _ _ _ _ _ _ _ (ha := queryB_at m c r3 r4 h3 h4 t) (hb := keyB_at m c r5 r6 h5 h6 t) z k l

/-- The latent result. -/
theorem arrAt_latent : (dats m 0 c).arrAt 7 cfg0.N = val_main_v96 (argQN m c) (argQR m c) (argKN m c) (argKR m c) (argY m c) := by
  refine (dats m 0 c).arrAt_eq_of_covers 7 _ (by decide +kernel) fun t hf y => ?_
  blk_simp
  rw [after0_7]
  idx_vars y
  exact (point_latent m c r3 r5 r4 r6 h3 h4 h5 h6 t y0 y1 y2).trans (congrArg (val_main_v96 _ _ _ _ _) (blk7 t y1 y2 y0)).symm

end Cert.Attend

end
-- ==== Proof.Attn.Claims.lean ====
module

public import proofs.«01_k».proof.Defs
public import proofs.«01_k».proof.Proof.Gen.Attn.Frame
public import proofs.«01_k».proof.Proof.Gen.AttnRefIdeal.Run
public import proofs.«01_k».proof.Proof.Attn.Finite
public import proofs.«01_k».proof.Proof.Attn.SparseResult
public import proofs.«01_k».proof.Proof.Attn.LatentResult
public import Idealize.ShloMosaic.Adequacy
public import Idealize.ShloMosaic.Init

@[expose] public section

noncomputable section

/-! The claims about the attention call. -/

namespace Cert.Attend

open Idealize.ShloMosaic Idealize.SL.Sem

/-- The call's frame, as printed. -/
theorem frame_kernel [h : Cert.Attn.Facts] : Cert.quiescent_Attn := fun m ρ _ => Cert.Attn.Gen.frame m ρ

/-- The call's frame, idealized. -/
theorem frame_ideal [h : Cert.AttnIdeal.Facts] : Cert.quiescent_AttnIdeal := fun m ρ _ => Cert.AttnIdeal.Gen.frame m ρ

/-- The same, where the value claim's precondition holds. -/
theorem frame_ideal_finite [h : Cert.AttnIdeal.Facts] [h' : Cert.Pre_finite.Facts] : Cert.quiescent_AttnIdeal_pre_finite :=
  fun m ρ _ => Cert.AttnIdeal.Gen.frame m ρ

/-- The reference's frame, from its run. -/
theorem frame_reference [h : Cert.AttnRefIdeal.Facts] : Cert.quiescent_AttnRefIdeal := fun m ρ _ =>
  (θ_run Cert.AttnRefIdeal.defs _ _).mono (fun r h => ⟨fun c => (h c).2.2, Idealize.ShloMosaic.sem_eq_zero_of_no_sems (by decide) r.2⟩)
    (Cert.AttnRefIdeal.Value.run (F := Ideal) m ρ)

/-- The same, where the value claim's precondition holds. -/
theorem frame_reference_finite [h : Cert.AttnRefIdeal.Facts] [h' : Cert.Pre_finite.Facts] : Cert.quiescent_AttnRefIdeal_pre_finite :=
  fun m ρ _ => frame_reference m ρ trivial

/-- The mask is read as no weight at all. -/
theorem preserves : Cert.preserves_Attn_AttnIdeal := IdealRules.named_const.statement Cert.AttnIdeal.κ "mask" .f32 0xF149F2CA#32 ⊥ rfl

/-- On equal arguments, with finite queries and keys, the call and its reference leave equal results. -/
theorem algebraic [h : Cert.AttnIdeal.Facts] [h' : Cert.AttnRefIdeal.Facts] [hp : Cert.Pre_finite.Facts] :
    Cert.algebraic_AttnIdeal_AttnRefIdeal_pre_finite := by
  intro m ρ m' ρ' hpre hagree
  refine ⟨fun c => Cert.AttnRefIdeal.Read.val_main_v95 (argQ m c) (argK m c) (argX m c),
    fun c => Cert.AttnRefIdeal.Read.val_main_v96 (argQN m c) (argQR m c) (argKN m c) (argKR m c) (argY m c), ?_, ?_⟩
  · exact (θ_run Cert.AttnIdeal.defs _ _).mono (fun r h c =>
        ⟨(h c).1.trans (arrAt_sparse m c _ _ (argQ_real m hpre c) (argK_real m hpre c)),
          (h c).2.1.trans (arrAt_latent m c _ _ _ _ (argQN_real m hpre c) (argQR_real m hpre c) (argKN_real m hpre c) (argKR_real m hpre c)), (h c).2.2⟩)
      (Cert.AttnIdeal.Value.run_blocks (F := Ideal) m ρ)
  · refine (θ_run Cert.AttnRefIdeal.defs _ _).mono (fun r h c => ⟨(h c).1.trans ?_, (h c).2.1.trans ?_, (h c).2.2⟩)
      (Cert.AttnRefIdeal.Value.run (F := Ideal) m' ρ')
    · obtain ⟨h0, h1, h2, h3, h4, h5, h6, h7⟩ := hagree c
      rw [Cert.AttnRefIdeal.Read.val_main_v95_eq, h0, h1, h2]
      rfl
    · obtain ⟨h0, h1, h2, h3, h4, h5, h6, h7⟩ := hagree c
      rw [Cert.AttnRefIdeal.Read.val_main_v96_eq, h3, h4, h5, h6, h7]
      rfl

end Cert.Attend

end
-- ==== Proof.lean ====
module

public import proofs.«01_k».proof.Defs
public import proofs.«01_k».proof.Proof.Mlp.Claims
public import proofs.«01_k».proof.Proof.Mix.Claims
public import proofs.«01_k».proof.Proof.Attn.Claims
public import proofs.«01_k».proof.Proof.Gen.Pre_finite

@[expose] public section

noncomputable section

/-! The certificate: the feed-forward sub-layer, the gated merge and the attention call, each with its value. -/

namespace Cert.Proof

theorem claim : Cert.Claim :=
  ⟨Cert.Mlp.Gen.facts, Cert.MlpIdeal.Gen.facts, Cert.MlpRefIdeal.Gen.facts,
    Cert.Mix.Gen.facts, Cert.MixIdeal.Gen.facts, Cert.MixRefIdeal.Gen.facts,
    Cert.Attn.Gen.facts, Cert.AttnIdeal.Gen.facts, Cert.AttnRefIdeal.Gen.facts, Cert.Pre_finite.Gen.facts,
    Mlp.frame_kernel, Mlp.frame_ideal, Mlp.frame_reference, Mix.frame_kernel, Mix.frame_ideal, Mix.frame_reference,
    Attend.frame_kernel, Attend.frame_ideal, Attend.frame_ideal_finite, Attend.frame_reference, Attend.frame_reference_finite,
    Mlp.preserves, Mlp.algebraic, Mix.preserves, Mix.algebraic, Attend.preserves, Attend.algebraic⟩

end Cert.Proof

end
